-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "lr_unit" .f32 0xBB4F3E37#32 (((-1 / 10000) * (Real.sqrt (1 / 1000))⁻¹ : ℝ) : EReal)
  ∧ IdealRules.named_const.Statement Cert.KernelIdeal.κ "eps_unit" .f32 0x34A9C603#32 (((1 / 100000000) * (Real.sqrt (1 / 1000))⁻¹ : ℝ) : EReal)
  ∧ IdealRules.named_const.Statement Cert.KernelIdeal.κ "m_gain" .f32 0x41100000#32 ((9 : ℝ) : EReal)
  ∧ IdealRules.named_const.Statement Cert.KernelIdeal.κ "s_gain" .f32 0x41FCDB0F#32 ((Real.sqrt 999 : ℝ) : EReal)
  ∧ IdealRules.named_const.Statement Cert.KernelIdeal.κ "m_unit" .f32 0x3DCCCCCD#32 ((1 / 10 : ℝ) : EReal)
  ∧ IdealRules.named_const.Statement Cert.KernelIdeal.κ "s_unit" .f32 0x3D0186E2#32 ((Real.sqrt (1 / 1000) : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v17_2)) (v3 : (c : Dev Cert.KernelIdeal.nD) → Buf (Elt Ideal) ((c.tc : Thread Cert.KernelIdeal.nD Cert.KernelIdeal.τ).loc Cert.KernelIdeal.main_v17_3)) (v4 : (c : Dev Cert.KernelIdeal.nD) → Buf (Elt Ideal) ((c.tc : Thread Cert.KernelIdeal.nD Cert.KernelIdeal.τ).loc Cert.KernelIdeal.main_v17_4)) (v5 : (c : Dev Cert.KernelIdeal.nD) → Buf (Elt Ideal) ((c.tc : Thread Cert.KernelIdeal.nD Cert.KernelIdeal.τ).loc Cert.KernelIdeal.main_v17_5)) (v6 : (c : Dev Cert.KernelIdeal.nD) → Buf (Elt Ideal) ((c.tc : Thread Cert.KernelIdeal.nD Cert.KernelIdeal.τ).loc Cert.KernelIdeal.main_v17_6)) (v7 : (c : Dev Cert.KernelIdeal.nD) → Buf (Elt Ideal) ((c.tc : Thread Cert.KernelIdeal.nD Cert.KernelIdeal.τ).loc Cert.KernelIdeal.main_v17_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v17_2) = v2 c
          ∧ r.2.mem ((c.tc : Thread Cert.KernelIdeal.nD Cert.KernelIdeal.τ).loc Cert.KernelIdeal.main_v17_3) = v3 c
          ∧ r.2.mem ((c.tc : Thread Cert.KernelIdeal.nD Cert.KernelIdeal.τ).loc Cert.KernelIdeal.main_v17_4) = v4 c
          ∧ r.2.mem ((c.tc : Thread Cert.KernelIdeal.nD Cert.KernelIdeal.τ).loc Cert.KernelIdeal.main_v17_5) = v5 c
          ∧ r.2.mem ((c.tc : Thread Cert.KernelIdeal.nD Cert.KernelIdeal.τ).loc Cert.KernelIdeal.main_v17_6) = v6 c
          ∧ r.2.mem ((c.tc : Thread Cert.KernelIdeal.nD Cert.KernelIdeal.τ).loc Cert.KernelIdeal.main_v17_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11_0) = v0 c
          ∧ r.2.mem ((c.tc : Thread Cert.ReferenceIdeal.nD Cert.ReferenceIdeal.τ).loc Cert.ReferenceIdeal.main_v11_1) = v1 c
          ∧ r.2.mem ((c.tc : Thread Cert.ReferenceIdeal.nD Cert.ReferenceIdeal.τ).loc Cert.ReferenceIdeal.main_v11_2) = v2 c
          ∧ r.2.mem ((c.tc : Thread Cert.ReferenceIdeal.nD Cert.ReferenceIdeal.τ).loc Cert.ReferenceIdeal.main_v11_3) = v3 c
          ∧ r.2.mem ((c.tc : Thread Cert.ReferenceIdeal.nD Cert.ReferenceIdeal.τ).loc Cert.ReferenceIdeal.main_v11_4) = v4 c
          ∧ r.2.mem ((c.tc : Thread Cert.ReferenceIdeal.nD Cert.ReferenceIdeal.τ).loc Cert.ReferenceIdeal.main_v11_5) = v5 c
          ∧ r.2.mem ((c.tc : Thread Cert.ReferenceIdeal.nD Cert.ReferenceIdeal.τ).loc Cert.ReferenceIdeal.main_v11_6) = v6 c
          ∧ r.2.mem ((c.tc : Thread Cert.ReferenceIdeal.nD Cert.ReferenceIdeal.τ).loc Cert.ReferenceIdeal.main_v11_7) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S1x1792x7168 : Shape := ⟨3, ![1, 1792, 7168]⟩
abbrev S1x1792x2048 : Shape := ⟨3, ![1, 1792, 2048]⟩
abbrev S1x1792 : Shape := ⟨2, ![1, 1792]⟩
abbrev S7168x2048 : Shape := ⟨2, ![7168, 2048]⟩
abbrev S7168x16 : Shape := ⟨2, ![7168, 16]⟩
abbrev S_ : Shape := ⟨0, ![]⟩

class Facts : Prop where
  bitsLt_bf16_f32 : FTy.bits .bf16 < FTy.bits .f32
  bcast_S_S1x1792x7168 : S_.BroadcastsInDim S1x1792x7168 (![] : Fin 0 → Fin S1x1792x7168.rank)
  reducesTo_S1x1792x7168_S_d0_1_2 : S1x1792x7168.ReducesTo [0, 1, 2] S_
  h_S_ : 0 < S_.numel

variable [Facts]

def fn {F : FTy → Type} [FloatOps F] (main_arg0 : FVec F S1x1792x7168 .bf16) (main_arg1 : FVec F S1x1792x2048 .fp8e5m2) (main_arg2 : FVec F S1x1792 .f32) (main_arg3 : FVec F S7168x2048 .bf16) (main_arg4 : IVec S7168x2048 8) (main_arg5 : FVec F S7168x16 .f32) (main_arg6 : IVec S7168x2048 8) (main_arg7 : FVec F S7168x16 .f32) (main_arg8 : IVec S_ 32) : IVec S_ 1 :=
  let main_c : IVec S_ 32 := constantI S_ 32 1#32
  let main_v0 : IVec S_ 1 := cmpi .sge main_arg8 main_c
  let main_v1 : FVec F S1x1792x7168 .f32 := (extf .f32 · bitsLt_bf16_f32) main_arg0
  let main_v2 : FVec F S1x1792x7168 .f32 := Host.absf main_v1
  let main_cst : FVec F S_ .f32 := constant S_ .f32 0x7F7F0000#32
  let main_v3 : FVec F S1x1792x7168 .f32 := broadcastInDim S1x1792x7168 ![] bcast_S_S1x1792x7168 main_cst
  let main_v4 : IVec S1x1792x7168 1 := cmpf .ole main_v2 main_v3
  let main_c_0 : IVec S_ 1 := constantI S_ 1 1#1
  let main_v5 : IVec S_ 1 := (fun x v => Host.reduce IntOp.andi x v reducesTo_S1x1792x7168_S_d0_1_2 h_S_) main_v4 main_c_0
  let main_v6 : IVec S_ 1 := andi main_v0 main_v5
  main_v6
-- ==== Kernel.lean ====
abbrev S1x1792x7168 : Shape := ⟨3, ![1, 1792, 7168]⟩
abbrev S1x1792x2048 : Shape := ⟨3, ![1, 1792, 2048]⟩
abbrev S1x1792 : Shape := ⟨2, ![1, 1792]⟩
abbrev S7168x2048 : Shape := ⟨2, ![7168, 2048]⟩
abbrev S7168x16 : Shape := ⟨2, ![7168, 16]⟩
abbrev S_ : Shape := ⟨0, ![]⟩
abbrev S1 : Shape := ⟨1, ![1]⟩
abbrev S2 : Shape := ⟨1, ![2]⟩
abbrev S1792x7168 : Shape := ⟨2, ![1792, 7168]⟩
abbrev S1792x2048 : Shape := ⟨2, ![1792, 2048]⟩
abbrev S16x7168 : Shape := ⟨2, ![16, 7168]⟩
abbrev S256x7168 : Shape := ⟨2, ![256, 7168]⟩
abbrev S256x2048 : Shape := ⟨2, ![256, 2048]⟩
abbrev S512x2048 : Shape := ⟨2, ![512, 2048]⟩
abbrev S16x512 : Shape := ⟨2, ![16, 512]⟩
abbrev S14x1792x512 : Shape := ⟨3, ![14, 1792, 512]⟩
abbrev S2048x1792 : Shape := ⟨2, ![2048, 1792]⟩
abbrev S32x7168 : Shape := ⟨2, ![32, 7168]⟩
abbrev S32 : Shape := ⟨1, ![32]⟩
abbrev S32x1 : Shape := ⟨2, ![32, 1]⟩
abbrev S32x512 : Shape := ⟨2, ![32, 512]⟩
abbrev S1x32x512 : Shape := ⟨3, ![1, 32, 512]⟩
abbrev S32x128 : Shape := ⟨2, ![32, 128]⟩
abbrev S128x128 : Shape := ⟨2, ![128, 128]⟩
abbrev S1x128 : Shape := ⟨2, ![1, 128]⟩
abbrev S256x1792 : Shape := ⟨2, ![256, 1792]⟩
abbrev S1x1792x512 : Shape := ⟨3, ![1, 1792, 512]⟩
abbrev S1792x512 : Shape := ⟨2, ![1792, 512]⟩
abbrev S256x512 : Shape := ⟨2, ![256, 512]⟩
abbrev S128 : Shape := ⟨1, ![128]⟩

abbrev nBuf : Space → Nat
  | .hbm => 41
  | .vmem => 32
  | .smem => 1
  | _ => 0

abbrev bufTy : (tb : Table) → Fin (tcTables nBuf tb) → BufTy
  | .hbm, ⟨0, _⟩ => ⟨S1x1792x7168, .bf16⟩
  | .hbm, ⟨1, _⟩ => ⟨S1x1792x2048, .fp8e5m2⟩
  | .hbm, ⟨2, _⟩ => ⟨S1x1792, .f32⟩
  | .hbm, ⟨3, _⟩ => ⟨S7168x2048, .bf16⟩
  | .hbm, ⟨4, _⟩ => ⟨S7168x2048, .i8⟩
  | .hbm, ⟨5, _⟩ => ⟨S7168x16, .f32⟩
  | .hbm, ⟨6, _⟩ => ⟨S7168x2048, .i8⟩
  | .hbm, ⟨7, _⟩ => ⟨S7168x16, .f32⟩
  | .hbm, ⟨8, _⟩ => ⟨S_, .i32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1, .f32⟩
  | .hbm, ⟨27, _⟩ => ⟨S1, .f32⟩
  | .hbm, ⟨28, _⟩ => ⟨S2, .f32⟩
  | .hbm, ⟨29, _⟩ => ⟨S1792x7168, .bf16⟩
  | .hbm, ⟨30, _⟩ => ⟨S1792x2048, .fp8e5m2⟩
  | .hbm, ⟨31, _⟩ => ⟨S16x7168, .f32⟩
  | .hbm, ⟨32, _⟩ => ⟨S16x7168, .f32⟩
  | .hbm, ⟨33, _⟩ => ⟨S7168x2048, .bf16⟩
  | .hbm, ⟨34, _⟩ => ⟨S7168x2048, .f32⟩
  | .hbm, ⟨35, _⟩ => ⟨S1792x7168, .fp8e4m3⟩
  | .hbm, ⟨36, _⟩ => ⟨S1x1792, .f32⟩
  | .hbm, ⟨37, _⟩ => ⟨S7168x2048, .i8⟩
  | .hbm, ⟨38, _⟩ => ⟨S16x7168, .f32⟩
  | .hbm, ⟨39, _⟩ => ⟨S7168x2048, .i8⟩
  | .hbm, ⟨40, _⟩ => ⟨S16x7168, .f32⟩
  | .local _ .vmem, ⟨0, _⟩ => ⟨S256x7168, .bf16⟩
  | .local _ .vmem, ⟨1, _⟩ => ⟨S256x7168, .bf16⟩
  | .local _ .vmem, ⟨2, _⟩ => ⟨S256x2048, .fp8e5m2⟩
  | .local _ .vmem, ⟨3, _⟩ => ⟨S256x2048, .fp8e5m2⟩
  | .local _ .vmem, ⟨4, _⟩ => ⟨S1x1792, .f32⟩
  | .local _ .vmem, ⟨5, _⟩ => ⟨S512x2048, .bf16⟩
  | .local _ .vmem, ⟨6, _⟩ => ⟨S512x2048, .bf16⟩
  | .local _ .vmem, ⟨7, _⟩ => ⟨S512x2048, .i8⟩
  | .local _ .vmem, ⟨8, _⟩ => ⟨S512x2048, .i8⟩
  | .local _ .vmem, ⟨9, _⟩ => ⟨S16x512, .f32⟩
  | .local _ .vmem, ⟨10, _⟩ => ⟨S16x512, .f32⟩
  | .local _ .vmem, ⟨11, _⟩ => ⟨S512x2048, .i8⟩
  | .local _ .vmem, ⟨12, _⟩ => ⟨S512x2048, .i8⟩
  | .local _ .vmem, ⟨13, _⟩ => ⟨S16x512, .f32⟩
  | .local _ .vmem, ⟨14, _⟩ => ⟨S16x512, .f32⟩
  | .local _ .vmem, ⟨15, _⟩ => ⟨S512x2048, .bf16⟩
  | .local _ .vmem, ⟨16, _⟩ => ⟨S512x2048, .bf16⟩
  | .local _ .vmem, ⟨17, _⟩ => ⟨S512x2048, .f32⟩
  | .local _ .vmem, ⟨18, _⟩ => ⟨S512x2048, .f32⟩
  | .local _ .vmem, ⟨19, _⟩ => ⟨S256x7168, .fp8e4m3⟩
  | .local _ .vmem, ⟨20, _⟩ => ⟨S256x7168, .fp8e4m3⟩
  | .local _ .vmem, ⟨21, _⟩ => ⟨S1x1792, .f32⟩
  | .local _ .vmem, ⟨22, _⟩ => ⟨S512x2048, .i8⟩
  | .local _ .vmem, ⟨23, _⟩ => ⟨S512x2048, .i8⟩
  | .local _ .vmem, ⟨24, _⟩ => ⟨S16x512, .f32⟩
  | .local _ .vmem, ⟨25, _⟩ => ⟨S16x512, .f32⟩
  | .local _ .vmem, ⟨26, _⟩ => ⟨S512x2048, .i8⟩
  | .local _ .vmem, ⟨27, _⟩ => ⟨S512x2048, .i8⟩
  | .local _ .vmem, ⟨28, _⟩ => ⟨S16x512, .f32⟩
  | .local _ .vmem, ⟨29, _⟩ => ⟨S16x512, .f32⟩
  | .local _ .vmem, ⟨30, _⟩ => ⟨S14x1792x512, .fp8e4m3⟩
  | .local _ .vmem, ⟨31, _⟩ => ⟨S2048x1792, .bf16⟩
  | .local _ .smem, ⟨0, _⟩ => ⟨S2, .f32⟩
  | _, _ => ⟨S1x1792x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_cst_2 : Ref sig .tc := ⟨.hbm, 16, rfl⟩
abbrev main_v4 : Ref sig .tc := ⟨.hbm, 17, rfl⟩
abbrev main_cst_3 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_4 : Ref sig .tc := ⟨.hbm, 22, rfl⟩
abbrev main_v8 : Ref sig .tc := ⟨.hbm, 23, rfl⟩
abbrev main_cst_5 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17_0 : Ref sig .tc := ⟨.hbm, 33, rfl⟩
abbrev main_v17_1 : Ref sig .tc := ⟨.hbm, 34, rfl⟩
abbrev main_v17_2 : Ref sig .tc := ⟨.hbm, 35, rfl⟩
abbrev main_v17_3 : Ref sig .tc := ⟨.hbm, 36, rfl⟩
abbrev main_v17_4 : Ref sig .tc := ⟨.hbm, 37, rfl⟩
abbrev main_v17_5 : Ref sig .tc := ⟨.hbm, 38, rfl⟩
abbrev main_v17_6 : Ref sig .tc := ⟨.hbm, 39, rfl⟩
abbrev main_v17_7 : Ref sig .tc := ⟨.hbm, 40, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_scratch0 : Ref sig .tc := ⟨.vmem, 30, rfl⟩
abbrev cc0_scratch1 : Ref sig .tc := ⟨.vmem, 31, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨1, ![21], ![false]⟩

def k0_cond1 (i : grid0.Coords) : BitVec 1 :=
  let arg0 : BitVec 32 := BitVec.ofNat 32 (i 0).val
  let c7_i32 : BitVec 32 := 7#32
  let v0 : BitVec 1 := Scalar.cmpi .slt arg0 c7_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c256_i32 : BitVec 32 := 256#32
  let v6 : BitVec 32 := Scalar.muli arg0 c256_i32
  v6
def k0_off1 (i : grid0.Coords) (c0_i32_18 : BitVec 32) (c0_i32_19 : BitVec 32) : Fin 3 → Nat :=
  let c0_20 : Index := 0#32
  let arg0 : BitVec 32 := BitVec.ofNat 32 (i 0).val
  let c256_i32 : BitVec 32 := 256#32
  let v6 : BitVec 32 := Scalar.muli arg0 c256_i32
  let v7 : BitVec 32 := v6
  let v97 : BitVec 32 := Scalar.addi v7 c0_i32_18
  let v98 : BitVec 32 := Scalar.addi v97 c0_i32_19
  let v99 : Index := Scalar.indexCast v98
  let c0_21 : Index := 0#32
  ![0, v99.toNat, 0]
def k0_off2 (i : grid0.Coords) (c0_i32_22 : BitVec 32) (c0_i32_23 : BitVec 32) : Fin 3 → Nat :=
  let c1 : Index := 1#32
  let arg0 : BitVec 32 := BitVec.ofNat 32 (i 0).val
  let c256_i32 : BitVec 32 := 256#32
  let v6 : BitVec 32 := Scalar.muli arg0 c256_i32
  let v7 : BitVec 32 := v6
  let v104 : BitVec 32 := Scalar.addi v7 c0_i32_22
  let v105 : BitVec 32 := Scalar.addi v104 c0_i32_23
  let v106 : Index := Scalar.indexCast v105
  let c0_24 : Index := 0#32
  ![1, v106.toNat, 0]
def k0_off3 (i : grid0.Coords) (c0_i32_25 : BitVec 32) (c0_i32_26 : BitVec 32) : Fin 3 → Nat :=
  let c2 : Index := 2#32
  let arg0 : BitVec 32 := BitVec.ofNat 32 (i 0).val
  let c256_i32 : BitVec 32 := 256#32
  let v6 : BitVec 32 := Scalar.muli arg0 c256_i32
  let v7 : BitVec 32 := v6
  let v111 : BitVec 32 := Scalar.addi v7 c0_i32_25
  let v112 : BitVec 32 := Scalar.addi v111 c0_i32_26
  let v113 : Index := Scalar.indexCast v112
  let c0_27 : Index := 0#32
  ![2, v113.toNat, 0]
def k0_off4 (i : grid0.Coords) (c0_i32_28 : BitVec 32) (c0_i32_29 : BitVec 32) : Fin 3 → Nat :=
  let c3 : Index := 3#32
  let arg0 : BitVec 32 := BitVec.ofNat 32 (i 0).val
  let c256_i32 : BitVec 32 := 256#32
  let v6 : BitVec 32 := Scalar.muli arg0 c256_i32
  let v7 : BitVec 32 := v6
  let v118 : BitVec 32 := Scalar.addi v7 c0_i32_28
  let v119 : BitVec 32 := Scalar.addi v118 c0_i32_29
  let v120 : Index := Scalar.indexCast v119
  let c0_30 : Index := 0#32
  ![3, v120.toNat, 0]
def k0_off5 (i : grid0.Coords) (c0_i32_31 : BitVec 32) (c0_i32_32 : BitVec 32) : Fin 3 → Nat :=
  let c4 : Index := 4#32
  let arg0 : BitVec 32 := BitVec.ofNat 32 (i 0).val
  let c256_i32 : BitVec 32 := 256#32
  let v6 : BitVec 32 := Scalar.muli arg0 c256_i32
  let v7 : BitVec 32 := v6
  let v125 : BitVec 32 := Scalar.addi v7 c0_i32_31
  let v126 : BitVec 32 := Scalar.addi v125 c0_i32_32
  let v127 : Index := Scalar.indexCast v126
  let c0_33 : Index := 0#32
  ![4, v127.toNat, 0]
def k0_off6 (i : grid0.Coords) (c0_i32_34 : BitVec 32) (c0_i32_35 : BitVec 32) : Fin 3 → Nat :=
  let c5 : Index := 5#32
  let arg0 : BitVec 32 := BitVec.ofNat 32 (i 0).val
  let c256_i32 : BitVec 32 := 256#32
  let v6 : BitVec 32 := Scalar.muli arg0 c256_i32
  let v7 : BitVec 32 := v6
  let v132 : BitVec 32 := Scalar.addi v7 c0_i32_34
  let v133 : BitVec 32 := Scalar.addi v132 c0_i32_35
  let v134 : Index := Scalar.indexCast v133
  let c0_36 : Index := 0#32
  ![5, v134.toNat, 0]
def k0_off7 (i : grid0.Coords) (c0_i32_37 : BitVec 32) (c0_i32_38 : BitVec 32) : Fin 3 → Nat :=
  let c6 : Index := 6#32
  let arg0 : BitVec 32 := BitVec.ofNat 32 (i 0).val
  let c256_i32 : BitVec 32 := 256#32
  let v6 : BitVec 32 := Scalar.muli arg0 c256_i32
  let v7 : BitVec 32 := v6
  let v139 : BitVec 32 := Scalar.addi v7 c0_i32_37
  let v140 : BitVec 32 := Scalar.addi v139 c0_i32_38
  let v141 : Index := Scalar.indexCast v140
  let c0_39 : Index := 0#32
  ![6, v141.toNat, 0]
def k0_off8 (i : grid0.Coords) (c0_i32_40 : BitVec 32) (c0_i32_41 : BitVec 32) : Fin 3 → Nat :=
  let c7 : Index := 7#32
  let arg0 : BitVec 32 := BitVec.ofNat 32 (i 0).val
  let c256_i32 : BitVec 32 := 256#32
  let v6 : BitVec 32 := Scalar.muli arg0 c256_i32
  let v7 : BitVec 32 := v6
  let v146 : BitVec 32 := Scalar.addi v7 c0_i32_40
  let v147 : BitVec 32 := Scalar.addi v146 c0_i32_41
  let v148 : Index := Scalar.indexCast v147
  let c0_42 : Index := 0#32
  ![7, v148.toNat, 0]
def k0_off9 (i : grid0.Coords) (c0_i32_43 : BitVec 32) (c0_i32_44 : BitVec 32) : Fin 3 → Nat :=
  let c8 : Index := 8#32
  let arg0 : BitVec 32 := BitVec.ofNat 32 (i 0).val
  let c256_i32 : BitVec 32 := 256#32
  let v6 : BitVec 32 := Scalar.muli arg0 c256_i32
  let v7 : BitVec 32 := v6
  let v153 : BitVec 32 := Scalar.addi v7 c0_i32_43
  let v154 : BitVec 32 := Scalar.addi v153 c0_i32_44
  let v155 : Index := Scalar.indexCast v154
  let c0_45 : Index := 0#32
  ![8, v155.toNat, 0]
def k0_off10 (i : grid0.Coords) (c0_i32_46 : BitVec 32) (c0_i32_47 : BitVec 32) : Fin 3 → Nat :=
  let c9 : Index := 9#32
  let arg0 : BitVec 32 := BitVec.ofNat 32 (i 0).val
  let c256_i32 : BitVec 32 := 256#32
  let v6 : BitVec 32 := Scalar.muli arg0 c256_i32
  let v7 : BitVec 32 := v6
  let v160 : BitVec 32 := Scalar.addi v7 c0_i32_46
  let v161 : BitVec 32 := Scalar.addi v160 c0_i32_47
  let v162 : Index := Scalar.indexCast v161
  let c0_48 : Index := 0#32
  ![9, v162.toNat, 0]
def k0_off11 (i : grid0.Coords) (c0_i32_49 : BitVec 32) (c0_i32_50 : BitVec 32) : Fin 3 → Nat :=
  let c10 : Index := 10#32
  let arg0 : BitVec 32 := BitVec.ofNat 32 (i 0).val
  let c256_i32 : BitVec 32 := 256#32
  let v6 : BitVec 32 := Scalar.muli arg0 c256_i32
  let v7 : BitVec 32 := v6
  let v167 : BitVec 32 := Scalar.addi v7 c0_i32_49
  let v168 : BitVec 32 := Scalar.addi v167 c0_i32_50
  let v169 : Index := Scalar.indexCast v168
  let c0_51 : Index := 0#32
  ![10, v169.toNat, 0]
def k0_off12 (i : grid0.Coords) (c0_i32_52 : BitVec 32) (c0_i32_53 : BitVec 32) : Fin 3 → Nat :=
  let c11 : Index := 11#32
  let arg0 : BitVec 32 := BitVec.ofNat 32 (i 0).val
  let c256_i32 : BitVec 32 := 256#32
  let v6 : BitVec 32 := Scalar.muli arg0 c256_i32
  let v7 : BitVec 32 := v6
  let v174 : BitVec 32 := Scalar.addi v7 c0_i32_52
  let v175 : BitVec 32 := Scalar.addi v174 c0_i32_53
  let v176 : Index := Scalar.indexCast v175
  let c0_54 : Index := 0#32
  ![11, v176.toNat, 0]
def k0_off13 (i : grid0.Coords) (c0_i32_55 : BitVec 32) (c0_i32_56 : BitVec 32) : Fin 3 → Nat :=
  let c12 : Index := 12#32
  let arg0 : BitVec 32 := BitVec.ofNat 32 (i 0).val
  let c256_i32 : BitVec 32 := 256#32
  let v6 : BitVec 32 := Scalar.muli arg0 c256_i32
  let v7 : BitVec 32 := v6
  let v181 : BitVec 32 := Scalar.addi v7 c0_i32_55
  let v182 : BitVec 32 := Scalar.addi v181 c0_i32_56
  let v183 : Index := Scalar.indexCast v182
  let c0_57 : Index := 0#32
  ![12, v183.toNat, 0]
def k0_off14 (i : grid0.Coords) (c0_i32_58 : BitVec 32) (c0_i32_59 : BitVec 32) : Fin 3 → Nat :=
  let c13 : Index := 13#32
  let arg0 : BitVec 32 := BitVec.ofNat 32 (i 0).val
  let c256_i32 : BitVec 32 := 256#32
  let v6 : BitVec 32 := Scalar.muli arg0 c256_i32
  let v7 : BitVec 32 := v6
  let v188 : BitVec 32 := Scalar.addi v7 c0_i32_58
  let v189 : BitVec 32 := Scalar.addi v188 c0_i32_59
  let v190 : Index := Scalar.indexCast v189
  let c0_60 : Index := 0#32
  ![13, v190.toNat, 0]
def k0_off15 (i : grid0.Coords) (c0_i32_338 : BitVec 32) : Fin 2 → Nat :=
  let c0_339 : Index := 0#32
  let arg0 : BitVec 32 := BitVec.ofNat 32 (i 0).val
  let c256_i32 : BitVec 32 := 256#32
  let v6 : BitVec 32 := Scalar.muli arg0 c256_i32
  let v7 : BitVec 32 := v6
  let v834 : BitVec 32 := Scalar.addi v7 c0_i32_338
  let v835 : Index := Scalar.indexCast v834
  ![0, v835.toNat]
def k0_off16 (i : grid0.Coords) (c0_i32_338 : BitVec 32) : Fin 2 → Nat :=
  let c0_343 : Index := 0#32
  let arg0 : BitVec 32 := BitVec.ofNat 32 (i 0).val
  let c256_i32 : BitVec 32 := 256#32
  let v6 : BitVec 32 := Scalar.muli arg0 c256_i32
  let v7 : BitVec 32 := v6
  let v834 : BitVec 32 := Scalar.addi v7 c0_i32_338
  let v849 : Index := Scalar.indexCast v834
  ![0, v849.toNat]
def k0_off17 (i : grid0.Coords) (c0_i32_338 : BitVec 32) : Fin 2 → Nat :=
  let c128_345 : Index := 128#32
  let arg0 : BitVec 32 := BitVec.ofNat 32 (i 0).val
  let c256_i32 : BitVec 32 := 256#32
  let v6 : BitVec 32 := Scalar.muli arg0 c256_i32
  let v7 : BitVec 32 := v6
  let v834 : BitVec 32 := Scalar.addi v7 c0_i32_338
  let v861 : Index := Scalar.indexCast v834
  ![128, v861.toNat]
def k0_off18 (i : grid0.Coords) (c0_i32_338 : BitVec 32) : Fin 2 → Nat :=
  let c256_347 : Index := 256#32
  let arg0 : BitVec 32 := BitVec.ofNat 32 (i 0).val
  let c256_i32 : BitVec 32 := 256#32
  let v6 : BitVec 32 := Scalar.muli arg0 c256_i32
  let v7 : BitVec 32 := v6
  let v834 : BitVec 32 := Scalar.addi v7 c0_i32_338
  let v873 : Index := Scalar.indexCast v834
  ![256, v873.toNat]
def k0_off19 (i : grid0.Coords) (c0_i32_338 : BitVec 32) : Fin 2 → Nat :=
  let c384_349 : Index := 384#32
  let arg0 : BitVec 32 := BitVec.ofNat 32 (i 0).val
  let c256_i32 : BitVec 32 := 256#32
  let v6 : BitVec 32 := Scalar.muli arg0 c256_i32
  let v7 : BitVec 32 := v6
  let v834 : BitVec 32 := Scalar.addi v7 c0_i32_338
  let v885 : Index := Scalar.indexCast v834
  ![384, v885.toNat]
def k0_off20 (i : grid0.Coords) (c0_i32_338 : BitVec 32) : Fin 2 → Nat :=
  let c512_351 : Index := 512#32
  let arg0 : BitVec 32 := BitVec.ofNat 32 (i 0).val
  let c256_i32 : BitVec 32 := 256#32
  let v6 : BitVec 32 := Scalar.muli arg0 c256_i32
  let v7 : BitVec 32 := v6
  let v834 : BitVec 32 := Scalar.addi v7 c0_i32_338
  let v897 : Index := Scalar.indexCast v834
  ![512, v897.toNat]
def k0_off21 (i : grid0.Coords) (c0_i32_338 : BitVec 32) : Fin 2 → Nat :=
  let c640_353 : Index := 640#32
  let arg0 : BitVec 32 := BitVec.ofNat 32 (i 0).val
  let c256_i32 : BitVec 32 := 256#32
  let v6 : BitVec 32 := Scalar.muli arg0 c256_i32
  let v7 : BitVec 32 := v6
  let v834 : BitVec 32 := Scalar.addi v7 c0_i32_338
  let v909 : Index := Scalar.indexCast v834
  ![640, v909.toNat]
def k0_off22 (i : grid0.Coords) (c0_i32_338 : BitVec 32) : Fin 2 → Nat :=
  let c768_355 : Index := 768#32
  let arg0 : BitVec 32 := BitVec.ofNat 32 (i 0).val
  let c256_i32 : BitVec 32 := 256#32
  let v6 : BitVec 32 := Scalar.muli arg0 c256_i32
  let v7 : BitVec 32 := v6
  let v834 : BitVec 32 := Scalar.addi v7 c0_i32_338
  let v921 : Index := Scalar.indexCast v834
  ![768, v921.toNat]
def k0_off23 (i : grid0.Coords) (c0_i32_338 : BitVec 32) : Fin 2 → Nat :=
  let c896_357 : Index := 896#32
  let arg0 : BitVec 32 := BitVec.ofNat 32 (i 0).val
  let c256_i32 : BitVec 32 := 256#32
  let v6 : BitVec 32 := Scalar.muli arg0 c256_i32
  let v7 : BitVec 32 := v6
  let v834 : BitVec 32 := Scalar.addi v7 c0_i32_338
  let v933 : Index := Scalar.indexCast v834
  ![896, v933.toNat]
def k0_off24 (i : grid0.Coords) (c0_i32_338 : BitVec 32) : Fin 2 → Nat :=
  let c1024_359 : Index := 1024#32
  let arg0 : BitVec 32 := BitVec.ofNat 32 (i 0).val
  let c256_i32 : BitVec 32 := 256#32
  let v6 : BitVec 32 := Scalar.muli arg0 c256_i32
  let v7 : BitVec 32 := v6
  let v834 : BitVec 32 := Scalar.addi v7 c0_i32_338
  let v945 : Index := Scalar.indexCast v834
  ![1024, v945.toNat]
def k0_off25 (i : grid0.Coords) (c0_i32_338 : BitVec 32) : Fin 2 → Nat :=
  let c1152_361 : Index := 1152#32
  let arg0 : BitVec 32 := BitVec.ofNat 32 (i 0).val
  let c256_i32 : BitVec 32 := 256#32
  let v6 : BitVec 32 := Scalar.muli arg0 c256_i32
  let v7 : BitVec 32 := v6
  let v834 : BitVec 32 := Scalar.addi v7 c0_i32_338
  let v957 : Index := Scalar.indexCast v834
  ![1152, v957.toNat]
def k0_off26 (i : grid0.Coords) (c0_i32_338 : BitVec 32) : Fin 2 → Nat :=
  let c1280_363 : Index := 1280#32
  let arg0 : BitVec 32 := BitVec.ofNat 32 (i 0).val
  let c256_i32 : BitVec 32 := 256#32
  let v6 : BitVec 32 := Scalar.muli arg0 c256_i32
  let v7 : BitVec 32 := v6
  let v834 : BitVec 32 := Scalar.addi v7 c0_i32_338
  let v969 : Index := Scalar.indexCast v834
  ![1280, v969.toNat]
def k0_off27 (i : grid0.Coords) (c0_i32_338 : BitVec 32) : Fin 2 → Nat :=
  let c1408_365 : Index := 1408#32
  let arg0 : BitVec 32 := BitVec.ofNat 32 (i 0).val
  let c256_i32 : BitVec 32 := 256#32
  let v6 : BitVec 32 := Scalar.muli arg0 c256_i32
  let v7 : BitVec 32 := v6
  let v834 : BitVec 32 := Scalar.addi v7 c0_i32_338
  let v981 : Index := Scalar.indexCast v834
  ![1408, v981.toNat]
def k0_off28 (i : grid0.Coords) (c0_i32_338 : BitVec 32) : Fin 2 → Nat :=
  let c1536_367 : Index := 1536#32
  let arg0 : BitVec 32 := BitVec.ofNat 32 (i 0).val
  let c256_i32 : BitVec 32 := 256#32
  let v6 : BitVec 32 := Scalar.muli arg0 c256_i32
  let v7 : BitVec 32 := v6
  let v834 : BitVec 32 := Scalar.addi v7 c0_i32_338
  let v993 : Index := Scalar.indexCast v834
  ![1536, v993.toNat]
def k0_off29 (i : grid0.Coords) (c0_i32_338 : BitVec 32) : Fin 2 → Nat :=
  let c1664_369 : Index := 1664#32
  let arg0 : BitVec 32 := BitVec.ofNat 32 (i 0).val
  let c256_i32 : BitVec 32 := 256#32
  let v6 : BitVec 32 := Scalar.muli arg0 c256_i32
  let v7 : BitVec 32 := v6
  let v834 : BitVec 32 := Scalar.addi v7 c0_i32_338
  let v1005 : Index := Scalar.indexCast v834
  ![1664, v1005.toNat]
def k0_off30 (i : grid0.Coords) (c0_i32_338 : BitVec 32) : Fin 2 → Nat :=
  let c1792_371 : Index := 1792#32
  let arg0 : BitVec 32 := BitVec.ofNat 32 (i 0).val
  let c256_i32 : BitVec 32 := 256#32
  let v6 : BitVec 32 := Scalar.muli arg0 c256_i32
  let v7 : BitVec 32 := v6
  let v834 : BitVec 32 := Scalar.addi v7 c0_i32_338
  let v1017 : Index := Scalar.indexCast v834
  ![1792, v1017.toNat]
def k0_off31 (i : grid0.Coords) (c0_i32_338 : BitVec 32) : Fin 2 → Nat :=
  let c1920_373 : Index := 1920#32
  let arg0 : BitVec 32 := BitVec.ofNat 32 (i 0).val
  let c256_i32 : BitVec 32 := 256#32
  let v6 : BitVec 32 := Scalar.muli arg0 c256_i32
  let v7 : BitVec 32 := v6
  let v834 : BitVec 32 := Scalar.addi v7 c0_i32_338
  let v1029 : Index := Scalar.indexCast v834
  ![1920, v1029.toNat]
def k0_cond2 (i : grid0.Coords) : BitVec 1 :=
  let arg0 : BitVec 32 := BitVec.ofNat 32 (i 0).val
  let c7_i32_0 : BitVec 32 := 7#32
  let v3 : BitVec 1 := Scalar.cmpi .sge arg0 c7_i32_0
  let v4 : BitVec 32 := Scalar.extui v3
  let c0_i32_1 : BitVec 32 := 0#32
  let v5 : BitVec 1 := Scalar.cmpi .ne v4 c0_i32_1
  v5

def k0_off32 (i : grid0.Coords) : Fin 3 → Nat :=
  let arg0 : BitVec 32 := BitVec.ofNat 32 (i 0).val
  let c7_i32_2 : BitVec 32 := 7#32
  let v6 : BitVec 32 := Scalar.subi arg0 c7_i32_2
  let v12 : Index := Scalar.indexCast v6
  let c0_6 : Index := 0#32
  let c0_7 : Index := 0#32
  ![v12.toNat, 0, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c6_i32 : BitVec 32 := 6#32
  let v0 : BitVec 32 := Scalar.minsi arg0 c6_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c6_i32 : BitVec 32 := 6#32
  let v0 : BitVec 32 := Scalar.minsi arg0 c6_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c7_i32 : BitVec 32 := 7#32
  let v0 : BitVec 32 := Scalar.subi arg0 c7_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c7_i32 : BitVec 32 := 7#32
  let v0 : BitVec 32 := Scalar.subi arg0 c7_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c7_i32 : BitVec 32 := 7#32
  let v0 : BitVec 32 := Scalar.subi arg0 c7_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let c7_i32 : BitVec 32 := 7#32
  let v0 : BitVec 32 := Scalar.subi arg0 c7_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c7_i32 : BitVec 32 := 7#32
  let v0 : BitVec 32 := Scalar.subi arg0 c7_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_9 (i : grid0.Coords) : Fin 2 → Nat :=
  let arg0 : BitVec 32 := BitVec.ofNat 32 (i 0).val
  let c7_i32 : BitVec 32 := 7#32
  let v0 : BitVec 32 := Scalar.subi arg0 c7_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c7_i32 : BitVec 32 := 7#32
  let v0 : BitVec 32 := Scalar.subi arg0 c7_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c6_i32 : BitVec 32 := 6#32
  let v0 : BitVec 32 := Scalar.minsi arg0 c6_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c7_i32 : BitVec 32 := 7#32
  let v0 : BitVec 32 := Scalar.subi arg0 c7_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_14 (i : grid0.Coords) : Fin 2 → Nat :=
  let arg0 : BitVec 32 := BitVec.ofNat 32 (i 0).val
  let c7_i32 : BitVec 32 := 7#32
  let v0 : BitVec 32 := Scalar.subi arg0 c7_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_15 (i : grid0.Coords) : Fin 2 → Nat :=
  let arg0 : BitVec 32 := BitVec.ofNat 32 (i 0).val
  let c7_i32 : BitVec 32 := 7#32
  let v0 : BitVec 32 := Scalar.subi arg0 c7_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_16 (i : grid0.Coords) : Fin 2 → Nat :=
  let arg0 : BitVec 32 := BitVec.ofNat 32 (i 0).val
  let c7_i32 : BitVec 32 := 7#32
  let v0 : BitVec 32 := Scalar.subi arg0 c7_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x7168 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1792 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x2048 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .i8 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S16x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== KernelIdeal.lean ====
variable {F : FTy → Type} [FloatOps F] [Named F]
def κ : String → Option EReal := fun
  | "eps_unit" => some (((1 / 100000000) * (Real.sqrt (1 / 1000))⁻¹ : ℝ) : EReal)
  | "lr_unit" => some (((-1 / 10000) * (Real.sqrt (1 / 1000))⁻¹ : ℝ) : EReal)
  | "m_gain" => some ((9 : ℝ) : EReal)
  | "m_unit" => some ((1 / 10 : ℝ) : EReal)
  | "s_gain" => some ((Real.sqrt 999 : ℝ) : EReal)
  | "s_unit" => some ((Real.sqrt (1 / 1000) : ℝ) : EReal)
  | _ => none
-- ==== ReferenceIdeal.lean ====
abbrev S1x1792x7168 : Shape := ⟨3, ![1, 1792, 7168]⟩
abbrev S1x1792x2048 : Shape := ⟨3, ![1, 1792, 2048]⟩
abbrev S1x1792 : Shape := ⟨2, ![1, 1792]⟩
abbrev S7168x2048 : Shape := ⟨2, ![7168, 2048]⟩
abbrev S7168x16 : Shape := ⟨2, ![7168, 16]⟩
abbrev S_ : Shape := ⟨0, ![]⟩
abbrev S1 : Shape := ⟨1, ![1]⟩
abbrev S2 : Shape := ⟨1, ![2]⟩
abbrev S1792x7168 : Shape := ⟨2, ![1792, 7168]⟩
abbrev S1792x2048 : Shape := ⟨2, ![1792, 2048]⟩
abbrev S1792x1 : Shape := ⟨2, ![1792, 1]⟩
abbrev S16x7168 : Shape := ⟨2, ![16, 7168]⟩
abbrev S1792 : Shape := ⟨1, ![1792]⟩
abbrev S7168x16x128 : Shape := ⟨3, ![7168, 16, 128]⟩
abbrev S7168x16x1 : Shape := ⟨3, ![7168, 16, 1]⟩

abbrev nBuf : Space → Nat
  | .hbm => 32
  | .vmem => 16
  | .smem => 1
  | _ => 0

abbrev bufTy : (tb : Table) → Fin (tcTables nBuf tb) → BufTy
  | .hbm, ⟨0, _⟩ => ⟨S1x1792x7168, .bf16⟩
  | .hbm, ⟨1, _⟩ => ⟨S1x1792x2048, .fp8e5m2⟩
  | .hbm, ⟨2, _⟩ => ⟨S1x1792, .f32⟩
  | .hbm, ⟨3, _⟩ => ⟨S7168x2048, .bf16⟩
  | .hbm, ⟨4, _⟩ => ⟨S7168x2048, .i8⟩
  | .hbm, ⟨5, _⟩ => ⟨S7168x16, .f32⟩
  | .hbm, ⟨6, _⟩ => ⟨S7168x2048, .i8⟩
  | .hbm, ⟨7, _⟩ => ⟨S7168x16, .f32⟩
  | .hbm, ⟨8, _⟩ => ⟨S_, .i32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1, .f32⟩
  | .hbm, ⟨19, _⟩ => ⟨S1, .f32⟩
  | .hbm, ⟨20, _⟩ => ⟨S2, .f32⟩
  | .hbm, ⟨21, _⟩ => ⟨S1792x7168, .bf16⟩
  | .hbm, ⟨22, _⟩ => ⟨S1792x2048, .fp8e5m2⟩
  | .hbm, ⟨23, _⟩ => ⟨S1792x1, .f32⟩
  | .hbm, ⟨24, _⟩ => ⟨S7168x2048, .bf16⟩
  | .hbm, ⟨25, _⟩ => ⟨S7168x2048, .f32⟩
  | .hbm, ⟨26, _⟩ => ⟨S1792x7168, .fp8e4m3⟩
  | .hbm, ⟨27, _⟩ => ⟨S1x1792, .f32⟩
  | .hbm, ⟨28, _⟩ => ⟨S7168x2048, .i8⟩
  | .hbm, ⟨29, _⟩ => ⟨S16x7168, .f32⟩
  | .hbm, ⟨30, _⟩ => ⟨S7168x2048, .i8⟩
  | .hbm, ⟨31, _⟩ => ⟨S16x7168, .f32⟩
  | .local _ .vmem, ⟨0, _⟩ => ⟨S1792x7168, .bf16⟩
  | .local _ .vmem, ⟨1, _⟩ => ⟨S1792x2048, .fp8e5m2⟩
  | .local _ .vmem, ⟨2, _⟩ => ⟨S1792x1, .f32⟩
  | .local _ .vmem, ⟨3, _⟩ => ⟨S7168x2048, .bf16⟩
  | .local _ .vmem, ⟨4, _⟩ => ⟨S7168x2048, .i8⟩
  | .local _ .vmem, ⟨5, _⟩ => ⟨S7168x16, .f32⟩
  | .local _ .vmem, ⟨6, _⟩ => ⟨S7168x2048, .i8⟩
  | .local _ .vmem, ⟨7, _⟩ => ⟨S7168x16, .f32⟩
  | .local _ .vmem, ⟨8, _⟩ => ⟨S7168x2048, .bf16⟩
  | .local _ .vmem, ⟨9, _⟩ => ⟨S7168x2048, .f32⟩
  | .local _ .vmem, ⟨10, _⟩ => ⟨S1792x7168, .fp8e4m3⟩
  | .local _ .vmem, ⟨11, _⟩ => ⟨S1x1792, .f32⟩
  | .local _ .vmem, ⟨12, _⟩ => ⟨S7168x2048, .i8⟩
  | .local _ .vmem, ⟨13, _⟩ => ⟨S16x7168, .f32⟩
  | .local _ .vmem, ⟨14, _⟩ => ⟨S7168x2048, .i8⟩
  | .local _ .vmem, ⟨15, _⟩ => ⟨S16x7168, .f32⟩
  | .local _ .smem, ⟨0, _⟩ => ⟨S2, .f32⟩
  | _, _ => ⟨S1x1792x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_cst_2 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v11_2 : Ref sig .tc := ⟨.hbm, 26, rfl⟩
abbrev main_v11_3 : Ref sig .tc := ⟨.hbm, 27, rfl⟩
abbrev main_v11_4 : Ref sig .tc := ⟨.hbm, 28, rfl⟩
abbrev main_v11_5 : Ref sig .tc := ⟨.hbm, 29, rfl⟩
abbrev main_v11_6 : Ref sig .tc := ⟨.hbm, 30, rfl⟩
abbrev main_v11_7 : Ref sig .tc := ⟨.hbm, 31, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg14_0 : Ref sig .tc := ⟨.vmem, 13, rfl⟩
abbrev cc0_stg15_0 : Ref sig .tc := ⟨.vmem, 14, rfl⟩
abbrev cc0_stg16_0 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F] [Named F]

def κ : String → Option EReal := fun
  | "beta1" => some ((9 / 10 : ℝ) : EReal)
  | "beta2" => some ((999 / 1000 : ℝ) : EReal)
  | "eps" => some ((1 / 100000000 : ℝ) : EReal)
  | "ln2" => some ((Real.log 2 : ℝ) : EReal)
  | "minus_lr" => some ((-1 / 1000 : ℝ) : EReal)
  | "one_minus_beta1" => some ((1 / 10 : ℝ) : EReal)
  | "one_minus_beta2" => some ((1 / 1000 : ℝ) : EReal)
  | _ => none

abbrev grid0 : Pipeline.Grid := .none

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1792x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1792x2048 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1792x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7168x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7168x2048 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7168x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7168x2048 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7168x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S7168x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S7168x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1792x7168 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1792 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S7168x2048 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S16x7168 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S7168x2048 .i8 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S16x7168 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Proof.FrameRuns.lean ====
/- What the frame of the compiled kernel is stated over: the host operations before the call, each window's block at a point,
   the closed forms of the two branch conditions, the scratch buffers, and the claim's post read off a run. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Unit

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1020000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 3 rfl).trans ((hA c 3).trans (V_main_arg2 m c)),
      (Pipeline.RDat.FramePost.arr_in h c 4 rfl).trans ((hA c 4).trans (V_main_arg3 m c)),
      (Pipeline.RDat.FramePost.arr_in h c 5 rfl).trans ((hA c 5).trans (V_main_arg4 m c)),
      ((h c).2 main_arg5 (Pipeline.mem_restRefs_of main_arg5 (by decide) (by decide))).trans (V_main_arg5 m c),
      (Pipeline.RDat.FramePost.arr_in h c 7 rfl).trans ((hA c 7).trans (V_main_arg6 m c)),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 7 — decided over the grid. -/
theorem hcond0_0 : ∀ t : Fin cfg0.N, cond0_0 (grid0.coords t) ↔ t.val < 7 :=
  (by decide +kernel : ∀ t : Fin grid0.N, cond0_0 (grid0.coords t) ↔ t.val < 7)

/-- The condition of the body's `scf.if` 1 (`k0_h2`), from the grid coordinates (the skeleton's scalar
    chain substituted). -/
abbrev cond0_1 (i : grid0.Coords) : Prop := k0_cond2 i = 1#1
/-- It holds at the points from point 7 on — decided over the grid. -/
theorem hcond0_1 : ∀ t : Fin cfg0.N, cond0_1 (grid0.coords t) ↔ 7 ≤ t.val :=
  (by decide +kernel : ∀ t : Fin grid0.N, cond0_1 (grid0.coords t) ↔ 7 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x7168 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2048 .fp8e5m2 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1792 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x2048 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S16x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x2048 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x2048 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x7168 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1792 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x2048 .i8 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S16x512 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S512x2048 .i8 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S16x512 .f32 := win0_16.stage (cfg0.slots t 16)
abbrev hs0_16 (t : Fin cfg0.N) : (ms0_16 t).IsWhole := hstage0_16 ((cfg0.slots t 16).cast nbuf0_16)
/-- The scratch operands: whole scoped buffers of the kernel's own, passed beside the windows. -/
abbrev scM0_0 : Memref sig .tc .vmem S14x1792x512 .fp8e4m3 := Memref.whole cc0_scratch0
abbrev scM0_1 : Memref sig .tc .vmem S2048x1792 .bf16 := Memref.whole cc0_scratch1

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Unit

end
-- ==== Proof.FrameTokens.lean ====
/- The run of the kernel body at a token point (the first branch). -/
module

public import proofs.«01_k».proof.Proof.FrameRuns

@[expose] public section

-- membership in a rectangle of production extents (`View.cover_of_tiled`): the elaborator's structural look
-- recurses once per coordinate of the long axes
set_option maxRecDepth 16384

noncomputable section

namespace Cert.Kernel.Unit

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3980000 in
/-- The body's triple IN CASE A (`scf.if` 0 taken, `scf.if` 1 not taken: points 0, 1, … 6: 7 of 21): on whole staging memrefs — the inputs' at their contents,
    the FORGOTTEN outputs' (9, 10, 11, 12, 13, 14, 15, 16) at anything, handed back at some contents nothing names —
    the body runs to the continuation holding the inputs' as they were, the scratch at some contents: the printed functions are their skeletons (`*_eq_skeleton`),
    which `sl_exec` runs (Lib/Exec.lean) — each `scf.if` decided by the case's hypotheses `hc·`. -/
theorem kernelRun0_A (c : Dev nD) (i : grid0.Coords) (arg1 : Memref sig .tc .smem S2 .f32) (harg1 : arg1.IsWhole) (arg2 : Memref sig .tc .vmem S256x7168 .bf16) (harg2 : arg2.IsWhole) (arg3 : Memref sig .tc .vmem S256x2048 .fp8e5m2) (harg3 : arg3.IsWhole) (arg4 : Memref sig .tc .vmem S1x1792 .f32) (harg4 : arg4.IsWhole) (arg5 : Memref sig .tc .vmem S512x2048 .bf16) (harg5 : arg5.IsWhole) (arg6 : Memref sig .tc .vmem S512x2048 .i8) (harg6 : arg6.IsWhole) (arg7 : Memref sig .tc .vmem S16x512 .f32) (harg7 : arg7.IsWhole) (arg8 : Memref sig .tc .vmem S512x2048 .i8) (harg8 : arg8.IsWhole) (arg9 : Memref sig .tc .vmem S16x512 .f32) (harg9 : arg9.IsWhole) (arg10 : Memref sig .tc .vmem S512x2048 .bf16) (harg10 : arg10.IsWhole) (arg11 : Memref sig .tc .vmem S512x2048 .f32) (harg11 : arg11.IsWhole) (arg12 : Memref sig .tc .vmem S256x7168 .fp8e4m3) (harg12 : arg12.IsWhole) (arg13 : Memref sig .tc .vmem S1x1792 .f32) (harg13 : arg13.IsWhole) (arg14 : Memref sig .tc .vmem S512x2048 .i8) (harg14 : arg14.IsWhole) (arg15 : Memref sig .tc .vmem S16x512 .f32) (harg15 : arg15.IsWhole) (arg16 : Memref sig .tc .vmem S512x2048 .i8) (harg16 : arg16.IsWhole) (arg17 : Memref sig .tc .vmem S16x512 .f32) (harg17 : arg17.IsWhole) (arg18 : Memref sig .tc .vmem S14x1792x512 .fp8e4m3) (harg18 : arg18.IsWhole) (arg19 : Memref sig .tc .vmem S2048x1792 .bf16) (harg19 : arg19.IsWhole) (hc0 : cond0_0 i) (hc1 : ¬cond0_1 i)
    (x0 : Vec F S2 .f32) (x1 : Vec F S256x7168 .bf16) (x2 : Vec F S256x2048 .fp8e5m2) (x3 : Vec F S1x1792 .f32) (x4 : Vec F S512x2048 .bf16) (x5 : Vec F S512x2048 .i8) (x6 : Vec F S16x512 .f32) (x7 : Vec F S512x2048 .i8) (x8 : Vec F S16x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_wgrad_adam i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0_wgrad_adam_eq_skeleton]; unfold cc0_wgrad_adam_skel
    simp only [k0_part51_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [HS0]
    · iexists _, _; isplitr; swap; · iexact HS0
      ipureintro; rfl
    iexists _, _; isplitr; swap; · iexact HS1
    ipureintro; rfl

end Cert.Kernel.Unit

end
-- ==== Proof.FrameAdam.lean ====
/- The run of the kernel body at an Adam point (the second branch). -/
module

public import proofs.«01_k».proof.Proof.FrameTokens

@[expose] public section

-- membership in a rectangle of production extents (`View.cover_of_tiled`): the elaborator's structural look
-- recurses once per coordinate of the long axes
set_option maxRecDepth 16384

noncomputable section

namespace Cert.Kernel.Unit

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 6400000 in
/-- The body's triple IN CASE B (`scf.if` 0 not taken, `scf.if` 1 taken: points 7, 8, … 20: 14 of 21): on whole staging memrefs — the inputs' at their contents,
    the FORGOTTEN outputs' (9, 10, 11, 12, 13, 14, 15, 16) at anything, handed back at some contents nothing names —
    the body runs to the continuation holding the inputs' as they were, the scratch at some contents: the printed functions are their skeletons (`*_eq_skeleton`),
    which `sl_exec` runs (Lib/Exec.lean) — each `scf.if` decided by the case's hypotheses `hc·`. -/
theorem kernelRun0_B (c : Dev nD) (i : grid0.Coords) (arg1 : Memref sig .tc .smem S2 .f32) (harg1 : arg1.IsWhole) (arg2 : Memref sig .tc .vmem S256x7168 .bf16) (harg2 : arg2.IsWhole) (arg3 : Memref sig .tc .vmem S256x2048 .fp8e5m2) (harg3 : arg3.IsWhole) (arg4 : Memref sig .tc .vmem S1x1792 .f32) (harg4 : arg4.IsWhole) (arg5 : Memref sig .tc .vmem S512x2048 .bf16) (harg5 : arg5.IsWhole) (arg6 : Memref sig .tc .vmem S512x2048 .i8) (harg6 : arg6.IsWhole) (arg7 : Memref sig .tc .vmem S16x512 .f32) (harg7 : arg7.IsWhole) (arg8 : Memref sig .tc .vmem S512x2048 .i8) (harg8 : arg8.IsWhole) (arg9 : Memref sig .tc .vmem S16x512 .f32) (harg9 : arg9.IsWhole) (arg10 : Memref sig .tc .vmem S512x2048 .bf16) (harg10 : arg10.IsWhole) (arg11 : Memref sig .tc .vmem S512x2048 .f32) (harg11 : arg11.IsWhole) (arg12 : Memref sig .tc .vmem S256x7168 .fp8e4m3) (harg12 : arg12.IsWhole) (arg13 : Memref sig .tc .vmem S1x1792 .f32) (harg13 : arg13.IsWhole) (arg14 : Memref sig .tc .vmem S512x2048 .i8) (harg14 : arg14.IsWhole) (arg15 : Memref sig .tc .vmem S16x512 .f32) (harg15 : arg15.IsWhole) (arg16 : Memref sig .tc .vmem S512x2048 .i8) (harg16 : arg16.IsWhole) (arg17 : Memref sig .tc .vmem S16x512 .f32) (harg17 : arg17.IsWhole) (arg18 : Memref sig .tc .vmem S14x1792x512 .fp8e4m3) (harg18 : arg18.IsWhole) (arg19 : Memref sig .tc .vmem S2048x1792 .bf16) (harg19 : arg19.IsWhole) (hc0 : ¬cond0_0 i) (hc1 : cond0_1 i)
    (x0 : Vec F S2 .f32) (x1 : Vec F S256x7168 .bf16) (x2 : Vec F S256x2048 .fp8e5m2) (x3 : Vec F S1x1792 .f32) (x4 : Vec F S512x2048 .bf16) (x5 : Vec F S512x2048 .i8) (x6 : Vec F S16x512 .f32) (x7 : Vec F S512x2048 .i8) (x8 : Vec F S16x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_wgrad_adam i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0_wgrad_adam_eq_skeleton]; unfold cc0_wgrad_adam_skel
    simp only [k0_part210_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part211_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [HS0]
    · iexists _, _; isplitr; swap; · iexact HS0
      ipureintro; rfl
    iexists _, _; isplitr; swap; · iexact HS1
    ipureintro; rfl

end Cert.Kernel.Unit

end
-- ==== Proof.FrameKernel.lean ====
/- The frame of the compiled kernel: it terminates, nothing faults, its arguments end unchanged and every semaphore
   counter ends at zero. Nothing is named of what it leaves in its outputs. -/
module

public import proofs.«01_k».proof.Proof.FrameAdam
public import Idealize.ShloMosaic.Lib.Claim

@[expose] public section

-- membership in a rectangle of production extents (`View.cover_of_tiled`): the elaborator's structural look
-- recurses once per coordinate of the long axes
set_option maxRecDepth 16384

noncomputable section

namespace Cert.Kernel.Unit

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (9, 10, 11, 12, 13, 14, 15, 16): nothing reads what the kernel leaves in them, so nothing
    of it is named (Lib/Pipeline/Dat.lean `Dat.toRForget`). -/
def forgets0 : Fin 17 → Bool := fun w => w.val == 9 || w.val == 10 || w.val == 11 || w.val == 12 || w.val == 13 || w.val == 14 || w.val == 15 || w.val == 16

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨_ + 17, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d))

set_option maxHeartbeats 3200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 21 := lt_of_lt_of_eq t.isLt (show cfg0.N = 21 from N_0)
  by_cases h0 : t.val < 7
  · by_cases h1 : 7 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((kernelRun0_A c (grid0.coords t) _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [HS0]; · iexact HS0
      isplitl [HS1]; · iexact HS1
      iintro ⟨H0, H1, H2, H3, H4, H5, H6, H7, H8, H9, H10, H11, H12, H13, H14, H15, H16, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
  · by_cases h1 : 7 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((kernelRun0_B c (grid0.coords t) _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [HS0]; · iexact HS0
      isplitl [HS1]; · iexact HS1
      iintro ⟨H0, H1, H2, H3, H4, H5, H6, H7, H8, H9, H10, H11, H12, H13, H14, H15, H16, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 9, 10, 11, 12, 13, 14, 15, 16) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Kernel.Unit

end
-- ==== Proof.Ops.lean ====
/- The kernel's vector arithmetic, named: the token quantiser and one 128 × 128 unit of the Adam step, each once, as
   functions of the blocks they read. Nothing here depends on the grid point or on which unit it is. -/
module

public import proofs.«01_k».proof.Proof.Gen.KernelIdeal

@[expose] public section

noncomputable section

namespace Cert.KernelIdeal.Unit

open Idealize.ShloMosaic Idealize.SL.Sem
open Cert.KernelIdeal Cert.KernelIdeal.Gen

variable {F : FTy → Type} [FloatOps F] [Named F]

/-! ## The power-of-two scale of a row -/

/-- One step of the binary search for the exponent field: keep the bit if `t` reaches the float the field would name. -/
def probe {s : Shape} (b : BitVec 32) (t : FVec F s .f32) (f : IVec s 32) : IVec s 32 :=
  select (cmpf .oge t (bitcastToFloat .f32 (shli (addi f (broadcast s b)) (broadcast s 23#32)))) (addi f (broadcast s b)) f

/-- The exponent field of `t`, eight bits from the top. -/
def field {s : Shape} (t : FVec F s .f32) : IVec s 32 :=
  probe 1#32 t (probe 2#32 t (probe 4#32 t (probe 8#32 t (probe 16#32 t (probe 32#32 t (probe 64#32 t
    (probe 128#32 t (broadcast s 0#32))))))))

/-- Whether the field is all zeros or all ones. -/
def plain {s : Shape} (f : IVec s 32) : IVec s 1 :=
  ori (cmpi .eq f (broadcast s 0#32)) (cmpi .eq f (broadcast s 255#32))

/-- The scale: one binade above the field's, one for a plain field. -/
def up {s : Shape} (f : IVec s 32) : FVec F s .f32 :=
  bitcastToFloat .f32 (shli (select (plain f) (broadcast s 127#32) (addi f (broadcast s 1#32))) (broadcast s 23#32))

/-- Its inverse. -/
def down {s : Shape} (f : IVec s 32) : FVec F s .f32 :=
  bitcastToFloat .f32 (shli (select (plain f) (broadcast s 127#32) (subi (broadcast s 253#32) f)) (broadcast s 23#32))

/-- The largest magnitude over 448. -/
def ratio {s : Shape} (a : FVec F s .f32) : FVec F s .f32 := mulf a (broadcast s (Scalar.ofBits .f32 0x3B124925#32))

/-- Each row's largest magnitude. -/
def rowMax (x : FVec F S32x7168 .bf16) : FVec F S32x1 .f32 :=
  extf .f32 (shapeCast S32x1 (multiReduction .maximumf [1] S32 (absf (shapeCast S32x7168 x shapeCasts_S32x7168_S32x7168))
    0xFF80#16 reduces_S32x7168_S32 (.inr rfl) rfl) shapeCasts_S32_S32x1) bitsLt_bf16_f32

/-- The fp8 codes of 32 rows. -/
def codes (x : FVec F S32x7168 .bf16) : FVec F S32x7168 .fp8e4m3 :=
  truncf .fp8e4m3
    (minimumf (broadcast S32x7168 (Scalar.truncf .bf16 bitsLt_bf16_f32 (Scalar.ofBits .f32 0x43E00000#32)))
      (maximumf (broadcast S32x7168 (Scalar.truncf .bf16 bitsLt_bf16_f32 (Scalar.ofBits .f32 0xC3E00000#32)))
        (mulf (shapeCast S32x7168 x shapeCasts_S32x7168_S32x7168)
          (broadcastTo S32x7168 (truncf .bf16 (down (field (ratio (rowMax x)))) bitsLt_bf16_f32) broadcasts_S32x1_S32x7168))))
    bitsLt_fp8e4m3_bf16

/-- 32 rows' largest magnitudes, spread over 128 lanes. -/
def spread (x : FVec F S32x7168 .bf16) : FVec F S32x128 .f32 :=
  broadcastTo S32x128 (shapeCast S32x1 (rowMax x) shapeCasts_S32x1_S32x1) broadcasts_S32x1_S32x128

/-- The scales of 128 rows as one row. -/
def scaleRow (x₀ x₁ x₂ x₃ : FVec F S32x7168 .bf16) : FVec F S1x128 .f32 :=
  up (field (ratio (extractStridedSlice S1x128 ![0, 0] (transpose S128x128 [1, 0]
    (concatenate S128x128 0 [⟨S32x128, spread x₀⟩, ⟨S32x128, spread x₁⟩, ⟨S32x128, spread x₂⟩, ⟨S32x128, spread x₃⟩]
      concatenates_S32x128_S32x128_S32x128_S32x128_S128x128_d0)
    transposes_S128x128_p1_0_S128x128) slices_S128x128_o0_0_S1x128)))

/-- A block of the incoming gradient, transposed, times its token scales `sdy`, times the scales `sx`. -/
def dyBlock (sdy : FVec F S1x128 .f32) (sx : FVec F S1x128 .f32) (d : FVec F S128x128 .fp8e5m2) : FVec F S128x128 .bf16 :=
  shapeCast S128x128
    (mulf (mulf (transpose S128x128 [1, 0] (extf .bf16 (shapeCast S128x128 d shapeCasts_S128x128_S128x128) bitsLt_fp8e5m2_bf16)
          transposes_S128x128_p1_0_S128x128)
        (broadcastTo S128x128 (truncf .bf16 sdy bitsLt_bf16_f32) broadcasts_S1x128_S128x128))
      (broadcastTo S128x128 (truncf .bf16 sx bitsLt_bf16_f32) broadcasts_S1x128_S128x128))
    shapeCasts_S128x128_S128x128

/-! ## One unit of the Adam step, transposed: rows are columns of the weight -/

/-- A block of int8 codes times its scales times `gain`. -/
def widen (gain : F .f32) (c : IVec S128x128 8) (s : FVec F S1x128 .f32) : FVec F S128x128 .f32 :=
  mulf (extf .f32 (transpose S128x128 [1, 0] (sitofp .bf16 c) transposes_S128x128_p1_0_S128x128) bitsLt_bf16_f32)
    (broadcastTo S128x128 (mulf (shapeCast S1x128 s shapeCasts_S1x128_S1x128) (broadcast S1x128 gain))
      broadcasts_S1x128_S128x128)

/-- The new first moment, in units of `1 - β₁`. -/
def mNew (g : FVec F S128x128 .f32) (mc : IVec S128x128 8) (ms : FVec F S1x128 .f32) : FVec F S128x128 .f32 :=
  addf (widen (Named.named κ "m_gain" 0x41100000#32) mc ms) g

/-- The new second moment, in units of `1 - β₂`. -/
def vNew (g : FVec F S128x128 .f32) (sc : IVec S128x128 8) (ss : FVec F S1x128 .f32) : FVec F S128x128 .f32 :=
  addf (mulf (widen (Named.named κ "s_gain" 0x41FCDB0F#32) sc ss) (widen (Named.named κ "s_gain" 0x41FCDB0F#32) sc ss)) (mulf g g)

/-- Its square root. -/
def sNew (g : FVec F S128x128 .f32) (sc : IVec S128x128 8) (ss : FVec F S1x128 .f32) : FVec F S128x128 .f32 :=
  divf (broadcast S128x128 (Scalar.ofBits .f32 0x3F800000#32)) (rsqrt (vNew g sc ss))

/-- The update. -/
def update (ca cb : F .f32) (m s : FVec F S128x128 .f32) : FVec F S128x128 .f32 :=
  transpose S128x128 [1, 0]
    (mulf (mulf m (broadcast S128x128 ca))
      (divf (broadcast S128x128 (Scalar.ofBits .f32 0x3F800000#32)) (addf s (broadcast S128x128 cb))))
    transposes_S128x128_p1_0_S128x128

/-- The new weight. -/
def weight (w : FVec F S128x128 .bf16) (u : FVec F S128x128 .f32) : FVec F S128x128 .bf16 :=
  truncf .bf16 (addf (extf .f32 w bitsLt_bf16_f32) u) bitsLt_bf16_f32

/-- Each column's largest entry. -/
def colMax (mag : FVec F S128x128 .f32) : FVec F S1x128 .f32 :=
  shapeCast S1x128 (multiReduction .maximumf [0] S128 mag 0xFF800000#32 reduces_S128x128_S128 (.inl rfl) rfl) shapeCasts_S128_S1x128

/-- Where it is zero. -/
def isZero (a : FVec F S1x128 .f32) : IVec S1x128 1 :=
  cmpf .oeq a (broadcast S1x128 (Scalar.ofBits .f32 0x00000000#32))

/-- The int8 scales. -/
def newScale (unit : F .f32) (a : FVec F S1x128 .f32) : FVec F S1x128 .f32 :=
  select (isZero a) (broadcast S1x128 (Scalar.ofBits .f32 0x3F800000#32))
    (divf (mulf a (broadcast S1x128 unit)) (broadcast S1x128 (Scalar.ofBits .f32 0x42FE0000#32)))

/-- The int8 codes. -/
def newCodes (val : FVec F S128x128 .f32) (a : FVec F S1x128 .f32) : IVec S128x128 8 :=
  trunci 8 (transpose S128x128 [1, 0] (trunci 16 (fptosi 32
    (minimumf (broadcast S128x128 (Scalar.ofBits .f32 0x42FE0000#32))
      (maximumf (broadcast S128x128 (Scalar.ofBits .f32 0xC2FE0000#32))
        (roundeven (mulf val (broadcastTo S128x128
          (select (isZero a) (broadcast S1x128 (Scalar.ofBits .f32 0x3F800000#32))
            (divf (broadcast S1x128 (Scalar.ofBits .f32 0x42FE0000#32)) a)) broadcasts_S1x128_S128x128)))))) natLt_16_32)
    transposes_S128x128_p1_0_S128x128) natLt_8_16

end Cert.KernelIdeal.Unit

end
-- ==== Proof.Body.lean ====
/- The kernel's body as loops: the token step and the Adam step written with one unit each and counted loops over the
   units, and the equation that the printed body is this program. -/
module

public import proofs.«01_k».proof.Proof.Ops
public import Idealize.ShloMosaic.Lib.Tactic

@[expose] public section

noncomputable section

namespace Cert.KernelIdeal.Unit

open Idealize.ShloMosaic Idealize.SL.Sem
open Cert.KernelIdeal Cert.KernelIdeal.Gen

variable {F : FTy → Type} [FloatOps F] [Named F]

/-- `f 0`, …, `f (n - 1)`, in order. -/
def forFin : (n : Nat) → (Fin n → Prog (TpuEff nD τ sig (Elt F) Λ₀ .tc) PUnit) → Prog (TpuEff nD τ sig (Elt F) Λ₀ .tc) PUnit
  | 0, _ => pure ⟨⟩
  | n + 1, f => do forFin n (fun i => f i.castSucc); f (Fin.last n)

theorem forFin_zero (f : Fin 0 → Prog (TpuEff nD τ sig (Elt F) Λ₀ .tc) PUnit) : forFin 0 f = pure ⟨⟩ := rfl
theorem forFin_succ (n : Nat) (f : Fin (n + 1) → Prog (TpuEff nD τ sig (Elt F) Λ₀ .tc) PUnit) :
    forFin (n + 1) f = (do forFin n (fun i => f i.castSucc); f (Fin.last n)) := rfl

/-! ## The rectangles -/

theorem inb_cell : ∀ (ib : Fin 4) (jb : Fin 16) (a : Fin 2), (![128 * ib.val, 128 * jb.val] : Fin 2 → Nat) a + S128x128.size a ≤ S512x2048.size a := by decide
/-- The unit's 128 × 128 block of a weight-shaped window. -/
abbrev cell (ib : Fin 4) (jb : Fin 16) : Rect S512x2048 := Rect.unit (s := S512x2048) ![128 * ib.val, 128 * jb.val] S128x128.size (inb_cell ib jb)
theorem cell_packed_i8 : ∀ (ib : Fin 4) (jb : Fin 16), (cell ib jb).PackedRows (EltTy.packing .i8) := by decide
theorem cell_packed_bf16 : ∀ (ib : Fin 4) (jb : Fin 16), (cell ib jb).PackedRows (EltTy.packing .bf16) := by decide

theorem inb_strip : ∀ (ib : Fin 4) (jb : Fin 16) (a : Fin 2), (![jb.val, 128 * ib.val] : Fin 2 → Nat) a + S1x128.size a ≤ S16x512.size a := by decide
/-- The unit's 128 scales. -/
abbrev strip (ib : Fin 4) (jb : Fin 16) : Rect S16x512 := Rect.unit (s := S16x512) ![jb.val, 128 * ib.val] S1x128.size (inb_strip ib jb)

theorem inb_band : ∀ (c : Fin 8) (a : Fin 2), (![256 * c.val, 0] : Fin 2 → Nat) a + S256x1792.size a ≤ S2048x1792.size a := by decide
/-- 256 output columns of the scaled gradient. -/
abbrev band (c : Fin 8) : Rect S2048x1792 := Rect.unit (s := S2048x1792) ![256 * c.val, 0] S256x1792.size (inb_band c)

theorem slices_g : ∀ (u : Fin 8), S256x512.Slices ![128 * (u.val / 4), 128 * (u.val % 4)] S128x128 := by decide

theorem inb_rows : ∀ (r : Fin 2) (q : Fin 4) (a : Fin 2), (![128 * r.val + 32 * q.val, 0] : Fin 2 → Nat) a + S32x7168.size a ≤ S256x7168.size a := by decide
/-- 32 rows of a token block. -/
abbrev rows (r : Fin 2) (q : Fin 4) : Rect S256x7168 := Rect.unit (s := S256x7168) ![128 * r.val + 32 * q.val, 0] S32x7168.size (inb_rows r q)
theorem rows_packed : ∀ (r : Fin 2) (q : Fin 4), (rows r q).PackedRows (EltTy.packing .fp8e4m3) := by decide

theorem slices_n : ∀ n : Fin 14, S32x7168.Slices ![0, 512 * n.val] S32x512 := by decide

/-- Where the code scratch takes the rows. -/
def xqOff (i : grid0.Coords) (r : Fin 2) (q : Fin 4) (n : Fin 14) : Fin 3 → Nat :=
  ![n.val, (Scalar.indexCast (Scalar.addi (Scalar.addi (Scalar.muli (BitVec.ofNat 32 (i 0).val) 256#32)
    (BitVec.ofNat 32 (128 * r.val))) (BitVec.ofNat 32 (32 * q.val)))).toNat, 0]
/-- Where a row of 128 tokens stands. -/
def laneOff (i : grid0.Coords) (n : Nat) (r : Fin 2) : Fin 2 → Nat :=
  ![n, (Scalar.indexCast (Scalar.addi (Scalar.muli (BitVec.ofNat 32 (i 0).val) 256#32) (BitVec.ofNat 32 (128 * r.val)))).toNat]

theorem xqOff_eq : ∀ i : grid0.Coords, k0_cond1 i = 1#1 → ∀ (r : Fin 2) (q : Fin 4) (n : Fin 14),
    xqOff i r q n = ![n.val, 256 * (i 0).val + 128 * r.val + 32 * q.val, 0] := by decide +kernel
theorem laneOff_eq : ∀ i : grid0.Coords, k0_cond1 i = 1#1 → ∀ (r : Fin 2) (n : Nat),
    laneOff i n r = ![n, 256 * (i 0).val + 128 * r.val] := by
  intro i h r n
  have : ∀ i : grid0.Coords, k0_cond1 i = 1#1 → ∀ r : Fin 2,
      (Scalar.indexCast (Scalar.addi (Scalar.muli (BitVec.ofNat 32 (i 0).val) 256#32) (BitVec.ofNat 32 (128 * r.val)))).toNat
        = 256 * (i 0).val + 128 * r.val := by decide +kernel
  unfold laneOff; rw [this i h r]

theorem inb_xq : ∀ i : grid0.Coords, k0_cond1 i = 1#1 → ∀ (r : Fin 2) (q : Fin 4) (n : Fin 14) (a : Fin 3),
    xqOff i r q n a + S1x32x512.size a ≤ S14x1792x512.size a := by decide +kernel
theorem xq_packed : ∀ (i : grid0.Coords) (h : k0_cond1 i = 1#1) (r : Fin 2) (q : Fin 4) (n : Fin 14),
    (Rect.unit (s := S14x1792x512) (xqOff i r q n) S1x32x512.size (inb_xq i h r q n)).PackedRows (EltTy.packing .fp8e4m3) := by decide +kernel
theorem inb_lane : ∀ i : grid0.Coords, k0_cond1 i = 1#1 → ∀ (r : Fin 2) (a : Fin 2),
    laneOff i 0 r a + S1x128.size a ≤ S1x1792.size a := by decide +kernel
theorem inb_dyt : ∀ i : grid0.Coords, k0_cond1 i = 1#1 → ∀ (r : Fin 2) (n : Fin 16) (a : Fin 2),
    laneOff i (128 * n.val) r a + S128x128.size a ≤ S2048x1792.size a := by decide +kernel
theorem dyt_packed : ∀ (i : grid0.Coords) (h : k0_cond1 i = 1#1) (r : Fin 2) (n : Fin 16),
    (Rect.unit (s := S2048x1792) (laneOff i (128 * n.val) r) S128x128.size (inb_dyt i h r n)).PackedRows (EltTy.packing .bf16) := by decide +kernel

theorem inb_d : ∀ (r : Fin 2) (n : Fin 16) (a : Fin 2), (![128 * r.val, 128 * n.val] : Fin 2 → Nat) a + S128x128.size a ≤ S256x2048.size a := by decide

/-! ## The programs -/

section
variable (i : grid0.Coords)
variable (arg1 : Memref sig .tc .smem S2 .f32) (harg1 : arg1.IsWhole) (arg2 : Memref sig .tc .vmem S256x7168 .bf16) (harg2 : arg2.IsWhole) (arg3 : Memref sig .tc .vmem S256x2048 .fp8e5m2) (harg3 : arg3.IsWhole) (arg4 : Memref sig .tc .vmem S1x1792 .f32) (harg4 : arg4.IsWhole) (arg5 : Memref sig .tc .vmem S512x2048 .bf16) (harg5 : arg5.IsWhole) (arg6 : Memref sig .tc .vmem S512x2048 .i8) (harg6 : arg6.IsWhole) (arg7 : Memref sig .tc .vmem S16x512 .f32) (harg7 : arg7.IsWhole) (arg8 : Memref sig .tc .vmem S512x2048 .i8) (harg8 : arg8.IsWhole) (arg9 : Memref sig .tc .vmem S16x512 .f32) (harg9 : arg9.IsWhole) (arg10 : Memref sig .tc .vmem S512x2048 .bf16) (harg10 : arg10.IsWhole) (arg11 : Memref sig .tc .vmem S512x2048 .f32) (harg11 : arg11.IsWhole) (arg12 : Memref sig .tc .vmem S256x7168 .fp8e4m3) (harg12 : arg12.IsWhole) (arg13 : Memref sig .tc .vmem S1x1792 .f32) (harg13 : arg13.IsWhole) (arg14 : Memref sig .tc .vmem S512x2048 .i8) (harg14 : arg14.IsWhole) (arg15 : Memref sig .tc .vmem S16x512 .f32) (harg15 : arg15.IsWhole) (arg16 : Memref sig .tc .vmem S512x2048 .i8) (harg16 : arg16.IsWhole) (arg17 : Memref sig .tc .vmem S16x512 .f32) (harg17 : arg17.IsWhole) (arg18 : Memref sig .tc .vmem S14x1792x512 .fp8e4m3) (harg18 : arg18.IsWhole) (arg19 : Memref sig .tc .vmem S2048x1792 .bf16) (harg19 : arg19.IsWhole)

/-- One store of 32 rows' codes at columns `512 n …` into the code scratch. -/
def xqStep (h : k0_cond1 i = 1#1) (r : Fin 2) (q : Fin 4) (c : FVec F S32x7168 .fp8e4m3) (n : Fin 14) : Prog (TpuEff nD τ sig (Elt F) Λ₀ .tc) PUnit := do
  let _v : Vec F S1x32x512 .fp8e4m3 ← Prog.lift (.load arg18 (Rect.unit (s := S14x1792x512) (xqOff i r q n) S1x32x512.size (inb_xq i h r q n)).toLoadRect (View.loadsAt_vmem h_S1x32x512))
  Prog.lift (.store arg18 (Rect.unit (s := S14x1792x512) (xqOff i r q n) S1x32x512.size (inb_xq i h r q n))
    (shapeCast S1x32x512 (extractStridedSlice S32x512 ![0, 512 * n.val] c (slices_n n)) shapeCasts_S32x512_S1x32x512) Finset.univ
    (View.stores_vmem h_S1x32x512 (harg18.storeExact_slice rfl _ (xq_packed i h r q n)) (fun _ => rfl)) (.inl rfl))

/-- 32 rows quantised: their codes to the result and to the scratch. -/
def rowsStep (h : k0_cond1 i = 1#1) (r : Fin 2) (q : Fin 4) : Prog (TpuEff nD τ sig (Elt F) Λ₀ .tc) (FVec F S32x7168 .bf16) := do
  let x : Vec F S32x7168 .bf16 ← Prog.lift (.load arg2 (rows r q).toLoadRect (View.loadsAt_vmem h_S32x7168))
  let _v : Vec F S32x7168 .fp8e4m3 ← Prog.lift (.load arg12 (rows r q).toLoadRect (View.loadsAt_vmem h_S32x7168))
  Prog.lift (.store arg12 (rows r q) (codes x) Finset.univ (View.stores_vmem h_S32x7168 (harg12.storeExact_slice rfl _ (rows_packed r q)) (fun _ => rfl)) (.inl rfl))
  forFin 14 (xqStep i arg18 harg18 h r q (codes x))
  pure x

/-- One 128 × 128 block of the gradient, scaled, to the scratch. -/
def dyStep (h : k0_cond1 i = 1#1) (r : Fin 2) (sdy sx : FVec F S1x128 .f32) (n : Fin 16) : Prog (TpuEff nD τ sig (Elt F) Λ₀ .tc) PUnit := do
  let d : Vec F S128x128 .fp8e5m2 ← Prog.lift (.load arg3 (Rect.unit (s := S256x2048) ![128 * r.val, 128 * n.val] S128x128.size (inb_d r n)).toLoadRect (View.loadsAt_vmem h_S128x128))
  let _v : Vec F S128x128 .bf16 ← Prog.lift (.load arg19 (Rect.unit (s := S2048x1792) (laneOff i (128 * n.val) r) S128x128.size (inb_dyt i h r n)).toLoadRect (View.loadsAt_vmem h_S128x128))
  Prog.lift (.store arg19 (Rect.unit (s := S2048x1792) (laneOff i (128 * n.val) r) S128x128.size (inb_dyt i h r n)) (dyBlock sdy sx d) Finset.univ
    (View.stores_vmem h_S128x128 (harg19.storeExact_slice rfl _ (dyt_packed i h r n)) (fun _ => rfl)) (.inl rfl))

/-- 128 tokens. -/
def tokenStep (h : k0_cond1 i = 1#1) (r : Fin 2) : Prog (TpuEff nD τ sig (Elt F) Λ₀ .tc) PUnit := do
  let x₀ ← rowsStep i arg2 arg12 harg12 arg18 harg18 h r 0
  let x₁ ← rowsStep i arg2 arg12 harg12 arg18 harg18 h r 1
  let x₂ ← rowsStep i arg2 arg12 harg12 arg18 harg18 h r 2
  let x₃ ← rowsStep i arg2 arg12 harg12 arg18 harg18 h r 3
  let _v : Vec F S1x128 .f32 ← Prog.lift (.load arg13 (Rect.unit (s := S1x1792) (laneOff i 0 r) S1x128.size (inb_lane i h r)).toLoadRect (View.loadsAt_vmem h_S1x128))
  Prog.lift (.store arg13 (Rect.unit (s := S1x1792) (laneOff i 0 r) S1x128.size (inb_lane i h r)) (scaleRow x₀ x₁ x₂ x₃) Finset.univ (View.stores_vmem_bits_univ h_S1x128 rfl) (.inl rfl))
  let sdy : Vec F S1x128 .f32 ← Prog.lift (.load arg4 (Rect.unit (s := S1x1792) (laneOff i 0 r) S1x128.size (inb_lane i h r)).toLoadRect (View.loadsAt_vmem h_S1x128))
  forFin 16 (dyStep i arg3 arg19 harg19 h r sdy (scaleRow x₀ x₁ x₂ x₃))

/-- One 128 × 128 unit of the Adam step, at gradient `g`. -/
def unitStep (ca cb : F .f32) (g : FVec F S128x128 .f32) (ib : Fin 4) (jb : Fin 16) : Prog (TpuEff nD τ sig (Elt F) Λ₀ .tc) PUnit := do
  let mc : Vec F S128x128 .i8 ← Prog.lift (.load arg6 (cell ib jb).toLoadRect (View.loadsAt_vmem h_S128x128))
  let ms : Vec F S1x128 .f32 ← Prog.lift (.load arg7 (strip ib jb).toLoadRect (View.loadsAt_vmem h_S1x128))
  let sc : Vec F S128x128 .i8 ← Prog.lift (.load arg8 (cell ib jb).toLoadRect (View.loadsAt_vmem h_S128x128))
  let ss : Vec F S1x128 .f32 ← Prog.lift (.load arg9 (strip ib jb).toLoadRect (View.loadsAt_vmem h_S1x128))
  let _v : Vec F S128x128 .f32 ← Prog.lift (.load arg11 (cell ib jb).toLoadRect (View.loadsAt_vmem h_S128x128))
  Prog.lift (.store arg11 (cell ib jb) (update ca cb (mNew g mc ms) (sNew g sc ss)) Finset.univ (View.stores_vmem_bits_univ h_S128x128 rfl) (.inl rfl))
  let w : Vec F S128x128 .bf16 ← Prog.lift (.load arg5 (cell ib jb).toLoadRect (View.loadsAt_vmem h_S128x128))
  let _v : Vec F S128x128 .bf16 ← Prog.lift (.load arg10 (cell ib jb).toLoadRect (View.loadsAt_vmem h_S128x128))
  Prog.lift (.store arg10 (cell ib jb) (weight w (update ca cb (mNew g mc ms) (sNew g sc ss))) Finset.univ (View.stores_vmem h_S128x128 (harg10.storeExact_slice rfl _ (cell_packed_bf16 ib jb)) (fun _ => rfl)) (.inl rfl))
  let _v : Vec F S1x128 .f32 ← Prog.lift (.load arg15 (strip ib jb).toLoadRect (View.loadsAt_vmem h_S1x128))
  Prog.lift (.store arg15 (strip ib jb) (newScale (Named.named κ "m_unit" 0x3DCCCCCD#32) (colMax (absf (mNew g mc ms)))) Finset.univ (View.stores_vmem_bits_univ h_S1x128 rfl) (.inl rfl))
  let _v : Vec F S128x128 .i8 ← Prog.lift (.load arg14 (cell ib jb).toLoadRect (View.loadsAt_vmem h_S128x128))
  Prog.lift (.store arg14 (cell ib jb) (newCodes (mNew g mc ms) (colMax (absf (mNew g mc ms)))) Finset.univ (View.stores_vmem h_S128x128 (harg14.storeExact_slice rfl _ (cell_packed_i8 ib jb)) (fun _ => rfl)) (.inl rfl))
  let _v : Vec F S1x128 .f32 ← Prog.lift (.load arg17 (strip ib jb).toLoadRect (View.loadsAt_vmem h_S1x128))
  Prog.lift (.store arg17 (strip ib jb) (newScale (Named.named κ "s_unit" 0x3D0186E2#32) (colMax (sNew g sc ss))) Finset.univ (View.stores_vmem_bits_univ h_S1x128 rfl) (.inl rfl))
  let _v : Vec F S128x128 .i8 ← Prog.lift (.load arg16 (cell ib jb).toLoadRect (View.loadsAt_vmem h_S128x128))
  Prog.lift (.store arg16 (cell ib jb) (newCodes (sNew g sc ss) (colMax (sNew g sc ss))) Finset.univ (View.stores_vmem h_S128x128 (harg16.storeExact_slice rfl _ (cell_packed_i8 ib jb)) (fun _ => rfl)) (.inl rfl))

/-- The gradient of 256 output columns and 512 weight rows. -/
def grad (a : FVec F S256x1792 .bf16) (b : FVec F S1x1792x512 .fp8e4m3) : FVec F S256x512 .f32 :=
  matmul dot_S256x1792_S1792x512_S256x512_1_0_0_1_n_n none a (shapeCast S1792x512 b shapeCasts_S1x1792x512_S1792x512) (constant S256x512 .f32 0x00000000#32)

/-- The unit's part of it. -/
def gradCell (g : FVec F S256x512 .f32) (u : Fin 8) : FVec F S128x128 .f32 :=
  extractStridedSlice S128x128 ![128 * (u.val / 4), 128 * (u.val % 4)] g (slices_g u)

/-- The unit's place among the weight rows. -/
abbrev unitRow (u : Fin 8) : Fin 4 := ⟨u.val % 4, Nat.mod_lt _ (by decide)⟩
/-- The unit's place among the output columns. -/
abbrev unitCol (c u : Fin 8) : Fin 16 := ⟨2 * c.val + u.val / 4, by omega⟩

/-- 256 output columns: the gradient, then its eight units. -/
def bandStep (h : k0_cond2 i = 1#1) (ca cb : F .f32) (c : Fin 8) : Prog (TpuEff nD τ sig (Elt F) Λ₀ .tc) PUnit := do
  let a : Vec F S256x1792 .bf16 ← Prog.lift (.load arg19 (band c).toLoadRect (View.loadsAt_vmem h_S256x1792))
  let b : Vec F S1x1792x512 .fp8e4m3 ← Prog.lift (.load arg18 (Rect.unit (s := S14x1792x512) (k0_off32 i) S1x1792x512.size (k0_off32_inb i h)).toLoadRect (View.loadsAt_vmem h_S1x1792x512))
  forFin 8 fun u => unitStep arg5 arg6 arg7 arg8 arg9 arg10 harg10 arg11 arg14 harg14 arg15 arg16 harg16 arg17 ca cb
    (gradCell (grad a b) u) (unitRow u) (unitCol c u)

/-- The Adam step of one grid point. -/
def adamStep (h : k0_cond2 i = 1#1) : Prog (TpuEff nD τ sig (Elt F) Λ₀ .tc) PUnit := do
  let c₀ : Elt F .f32 ← smemLoad arg1 (Rect.unit (s := S2) ![0] S1.size inb_S2_S1_0) numel1_S1 rfl
  let c₁ : Elt F .f32 ← smemLoad arg1 (Rect.unit (s := S2) ![1] S1.size inb_S2_S1_1) numel1_S1 rfl
  forFin 8 (bandStep i arg5 arg6 arg7 arg8 arg9 arg10 harg10 arg11 arg14 harg14 arg15 arg16 harg16 arg17 arg18 arg19 h
    (Scalar.mulf c₀ (Named.named κ "lr_unit" 0xBB4F3E37#32)) (Scalar.mulf c₁ (Named.named κ "eps_unit" 0x34A9C603#32)))

/-- The body. -/
def body : Prog (TpuEff nD τ sig (Elt F) Λ₀ .tc) PUnit := do
  if h : k0_cond1 i = 1#1 then forFin 2 (tokenStep i arg2 arg3 arg4 arg12 harg12 arg13 arg18 harg18 arg19 harg19 h) else pure ⟨⟩
  if h : k0_cond2 i = 1#1 then adamStep i arg1 arg5 arg6 arg7 arg8 arg9 arg10 harg10 arg11 arg14 harg14 arg15 arg16 harg16 arg17 arg18 arg19 h else pure ⟨⟩

/-- The printed body is the body above. -/
theorem printed_eq_body :
    cc0_wgrad_adam (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
      = body i arg1 arg2 arg3 arg4 arg5 arg6 arg7 arg8 arg9 arg10 harg10 arg11 arg12 harg12 arg13 arg14 harg14 arg15 arg16 harg16 arg17 arg18 harg18 arg19 harg19 := by
  sl_kernel_rfl

end

attribute [irreducible] forFin

end Cert.KernelIdeal.Unit

end
-- ==== Proof.Tiles.lean ====
/- Tilings: a family of equal boxes in a shape, no two of them meeting, numbered in the order in which they are stored; and
   what it means that the first `n` boxes hold what they should. -/
module

public import proofs.«01_k».proof.Proof.Body
public import Idealize.ShloMosaic.Lib.VecWindow

@[expose] public section

noncomputable section

namespace Cert.KernelIdeal.Unit

open Idealize.ShloMosaic
open Cert.KernelIdeal Cert.KernelIdeal.Gen

/-- A numbered family of boxes of one size, pairwise apart. -/
structure Tiling (s : Shape) (ι : Type) where
  off : ι → Fin s.rank → ℕ
  size : Fin s.rank → ℕ
  inb : ∀ j a, off j a + size a ≤ s.size a
  key : ι → ℕ
  apart : ∀ j j', j ≠ j' → ∃ a, off j a + size a ≤ off j' a ∨ off j' a + size a ≤ off j a
  inj : ∀ j j', key j = key j' → j = j'

namespace Tiling
variable {s : Shape} {ι : Type} (T : Tiling s ι) {α : Type}

/-- What `Y` holds in box `j`. -/
def get (Y : s.Idx → α) (j : ι) : ((a : Fin s.rank) → Fin (T.size a)) → α := VecWindow.window Y (T.off j) T.size (T.inb j)
/-- `Y` with box `j` stored. -/
def put (Y : s.Idx → α) (j : ι) (w : ((a : Fin s.rank) → Fin (T.size a)) → α) : s.Idx → α := VecWindow.put Y (T.off j) T.size w

/-- The boxes numbered below `n` hold their targets. -/
def Filled (tgt : ι → ((a : Fin s.rank) → Fin (T.size a)) → α) (n : ℕ) (Y : s.Idx → α) : Prop :=
  ∀ j, T.key j < n → T.get Y j = tgt j

theorem get_put (Y : s.Idx → α) (j : ι) (w : ((a : Fin s.rank) → Fin (T.size a)) → α) : T.get (T.put Y j w) j = w :=
  VecWindow.window_put_same Y _ _ (T.inb j) w

theorem get_put_ne (Y : s.Idx → α) {j j' : ι} (h : j' ≠ j) (w : ((a : Fin s.rank) → Fin (T.size a)) → α) :
    T.get (T.put Y j w) j' = T.get Y j' := by
  obtain ⟨a, ha⟩ := T.apart j' j h
  exact VecWindow.window_put_of_disjoint Y _ _ _ _ (T.inb j') w a ha

/-- Storing the next box fills one more. -/
theorem Filled.step {tgt : ι → ((a : Fin s.rank) → Fin (T.size a)) → α} {n : ℕ} {Y : s.Idx → α} (h : T.Filled tgt n Y) (j : ι)
    (hj : T.key j = n) {w : ((a : Fin s.rank) → Fin (T.size a)) → α} (hw : w = tgt j) : T.Filled tgt (n + 1) (T.put Y j w) := by
  intro j' h'
  by_cases e : j' = j
  · subst e; rw [get_put, hw]
  · rw [get_put_ne T Y e]
    refine h j' ?_
    rcases Nat.lt_succ_iff_lt_or_eq.1 h' with h' | h'
    · exact h'
    · exact absurd (T.inj _ _ (h'.trans hj.symm)) e

theorem Filled.zero {tgt : ι → ((a : Fin s.rank) → Fin (T.size a)) → α} {Y : s.Idx → α} : T.Filled tgt 0 Y := fun _ h => absurd h (Nat.not_lt_zero _)

theorem Filled.mono {tgt : ι → ((a : Fin s.rank) → Fin (T.size a)) → α} {m n : ℕ} {Y : s.Idx → α} (h : T.Filled tgt n Y) (hm : m ≤ n) : T.Filled tgt m Y :=
  fun j hj => h j (lt_of_lt_of_le hj hm)

/-- The value at a place of box `j`. -/
theorem get_apply (Y : s.Idx → α) (j : ι) (z : (a : Fin s.rank) → Fin (T.size a)) (y : s.Idx) (h : ∀ a, (y a).val = T.off j a + (z a).val) :
    T.get Y j z = Y y := by
  refine congrArg Y (funext fun a => Fin.ext ?_)
  have e : ((Rect.unit (T.off j) T.size (T.inb j)).emb z a).val = T.off j a + 1 * (z a).val := rfl
  rw [e, h a]; omega
end Tiling

/-- The 128 × 128 cells of a weight-shaped block. -/
def cells : Tiling S512x2048 (Fin 4 × Fin 16) where
  off j := ![128 * j.1.val, 128 * j.2.val]
  size := S128x128.size
  inb j := inb_cell j.1 j.2
  key j := 4 * j.2.val + j.1.val
  apart j j' h := by
    rcases Nat.lt_trichotomy j.1.val j'.1.val with e | e | e
    · exact ⟨0, .inl (show 128 * j.1.val + 128 ≤ 128 * j'.1.val by omega)⟩
    · rcases Nat.lt_trichotomy j.2.val j'.2.val with e' | e' | e'
      · exact ⟨1, .inl (show 128 * j.2.val + 128 ≤ 128 * j'.2.val by omega)⟩
      · exact absurd (Prod.ext (Fin.ext e) (Fin.ext e')) h
      · exact ⟨1, .inr (show 128 * j'.2.val + 128 ≤ 128 * j.2.val by omega)⟩
    · exact ⟨0, .inr (show 128 * j'.1.val + 128 ≤ 128 * j.1.val by omega)⟩
  inj j j' h := Prod.ext (Fin.ext (by omega)) (Fin.ext (by omega))

/-- Their scales. -/
def strips : Tiling S16x512 (Fin 4 × Fin 16) where
  off j := ![j.2.val, 128 * j.1.val]
  size := S1x128.size
  inb j := inb_strip j.1 j.2
  key j := 4 * j.2.val + j.1.val
  apart j j' h := by
    rcases Nat.lt_trichotomy j.1.val j'.1.val with e | e | e
    · exact ⟨1, .inl (show 128 * j.1.val + 128 ≤ 128 * j'.1.val by omega)⟩
    · rcases Nat.lt_trichotomy j.2.val j'.2.val with e' | e' | e'
      · exact ⟨0, .inl (show j.2.val + 1 ≤ j'.2.val by omega)⟩
      · exact absurd (Prod.ext (Fin.ext e) (Fin.ext e')) h
      · exact ⟨0, .inr (show j'.2.val + 1 ≤ j.2.val by omega)⟩
    · exact ⟨1, .inr (show 128 * j'.1.val + 128 ≤ 128 * j.1.val by omega)⟩
  inj j j' h := Prod.ext (Fin.ext (by omega)) (Fin.ext (by omega))

/-- The 32-row bands of a token block. -/
def rowBands : Tiling S256x7168 (Fin 2 × Fin 4) where
  off j := ![128 * j.1.val + 32 * j.2.val, 0]
  size := S32x7168.size
  inb j := inb_rows j.1 j.2
  key j := 4 * j.1.val + j.2.val
  apart j j' h := by
    refine ⟨0, ?_⟩
    show 128 * j.1.val + 32 * j.2.val + 32 ≤ 128 * j'.1.val + 32 * j'.2.val ∨ 128 * j'.1.val + 32 * j'.2.val + 32 ≤ 128 * j.1.val + 32 * j.2.val
    have : ¬(j.1.val = j'.1.val ∧ j.2.val = j'.2.val) := fun e => h (Prod.ext (Fin.ext e.1) (Fin.ext e.2))
    omega
  inj j j' h := Prod.ext (Fin.ext (by omega)) (Fin.ext (by omega))

/-- The code scratch: 32 tokens by 512 columns. -/
def slabs : Tiling S14x1792x512 (Fin 56 × Fin 14) where
  off j := ![j.2.val, 32 * j.1.val, 0]
  size := S1x32x512.size
  inb j a := by
    match a with
    | 0 => show j.2.val + 1 ≤ 14; omega
    | 1 => show 32 * j.1.val + 32 ≤ 1792; omega
    | 2 => show 0 + 512 ≤ 512; omega
  key j := 14 * j.1.val + j.2.val
  apart j j' h := by
    rcases Nat.lt_trichotomy j.1.val j'.1.val with e | e | e
    · exact ⟨1, .inl (show 32 * j.1.val + 32 ≤ 32 * j'.1.val by omega)⟩
    · rcases Nat.lt_trichotomy j.2.val j'.2.val with e' | e' | e'
      · exact ⟨0, .inl (show j.2.val + 1 ≤ j'.2.val by omega)⟩
      · exact absurd (Prod.ext (Fin.ext e) (Fin.ext e')) h
      · exact ⟨0, .inr (show j'.2.val + 1 ≤ j.2.val by omega)⟩
    · exact ⟨1, .inr (show 32 * j'.1.val + 32 ≤ 32 * j.1.val by omega)⟩
  inj j j' h := Prod.ext (Fin.ext (by omega)) (Fin.ext (by omega))

/-- The token scales: 128 tokens. -/
def lanes : Tiling S1x1792 (Fin 14) where
  off j := ![0, 128 * j.val]
  size := S1x128.size
  inb j a := by
    match a with
    | 0 => show 0 + 1 ≤ 1; omega
    | 1 => show 128 * j.val + 128 ≤ 1792; omega
  key j := j.val
  apart j j' h := by
    refine ⟨1, ?_⟩
    show 128 * j.val + 128 ≤ 128 * j'.val ∨ 128 * j'.val + 128 ≤ 128 * j.val
    have : j.val ≠ j'.val := fun e => h (Fin.ext e)
    omega
  inj j j' h := Fin.ext h

/-- The scaled gradient: 128 output columns by 128 tokens. -/
def blocks : Tiling S2048x1792 (Fin 14 × Fin 16) where
  off j := ![128 * j.2.val, 128 * j.1.val]
  size := S128x128.size
  inb j a := by
    match a with
    | 0 => show 128 * j.2.val + 128 ≤ 2048; omega
    | 1 => show 128 * j.1.val + 128 ≤ 1792; omega
  key j := 16 * j.1.val + j.2.val
  apart j j' h := by
    rcases Nat.lt_trichotomy j.1.val j'.1.val with e | e | e
    · exact ⟨1, .inl (show 128 * j.1.val + 128 ≤ 128 * j'.1.val by omega)⟩
    · rcases Nat.lt_trichotomy j.2.val j'.2.val with e' | e' | e'
      · exact ⟨0, .inl (show 128 * j.2.val + 128 ≤ 128 * j'.2.val by omega)⟩
      · exact absurd (Prod.ext (Fin.ext e) (Fin.ext e')) h
      · exact ⟨0, .inr (show 128 * j'.2.val + 128 ≤ 128 * j.2.val by omega)⟩
    · exact ⟨1, .inr (show 128 * j'.1.val + 128 ≤ 128 * j.1.val by omega)⟩
  inj j j' h := Prod.ext (Fin.ext (by omega)) (Fin.ext (by omega))

end Cert.KernelIdeal.Unit

end
-- ==== Proof.Triples.lean ====
/- What each piece of the body does to the buffers it touches: one 128 × 128 unit of the Adam step, 32 rows of the token
   step, one block of the scaled gradient; and the rule for a counted loop. -/
module

public import proofs.«01_k».proof.Proof.Tiles
public import Idealize.ShloMosaic.Lib.Tactic
public import Idealize.ShloMosaic.Lib.WordCmp
public import Idealize.ShloMosaic.Lib.VecWindow

@[expose] public section

set_option maxRecDepth 16384

noncomputable section

namespace Cert.KernelIdeal.Unit

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.View (ld)
open Cert.KernelIdeal Cert.KernelIdeal.Gen

variable {F : FTy → Type} [FloatOps F] [Named F]

local notation "𝕄" => MT nD τ sig Unit (Elt F) ℕ (UR sig nD τ) ℕ

section
variable (c : Dev nD)

/-- A buffer at known raw contents is owned at what they read. -/
theorem owns_mk {sp : Space} {sh : Shape} {e : EltTy} (m : Memref sig .tc sp sh e) (f : m.view.ty.Contents (Elt F)) :
    iprop(m.view.loc (c : Thread nD τ) ↦[m.view.set]{fullShare} f) ⊢ (iprop(∃ f', ⌜m.view.read (Elt F) f' = m.view.read (Elt F) f⌝ ∗ m.view.loc (c : Thread nD τ) ↦[m.view.set]{fullShare} f') : sProp 𝕄) := by
  iintro H; iexists _; isplitr; swap; iexact H; ipureintro; rfl

/-- A buffer after one store, at a computed offset, is owned at its contents with the payload put there. -/
theorem owns_stored {sp : Space} {sh : Shape} {e : EltTy} (m : Memref sig .tc sp sh e) (f : m.view.ty.Contents (Elt F)) {off off' size : Fin sh.rank → ℕ}
    (inb : ∀ a, off a + size a ≤ sh.size a) (w : (Rect.unit off size inb).shape.Idx → Elt F e) (h : off = off') :
    iprop(m.view.loc (c : Thread nD τ) ↦[m.view.set]{fullShare} m.view.writes (Elt F) f [⟨Rect.unit off size inb, w⟩])
      ⊢ (iprop(∃ f', ⌜m.view.read (Elt F) f' = VecWindow.put (m.view.read (Elt F) f) off' size w⌝ ∗ m.view.loc (c : Thread nD τ) ↦[m.view.set]{fullShare} f') : sProp 𝕄) := by
  iintro H; iexists _; isplitr; swap; iexact H; ipureintro
  exact View.read_writes_cons_put m.view f inb w [] h

/-- A load gives the box it names. -/
theorem load_triple (E : Set ℕ) {sh : Shape} {e : EltTy} (m : Memref sig .tc .vmem sh e) (r : Rect sh) (hl : m.view.LoadsAt r.toLoadRect) (X : sh.Idx → Elt F e)
    (K : (r.shape.Idx → Elt F e) → sProp 𝕄) :
    iprop(owns (c : Thread nD τ) m fullShare X ∗ (owns (c : Thread nD τ) m fullShare X -∗ K (ld (Val := Elt F) (e' := e) X r)))
      ⊢ wp frame (wpE (defs₀ (F := F)) Variants.none (c : Thread nD τ) none) E (Prog.lift (.load m r.toLoadRect hl)) K := by
  unfold owns
  iintro ⟨⟨%f, %hf, H⟩, Hk⟩
  subst hf
  sl_exec
  sl_step
  rw [View.readAt_eq_ld]
  iapply Hk
  iapply (owns_mk c m f); iexact H

/-- An unmasked store puts its payload into the box it names. -/
theorem store_triple (E : Set ℕ) {sh : Shape} {e : EltTy} (m : Memref sig .tc .vmem sh e) {off size : Fin sh.rank → ℕ}
    (inb : ∀ a, off a + size a ≤ sh.size a) (w : (Rect.unit off size inb).shape.Idx → Elt F e)
    (hs) (hm) (Y : sh.Idx → Elt F e) (K : PUnit → sProp 𝕄) :
    iprop(owns (c : Thread nD τ) m fullShare Y ∗ (owns (c : Thread nD τ) m fullShare (VecWindow.put Y off size w) -∗ K ⟨⟩))
      ⊢ wp frame (wpE (defs₀ (F := F)) Variants.none (c : Thread nD τ) none) E (Prog.lift (.store m (Rect.unit off size inb) w Finset.univ hs hm)) K := by
  unfold owns
  iintro ⟨⟨%f, %hf, H⟩, Hk⟩
  subst hf
  sl_exec
  sl_step
  iapply Hk
  iapply (owns_stored c m f inb w rfl); iexact H

/-- A loop keeps an indexed invariant that each round advances by one. -/
theorem wp_forFin (E : Set ℕ) (I : ℕ → sProp 𝕄) : ∀ (n : ℕ) (f : Fin n → Prog (TpuEff nD τ sig (Elt F) Λ₀ .tc) PUnit)
    (h : ∀ (k : Fin n) (K : PUnit → sProp 𝕄), iprop(I k.val ∗ (I (k.val + 1) -∗ K ⟨⟩)) ⊢ wp frame (wpE (defs₀ (F := F)) Variants.none (c : Thread nD τ) none) E (f k) K)
    (K : PUnit → sProp 𝕄),
    iprop(I 0 ∗ (I n -∗ K ⟨⟩)) ⊢ wp frame (wpE (defs₀ (F := F)) Variants.none (c : Thread nD τ) none) E (forFin n f) K
  | 0, f, h, K => by
    rw [forFin_zero, wp_pure]
    iintro ⟨H, Hk⟩
    imodintro
    iapply Hk; iexact H
  | n + 1, f, h, K => by
    rw [forFin_succ, wp_bind]
    refine .trans ?_ (wp_forFin E I n (fun i => f i.castSucc) (fun k K => h k.castSucc K) _)
    iintro ⟨H, Hk⟩
    isplitl [H]; · iexact H
    iintro H
    iapply (show iprop(I n ∗ (I (n + 1) -∗ K ⟨⟩)) ⊢ _ from h (Fin.last n) K)
    isplitl [H]; · iexact H
    iexact Hk

variable (arg1 : Memref sig .tc .smem S2 .f32) (arg2 : Memref sig .tc .vmem S256x7168 .bf16) (arg3 : Memref sig .tc .vmem S256x2048 .fp8e5m2) (arg4 : Memref sig .tc .vmem S1x1792 .f32) (arg5 : Memref sig .tc .vmem S512x2048 .bf16) (arg6 : Memref sig .tc .vmem S512x2048 .i8) (arg7 : Memref sig .tc .vmem S16x512 .f32) (arg8 : Memref sig .tc .vmem S512x2048 .i8) (arg9 : Memref sig .tc .vmem S16x512 .f32) (arg10 : Memref sig .tc .vmem S512x2048 .bf16) (harg10 : arg10.IsWhole) (arg11 : Memref sig .tc .vmem S512x2048 .f32) (arg12 : Memref sig .tc .vmem S256x7168 .fp8e4m3) (harg12 : arg12.IsWhole) (arg13 : Memref sig .tc .vmem S1x1792 .f32) (arg14 : Memref sig .tc .vmem S512x2048 .i8) (harg14 : arg14.IsWhole) (arg15 : Memref sig .tc .vmem S16x512 .f32) (arg16 : Memref sig .tc .vmem S512x2048 .i8) (harg16 : arg16.IsWhole) (arg17 : Memref sig .tc .vmem S16x512 .f32) (arg18 : Memref sig .tc .vmem S14x1792x512 .fp8e4m3) (harg18 : arg18.IsWhole) (arg19 : Memref sig .tc .vmem S2048x1792 .bf16) (harg19 : arg19.IsWhole)

/-! ## The Adam unit -/

/-- The five weight-shaped blocks that the Adam step reads. -/
structure Old (F : FTy → Type) where
  w : Vec F S512x2048 .bf16
  mc : Vec F S512x2048 .i8
  ms : Vec F S16x512 .f32
  sc : Vec F S512x2048 .i8
  ss : Vec F S16x512 .f32

/-- The six that it writes. -/
structure New (F : FTy → Type) where
  w : Vec F S512x2048 .bf16
  u : Vec F S512x2048 .f32
  mc : Vec F S512x2048 .i8
  ms : Vec F S16x512 .f32
  sc : Vec F S512x2048 .i8
  ss : Vec F S16x512 .f32

/-- A unit's new first moment. -/
def mAt (X : Old F) (g : FVec F S128x128 .f32) (ib : Fin 4) (jb : Fin 16) : FVec F S128x128 .f32 :=
  mNew g (ld X.mc (cell ib jb)) (ld X.ms (strip ib jb))
/-- The square root of its new second moment. -/
def sAt (X : Old F) (g : FVec F S128x128 .f32) (ib : Fin 4) (jb : Fin 16) : FVec F S128x128 .f32 :=
  sNew g (ld X.sc (cell ib jb)) (ld X.ss (strip ib jb))
/-- Its update. -/
def uAt (X : Old F) (ca cb : F .f32) (g : FVec F S128x128 .f32) (ib : Fin 4) (jb : Fin 16) : FVec F S128x128 .f32 :=
  update ca cb (mAt X g ib jb) (sAt X g ib jb)

/-- The six blocks after one more unit. -/
def New.put (X : Old F) (ca cb : F .f32) (g : FVec F S128x128 .f32) (ib : Fin 4) (jb : Fin 16) (Y : New F) : New F where
  w := cells.put Y.w (ib, jb) (weight (ld X.w (cell ib jb)) (uAt X ca cb g ib jb))
  u := cells.put Y.u (ib, jb) (uAt X ca cb g ib jb)
  mc := cells.put Y.mc (ib, jb) (newCodes (mAt X g ib jb) (colMax (absf (mAt X g ib jb))))
  ms := strips.put Y.ms (ib, jb) (newScale (Named.named κ "m_unit" 0x3DCCCCCD#32) (colMax (absf (mAt X g ib jb))))
  sc := cells.put Y.sc (ib, jb) (newCodes (sAt X g ib jb) (colMax (sAt X g ib jb)))
  ss := strips.put Y.ss (ib, jb) (newScale (Named.named κ "s_unit" 0x3D0186E2#32) (colMax (sAt X g ib jb)))

/-- The buffers of the five. -/
def OldAt (X : Old F) : sProp 𝕄 :=
  iprop(owns (c : Thread nD τ) arg5 fullShare X.w ∗ owns (c : Thread nD τ) arg6 fullShare X.mc ∗ owns (c : Thread nD τ) arg7 fullShare X.ms
    ∗ owns (c : Thread nD τ) arg8 fullShare X.sc ∗ owns (c : Thread nD τ) arg9 fullShare X.ss)
/-- The buffers of the six. -/
def NewAt (Y : New F) : sProp 𝕄 :=
  iprop(owns (c : Thread nD τ) arg10 fullShare Y.w ∗ owns (c : Thread nD τ) arg11 fullShare Y.u ∗ owns (c : Thread nD τ) arg14 fullShare Y.mc
    ∗ owns (c : Thread nD τ) arg15 fullShare Y.ms ∗ owns (c : Thread nD τ) arg16 fullShare Y.sc ∗ owns (c : Thread nD τ) arg17 fullShare Y.ss)

/-- One unit of the Adam step stores the unit's six new blocks. -/
theorem unit_triple (E : Set ℕ) (X : Old F) (Y : New F) (ca cb : F .f32) (g : FVec F S128x128 .f32) (ib : Fin 4) (jb : Fin 16)
    (K : PUnit → sProp 𝕄) :
    iprop(OldAt c arg5 arg6 arg7 arg8 arg9 X ∗ NewAt c arg10 arg11 arg14 arg15 arg16 arg17 Y
        ∗ ((OldAt c arg5 arg6 arg7 arg8 arg9 X ∗ NewAt c arg10 arg11 arg14 arg15 arg16 arg17 (Y.put X ca cb g ib jb)) -∗ K ⟨⟩))
      ⊢ wp frame (wpE (defs₀ (F := F)) Variants.none (c : Thread nD τ) none) E
        (unitStep arg5 arg6 arg7 arg8 arg9 arg10 harg10 arg11 arg14 harg14 arg15 arg16 harg16 arg17 ca cb g ib jb) K := by
  obtain ⟨X5, X6, X7, X8, X9⟩ := X
  obtain ⟨Y10, Y11, Y14, Y15, Y16, Y17⟩ := Y
  unfold OldAt NewAt owns New.put uAt sAt mAt
  dsimp only
  iintro ⟨⟨⟨%f5, %h5, H5⟩, ⟨%f6, %h6, H6⟩, ⟨%f7, %h7, H7⟩, ⟨%f8, %h8, H8⟩, ⟨%f9, %h9, H9⟩⟩, ⟨⟨%f10, %h10, H10⟩, ⟨%f11, %h11, H11⟩, ⟨%f14, %h14, H14⟩, ⟨%f15, %h15, H15⟩, ⟨%f16, %h16, H16⟩, ⟨%f17, %h17, H17⟩⟩, Hk⟩
  subst h5 h6 h7 h8 h9 h10 h11 h14 h15 h16 h17
  unfold unitStep
  sl_exec
  sl_step
  iapply Hk
  isplitl [H5 H6 H7 H8 H9]
  · isplitl [H5]; · iapply (owns_mk c arg5 f5); iexact H5
    isplitl [H6]; · iapply (owns_mk c arg6 f6); iexact H6
    isplitl [H7]; · iapply (owns_mk c arg7 f7); iexact H7
    isplitl [H8]; · iapply (owns_mk c arg8 f8); iexact H8
    iapply (owns_mk c arg9 f9); iexact H9
  · isplitl [H10]; · iapply (owns_stored c arg10 f10 (inb_cell ib jb) (h := rfl)); iexact H10
    isplitl [H11]; · iapply (owns_stored c arg11 f11 (inb_cell ib jb) (h := rfl)); iexact H11
    isplitl [H14]; · iapply (owns_stored c arg14 f14 (inb_cell ib jb) (h := rfl)); iexact H14
    isplitl [H15]; · iapply (owns_stored c arg15 f15 (inb_strip ib jb) (h := rfl)); iexact H15
    isplitl [H16]; · iapply (owns_stored c arg16 f16 (inb_cell ib jb) (h := rfl)); iexact H16
    iapply (owns_stored c arg17 f17 (inb_strip ib jb) (h := rfl)); iexact H17

/-- A buffer whose first `n` boxes hold their targets. -/
def FilledAt {sp : Space} {sh : Shape} {e : EltTy} {ι : Type} (m : Memref sig .tc sp sh e) (T : Tiling sh ι)
    (tgt : ι → ((a : Fin sh.rank) → Fin (T.size a)) → Elt F e) (n : ℕ) : sProp 𝕄 :=
  iprop(∃ Y, ⌜T.Filled tgt n Y⌝ ∗ owns (c : Thread nD τ) m fullShare Y)

theorem FilledAt.open {sp : Space} {sh : Shape} {e : EltTy} {ι : Type} (m : Memref sig .tc sp sh e) (T : Tiling sh ι)
    (tgt : ι → ((a : Fin sh.rank) → Fin (T.size a)) → Elt F e) (n : ℕ) :
    (FilledAt c m T tgt n : sProp 𝕄) ⊢ iprop(∃ Y, ⌜T.Filled tgt n Y⌝ ∗ owns (c : Thread nD τ) m fullShare Y) := .rfl

theorem FilledAt.mk {sp : Space} {sh : Shape} {e : EltTy} {ι : Type} (m : Memref sig .tc sp sh e) {T : Tiling sh ι}
    {tgt : ι → ((a : Fin sh.rank) → Fin (T.size a)) → Elt F e} {n : ℕ} {Y : sh.Idx → Elt F e} (h : T.Filled tgt n Y) :
    (owns (c : Thread nD τ) m fullShare Y : sProp 𝕄) ⊢ FilledAt c m T tgt n := by
  unfold FilledAt
  iintro H; iexists Y; isplitr; swap; iexact H; ipureintro; exact h

theorem FilledAt.cast {sp : Space} {sh : Shape} {e : EltTy} {ι : Type} (m : Memref sig .tc sp sh e) {T : Tiling sh ι}
    {tgt : ι → ((a : Fin sh.rank) → Fin (T.size a)) → Elt F e} {n n' : ℕ} (h : n = n') :
    (FilledAt c m T tgt n : sProp 𝕄) ⊢ FilledAt c m T tgt n' := by subst h; exact .rfl

/-- The six written buffers with the first `n` units done. -/
def NewFilled (X : Old F) (ca cb : F .f32) (g : Fin 4 → Fin 16 → FVec F S128x128 .f32) (n : ℕ) (Y : New F) : Prop :=
  cells.Filled (fun j => weight (ld X.w (cell j.1 j.2)) (uAt X ca cb (g j.1 j.2) j.1 j.2)) n Y.w
  ∧ cells.Filled (fun j => uAt X ca cb (g j.1 j.2) j.1 j.2) n Y.u
  ∧ cells.Filled (fun j => newCodes (mAt X (g j.1 j.2) j.1 j.2) (colMax (absf (mAt X (g j.1 j.2) j.1 j.2)))) n Y.mc
  ∧ strips.Filled (fun j => newScale (Named.named κ "m_unit" 0x3DCCCCCD#32) (colMax (absf (mAt X (g j.1 j.2) j.1 j.2)))) n Y.ms
  ∧ cells.Filled (fun j => newCodes (sAt X (g j.1 j.2) j.1 j.2) (colMax (sAt X (g j.1 j.2) j.1 j.2))) n Y.sc
  ∧ strips.Filled (fun j => newScale (Named.named κ "s_unit" 0x3D0186E2#32) (colMax (sAt X (g j.1 j.2) j.1 j.2))) n Y.ss

theorem NewFilled.step {X : Old F} {ca cb : F .f32} {g : Fin 4 → Fin 16 → FVec F S128x128 .f32} {n : ℕ} {Y : New F}
    (h : NewFilled X ca cb g n Y) (ib : Fin 4) (jb : Fin 16) (hn : 4 * jb.val + ib.val = n) :
    NewFilled X ca cb g (n + 1) (Y.put X ca cb (g ib jb) ib jb) :=
  ⟨h.1.step cells (ib, jb) hn rfl, h.2.1.step cells (ib, jb) hn rfl, h.2.2.1.step cells (ib, jb) hn rfl,
    h.2.2.2.1.step strips (ib, jb) hn rfl, h.2.2.2.2.1.step cells (ib, jb) hn rfl, h.2.2.2.2.2.step strips (ib, jb) hn rfl⟩

/-- The gradient of a unit, from the scaled gradient and the codes. -/
def gAt (D : FVec F S2048x1792 .bf16) (b : FVec F S1x1792x512 .fp8e4m3) (ib : Fin 4) (jb : Fin 16) : FVec F S128x128 .f32 :=
  gradCell (grad (ld (Val := Elt F) (e' := .bf16) D (band ⟨jb.val / 2, by omega⟩)) b) ⟨4 * (jb.val % 2) + ib.val, by omega⟩

/-- The loop over the eight units of 256 output columns. -/
theorem units_triple (E : Set ℕ) (X : Old F) (ca cb : F .f32) (D : FVec F S2048x1792 .bf16) (b : FVec F S1x1792x512 .fp8e4m3)
    (k : Fin 8) (K : PUnit → sProp 𝕄) :
    iprop((OldAt c arg5 arg6 arg7 arg8 arg9 X ∗ ∃ Y, ⌜NewFilled X ca cb (gAt D b) (8 * k.val) Y⌝ ∗ NewAt c arg10 arg11 arg14 arg15 arg16 arg17 Y)
        ∗ ((OldAt c arg5 arg6 arg7 arg8 arg9 X ∗ ∃ Y, ⌜NewFilled X ca cb (gAt D b) (8 * (k.val + 1)) Y⌝ ∗ NewAt c arg10 arg11 arg14 arg15 arg16 arg17 Y) -∗ K ⟨⟩))
      ⊢ wp frame (wpE (defs₀ (F := F)) Variants.none (c : Thread nD τ) none) E
        (forFin 8 fun u => unitStep arg5 arg6 arg7 arg8 arg9 arg10 harg10 arg11 arg14 harg14 arg15 arg16 harg16 arg17 ca cb
          (gradCell (grad (ld (Val := Elt F) (e' := .bf16) D (band k)) b) u) (unitRow u) (unitCol k u)) K := by
  refine wp_forFin c E (fun n => iprop(OldAt c arg5 arg6 arg7 arg8 arg9 X ∗ ∃ Y, ⌜NewFilled X ca cb (gAt D b) (8 * k.val + n) Y⌝ ∗ NewAt c arg10 arg11 arg14 arg15 arg16 arg17 Y))
    8 _ (fun u K => ?_) K
  iintro ⟨⟨HX, ⟨%Y, %hY, HY⟩⟩, Hk⟩
  have hg : gradCell (grad (ld (Val := Elt F) (e' := .bf16) D (band k)) b) u = gAt D b (unitRow u) (unitCol k u) := by
    unfold gAt
    have e₁ : (⟨(unitCol k u).val / 2, by omega⟩ : Fin 8) = k := Fin.ext (by show (2 * k.val + u.val / 4) / 2 = k.val; omega)
    have e₂ : (⟨4 * ((unitCol k u).val % 2) + (unitRow u).val, by omega⟩ : Fin 8) = u :=
      Fin.ext (by show 4 * ((2 * k.val + u.val / 4) % 2) + u.val % 4 = u.val; omega)
    rw [e₁, e₂]
  rw [hg]
  iapply (unit_triple c arg5 arg6 arg7 arg8 arg9 arg10 harg10 arg11 arg14 harg14 arg15 arg16 harg16 arg17 E X Y ca cb _ (unitRow u) (unitCol k u) K)
  isplitl [HX]; · iexact HX
  isplitl [HY]; · iexact HY
  iintro ⟨HX, HY⟩
  iapply Hk
  isplitl [HX]; · iexact HX
  iexists _; isplitr; swap; iexact HY
  ipureintro
  exact hY.step (unitRow u) (unitCol k u) (by show 4 * (2 * k.val + u.val / 4) + u.val % 4 = 8 * k.val + u.val; omega)

/-- 256 output columns of the Adam step. -/
theorem band_triple (i : grid0.Coords) (h : k0_cond2 i = 1#1) (E : Set ℕ) (X : Old F) (ca cb : F .f32) (Q : Vec F S14x1792x512 .fp8e4m3)
    (D : FVec F S2048x1792 .bf16) (k : Fin 8) (K : PUnit → sProp 𝕄) :
    iprop((owns (c : Thread nD τ) arg18 fullShare Q ∗ owns (c : Thread nD τ) arg19 fullShare D ∗ OldAt c arg5 arg6 arg7 arg8 arg9 X
          ∗ ∃ Y, ⌜NewFilled X ca cb (gAt D (ld Q (Rect.unit (s := S14x1792x512) (k0_off32 i) S1x1792x512.size (k0_off32_inb i h)))) (8 * k.val) Y⌝ ∗ NewAt c arg10 arg11 arg14 arg15 arg16 arg17 Y)
        ∗ ((owns (c : Thread nD τ) arg18 fullShare Q ∗ owns (c : Thread nD τ) arg19 fullShare D ∗ OldAt c arg5 arg6 arg7 arg8 arg9 X
          ∗ ∃ Y, ⌜NewFilled X ca cb (gAt D (ld Q (Rect.unit (s := S14x1792x512) (k0_off32 i) S1x1792x512.size (k0_off32_inb i h)))) (8 * (k.val + 1)) Y⌝ ∗ NewAt c arg10 arg11 arg14 arg15 arg16 arg17 Y) -∗ K ⟨⟩))
      ⊢ wp frame (wpE (defs₀ (F := F)) Variants.none (c : Thread nD τ) none) E
        (bandStep i arg5 arg6 arg7 arg8 arg9 arg10 harg10 arg11 arg14 harg14 arg15 arg16 harg16 arg17 arg18 arg19 h ca cb k) K := by
  iintro ⟨⟨H18, H19, HX, HY⟩, Hk⟩
  unfold bandStep
  rw [wp_bind]
  iapply (load_triple c E arg19 (band k) _ D)
  isplitl [H19]; · iexact H19
  iintro H19
  rw [wp_bind]
  iapply (load_triple c E arg18 _ _ Q)
  isplitl [H18]; · iexact H18
  iintro H18
  iapply (units_triple c arg5 arg6 arg7 arg8 arg9 arg10 harg10 arg11 arg14 harg14 arg15 arg16 harg16 arg17 E X ca cb _ _ k K)
  isplitl [HX HY]
  · isplitl [HX]; · iexact HX
    iexact HY
  iintro ⟨HX, HY⟩
  iapply Hk
  isplitl [H18]; · iexact H18
  isplitl [H19]; · iexact H19
  isplitl [HX]; · iexact HX
  iexact HY

end

end Cert.KernelIdeal.Unit

end
-- ==== Proof.Steps.lean ====
/- The Adam step of a grid point as a whole, and the token step: 128 tokens quantised, their codes, scales and scaled
   gradients stored. -/
module

public import proofs.«01_k».proof.Proof.Triples

@[expose] public section

set_option maxRecDepth 16384

noncomputable section

namespace Cert.KernelIdeal.Unit

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.View (ld)
open Cert.KernelIdeal Cert.KernelIdeal.Gen

variable {F : FTy → Type} [FloatOps F] [Named F]

local notation "𝕄" => MT nD τ sig Unit (Elt F) ℕ (UR sig nD τ) ℕ

section
variable (c : Dev nD)

variable (arg1 : Memref sig .tc .smem S2 .f32) (arg2 : Memref sig .tc .vmem S256x7168 .bf16) (arg3 : Memref sig .tc .vmem S256x2048 .fp8e5m2) (arg4 : Memref sig .tc .vmem S1x1792 .f32) (arg5 : Memref sig .tc .vmem S512x2048 .bf16) (arg6 : Memref sig .tc .vmem S512x2048 .i8) (arg7 : Memref sig .tc .vmem S16x512 .f32) (arg8 : Memref sig .tc .vmem S512x2048 .i8) (arg9 : Memref sig .tc .vmem S16x512 .f32) (arg10 : Memref sig .tc .vmem S512x2048 .bf16) (harg10 : arg10.IsWhole) (arg11 : Memref sig .tc .vmem S512x2048 .f32) (arg12 : Memref sig .tc .vmem S256x7168 .fp8e4m3) (harg12 : arg12.IsWhole) (arg13 : Memref sig .tc .vmem S1x1792 .f32) (arg14 : Memref sig .tc .vmem S512x2048 .i8) (harg14 : arg14.IsWhole) (arg15 : Memref sig .tc .vmem S16x512 .f32) (arg16 : Memref sig .tc .vmem S512x2048 .i8) (harg16 : arg16.IsWhole) (arg17 : Memref sig .tc .vmem S16x512 .f32) (arg18 : Memref sig .tc .vmem S14x1792x512 .fp8e4m3) (harg18 : arg18.IsWhole) (arg19 : Memref sig .tc .vmem S2048x1792 .bf16) (harg19 : arg19.IsWhole)

/-- The place of coefficient `k`. -/
def coefIx (k : Fin 2) : S2.Idx := fun a => Fin.cast (by match a with | 0 => rfl) k

/-- The two coefficients. -/
theorem coef_triple (E : Set ℕ) (C : S2.Idx → Elt F .f32) (k : Fin 2) (inb : ∀ a, (![k.val] : Fin 1 → ℕ) a + S1.size a ≤ S2.size a)
    (K : Elt F .f32 → sProp 𝕄) :
    iprop(owns (c : Thread nD τ) arg1 fullShare C ∗ (owns (c : Thread nD τ) arg1 fullShare C -∗ K (C (coefIx k))))
      ⊢ wp frame (wpE (defs₀ (F := F)) Variants.none (c : Thread nD τ) none) E
        (smemLoad arg1 (Rect.unit (s := S2) ![k.val] S1.size inb) numel1_S1 rfl) K := by
  unfold owns
  iintro ⟨⟨%f, %hf, H⟩, Hk⟩
  subst hf
  unfold smemLoad
  sl_exec
  sl_step
  have e : ∀ x : (Rect.unit (s := S2) ![k.val] S1.size inb).shape.Idx, (Rect.unit (s := S2) ![k.val] S1.size inb).idx x = coefIx k := fun x =>
    funext fun a => by
      match a with
      | 0 =>
        refine Fin.ext ?_
        have h1 : (((Rect.unit (s := S2) ![k.val] S1.size inb).idx x) 0).val = k.val + 1 * (x 0).val := rfl
        have h2 : (x 0).val < 1 := (x 0).isLt
        show (((Rect.unit (s := S2) ![k.val] S1.size inb).idx x) 0).val = k.val
        omega
  simp only [View.readAt_apply, View.readAt_eq_ld, ld, e]
  iapply Hk
  iapply (owns_mk c arg1 f); iexact H

/-- The Adam step of a grid point. -/
theorem adam_triple (i : grid0.Coords) (h : k0_cond2 i = 1#1) (E : Set ℕ) (C : S2.Idx → Elt F .f32) (X : Old F) (Y : New F) (Q : Vec F S14x1792x512 .fp8e4m3)
    (D : FVec F S2048x1792 .bf16) (K : PUnit → sProp 𝕄) :
    iprop(owns (c : Thread nD τ) arg1 fullShare C ∗ owns (c : Thread nD τ) arg18 fullShare Q ∗ owns (c : Thread nD τ) arg19 fullShare D ∗ OldAt c arg5 arg6 arg7 arg8 arg9 X
          ∗ NewAt c arg10 arg11 arg14 arg15 arg16 arg17 Y
        ∗ ((owns (c : Thread nD τ) arg1 fullShare C ∗ owns (c : Thread nD τ) arg18 fullShare Q ∗ owns (c : Thread nD τ) arg19 fullShare D ∗ OldAt c arg5 arg6 arg7 arg8 arg9 X
          ∗ ∃ Y, ⌜NewFilled X (Scalar.mulf (C (coefIx 0)) (Named.named κ "lr_unit" 0xBB4F3E37#32)) (Scalar.mulf (C (coefIx 1)) (Named.named κ "eps_unit" 0x34A9C603#32))
              (gAt D (ld Q (Rect.unit (s := S14x1792x512) (k0_off32 i) S1x1792x512.size (k0_off32_inb i h)))) 64 Y⌝
            ∗ NewAt c arg10 arg11 arg14 arg15 arg16 arg17 Y) -∗ K ⟨⟩))
      ⊢ wp frame (wpE (defs₀ (F := F)) Variants.none (c : Thread nD τ) none) E
        (adamStep i arg1 arg5 arg6 arg7 arg8 arg9 arg10 harg10 arg11 arg14 harg14 arg15 arg16 harg16 arg17 arg18 arg19 h) K := by
  iintro ⟨H1, H18, H19, HX, HY, Hk⟩
  unfold adamStep
  rw [wp_bind]
  iapply (coef_triple c arg1 E C 0 inb_S2_S1_0)
  isplitl [H1]; · iexact H1
  iintro H1
  rw [wp_bind]
  iapply (coef_triple c arg1 E C 1 inb_S2_S1_1)
  isplitl [H1]; · iexact H1
  iintro H1
  iapply (wp_forFin c E (fun n => iprop(owns (c : Thread nD τ) arg18 fullShare Q ∗ owns (c : Thread nD τ) arg19 fullShare D ∗ OldAt c arg5 arg6 arg7 arg8 arg9 X
          ∗ ∃ Y, ⌜NewFilled X (Scalar.mulf (C (coefIx 0)) (Named.named κ "lr_unit" 0xBB4F3E37#32)) (Scalar.mulf (C (coefIx 1)) (Named.named κ "eps_unit" 0x34A9C603#32)) (gAt D (ld Q (Rect.unit (s := S14x1792x512) (k0_off32 i) S1x1792x512.size (k0_off32_inb i h)))) (8 * n) Y⌝ ∗ NewAt c arg10 arg11 arg14 arg15 arg16 arg17 Y)) 8 _
      (fun k K => band_triple c arg5 arg6 arg7 arg8 arg9 arg10 harg10 arg11 arg14 harg14 arg15 arg16 harg16 arg17 arg18 arg19 i h E X _ _ Q D k K) K)
  isplitl [H18 H19 HX HY]
  · isplitl [H18]; · iexact H18
    isplitl [H19]; · iexact H19
    isplitl [HX]; · iexact HX
    iexists Y; isplitr; swap; iexact HY
    ipureintro
    exact ⟨Tiling.Filled.zero _, Tiling.Filled.zero _, Tiling.Filled.zero _, Tiling.Filled.zero _, Tiling.Filled.zero _, Tiling.Filled.zero _⟩
  iintro ⟨H18, H19, HX, HY⟩
  iapply Hk
  isplitl [H1]; · iexact H1
  isplitl [H18]; · iexact H18
  isplitl [H19]; · iexact H19
  isplitl [HX]; · iexact HX
  iexact HY

/-! ## The token step -/

theorem point_lt : ∀ i : grid0.Coords, k0_cond1 i = 1#1 → (i 0).val < 7 := by decide +kernel

/-- The number of a point's `q`-th 32 rows in half `r`. -/
abbrev chunk (i : grid0.Coords) (h : k0_cond1 i = 1#1) (r : Fin 2) (q : Fin 4) : Fin 56 :=
  ⟨8 * (i 0).val + 4 * r.val + q.val, by have := point_lt i h; omega⟩
/-- The number of a point's half `r`. -/
abbrev half (i : grid0.Coords) (h : k0_cond1 i = 1#1) (r : Fin 2) : Fin 14 :=
  ⟨2 * (i 0).val + r.val, by have := point_lt i h; omega⟩

/-- 512 columns of 32 rows' codes. -/
def slabOf (x : FVec F S32x7168 .bf16) (n : Fin 14) : FVec F S1x32x512 .fp8e4m3 :=
  shapeCast S1x32x512 (extractStridedSlice S32x512 ![0, 512 * n.val] (codes x) (slices_n n)) shapeCasts_S32x512_S1x32x512

/-- One store of codes to the scratch. -/
theorem xq_triple (i : grid0.Coords) (h : k0_cond1 i = 1#1) (E : Set ℕ) (r : Fin 2) (q : Fin 4) (x : FVec F S32x7168 .bf16) (n : Fin 14)
    (Q : S14x1792x512.Idx → Elt F .fp8e4m3) (K : PUnit → sProp 𝕄) :
    iprop(owns (c : Thread nD τ) arg18 fullShare Q ∗ (owns (c : Thread nD τ) arg18 fullShare (slabs.put Q (chunk i h r q, n) (slabOf x n)) -∗ K ⟨⟩))
      ⊢ wp frame (wpE (defs₀ (F := F)) Variants.none (c : Thread nD τ) none) E (xqStep i arg18 harg18 h r q (codes x) n) K := by
  unfold owns
  iintro ⟨⟨%f, %hf, H⟩, Hk⟩
  subst hf
  unfold xqStep
  sl_exec
  sl_step
  iapply Hk
  iapply (owns_stored c arg18 f (inb_xq i h r q n) (h := (xqOff_eq i h r q n).trans (congrArg (fun k => ![n.val, k, 0]) (show 256 * (i 0).val + 128 * r.val + 32 * q.val = 32 * (8 * (i 0).val + 4 * r.val + q.val) by omega))))
  iexact H

/-- The loop of those stores. -/
theorem xqs_triple (i : grid0.Coords) (h : k0_cond1 i = 1#1) (E : Set ℕ) (r : Fin 2) (q : Fin 4) (x : Fin 56 → FVec F S32x7168 .bf16)
    (K : PUnit → sProp 𝕄) :
    iprop(FilledAt c arg18 slabs (fun j => slabOf (x j.1) j.2) (14 * (chunk i h r q).val)
        ∗ (FilledAt c arg18 slabs (fun j => slabOf (x j.1) j.2) (14 * (chunk i h r q).val + 14) -∗ K ⟨⟩))
      ⊢ wp frame (wpE (defs₀ (F := F)) Variants.none (c : Thread nD τ) none) E (forFin 14 (xqStep i arg18 harg18 h r q (codes (x (chunk i h r q))))) K := by
  refine wp_forFin c E (fun n => FilledAt c arg18 slabs (fun j => slabOf (x j.1) j.2) (14 * (chunk i h r q).val + n)) 14 _ (fun n K => ?_) K
  unfold FilledAt
  iintro ⟨⟨%Q, %hQ, HQ⟩, Hk⟩
  iapply (xq_triple c arg18 harg18 i h E r q (x (chunk i h r q)) n Q K)
  isplitl [HQ]; · iexact HQ
  iintro HQ
  iapply Hk
  iexists _; isplitr; swap; iexact HQ
  ipureintro
  exact hQ.step slabs (chunk i h r q, n) rfl rfl

/-- The rows of a token block. -/
def rowsOf (X : S256x7168.Idx → Elt F .bf16) (r : Fin 2) (q : Fin 4) : FVec F S32x7168 .bf16 := ld (Val := Elt F) (e' := .bf16) X (rows r q)

/-- 32 rows quantised. -/
theorem rows_triple (i : grid0.Coords) (h : k0_cond1 i = 1#1) (E : Set ℕ) (r : Fin 2) (q : Fin 4) (x : Fin 56 → FVec F S32x7168 .bf16)
    (X : S256x7168.Idx → Elt F .bf16) (hx : x (chunk i h r q) = rowsOf X r q) (a b : ℕ)
    (ha : a = 4 * r.val + q.val) (hb : b = 14 * (chunk i h r q).val) (K : FVec F S32x7168 .bf16 → sProp 𝕄) :
    iprop(owns (c : Thread nD τ) arg2 fullShare X ∗ FilledAt c arg12 rowBands (fun j => codes (rowsOf X j.1 j.2)) a
        ∗ FilledAt c arg18 slabs (fun j => slabOf (x j.1) j.2) b
        ∗ ((owns (c : Thread nD τ) arg2 fullShare X ∗ FilledAt c arg12 rowBands (fun j => codes (rowsOf X j.1 j.2)) (a + 1)
          ∗ FilledAt c arg18 slabs (fun j => slabOf (x j.1) j.2) (b + 14)) -∗ K (rowsOf X r q)))
      ⊢ wp frame (wpE (defs₀ (F := F)) Variants.none (c : Thread nD τ) none) E (rowsStep i arg2 arg12 harg12 arg18 harg18 h r q) K := by
  subst ha hb
  iintro ⟨H2, H12, H18, Hk⟩
  unfold rowsStep
  rw [wp_bind]
  iapply (load_triple c E arg2 (rows r q) _ X)
  isplitl [H2]; · iexact H2
  iintro H2
  ihave H12 := (FilledAt.open c arg12 rowBands (fun j => codes (rowsOf X j.1 j.2)) (4 * r.val + q.val)) $$ H12
  icases H12 with ⟨%Y, %hY, H12⟩
  rw [wp_bind]
  iapply (load_triple c E arg12 (rows r q) _ Y)
  isplitl [H12]; · iexact H12
  iintro H12
  rw [wp_bind]
  iapply (store_triple c E arg12 (inb_rows r q) _ _ _ Y)
  isplitl [H12]; · iexact H12
  iintro H12
  rw [wp_bind]
  rw [show ld (Val := Elt F) (e' := .bf16) X (rows r q) = x (chunk i h r q) from hx.symm]
  iapply (xqs_triple c arg18 harg18 i h E r q x)
  isplitl [H18]; · iexact H18
  iintro H18
  rw [wp_pure]
  imodintro
  rw [hx]
  iapply Hk
  isplitl [H2]; · iexact H2
  isplitl [H12]
  · iapply (FilledAt.mk c arg12 (hY.step rowBands (r, q) rfl rfl)); iexact H12
  iexact H18

/-- A 128 × 128 block of the incoming gradient. -/
def dOf (X : S256x2048.Idx → Elt F .fp8e5m2) (r : Fin 2) (n : Fin 16) : FVec F S128x128 .fp8e5m2 :=
  ld (Val := Elt F) (e' := .fp8e5m2) X (Rect.unit (s := S256x2048) ![128 * r.val, 128 * n.val] S128x128.size (inb_d r n))
/-- 128 token scales of the incoming gradient. -/
def sdyOf (X : S1x1792.Idx → Elt F .f32) (ρ : Fin 14) : FVec F S1x128 .f32 := lanes.get X ρ

/-- One block of the scaled gradient. -/
theorem dy_triple (i : grid0.Coords) (h : k0_cond1 i = 1#1) (E : Set ℕ) (r : Fin 2) (sdy sx : FVec F S1x128 .f32)
    (X : S256x2048.Idx → Elt F .fp8e5m2) (tgt : Fin 14 × Fin 16 → FVec F S128x128 .bf16) (a : ℕ) (n : Fin 16) (ha : a = 16 * (2 * (i 0).val + r.val) + n.val)
    (ht : tgt (half i h r, n) = dyBlock sdy sx (dOf X r n)) (K : PUnit → sProp 𝕄) :
    iprop((owns (c : Thread nD τ) arg3 fullShare X ∗ FilledAt c arg19 blocks tgt a) ∗ ((owns (c : Thread nD τ) arg3 fullShare X ∗ FilledAt c arg19 blocks tgt (a + 1)) -∗ K ⟨⟩))
      ⊢ wp frame (wpE (defs₀ (F := F)) Variants.none (c : Thread nD τ) none) E (dyStep i arg3 arg19 harg19 h r sdy sx n) K := by
  iintro ⟨⟨H3, H19⟩, Hk⟩
  unfold dyStep
  rw [wp_bind]
  iapply (load_triple c E arg3 (Rect.unit (s := S256x2048) ![128 * r.val, 128 * n.val] S128x128.size (inb_d r n)) _ X)
  isplitl [H3]; · iexact H3
  iintro H3
  ihave H19 := (FilledAt.open c arg19 blocks tgt a) $$ H19
  icases H19 with ⟨%Y, %hY, H19⟩
  rw [wp_bind]
  iapply (load_triple c E arg19 (Rect.unit (s := S2048x1792) (laneOff i (128 * n.val) r) S128x128.size (inb_dyt i h r n)) _ Y)
  isplitl [H19]; · iexact H19
  iintro H19
  iapply (store_triple c E arg19 (inb_dyt i h r n) _ _ _ Y)
  isplitl [H19]; · iexact H19
  iintro H19
  iapply Hk
  isplitl [H3]; · iexact H3
  have e : laneOff i (128 * n.val) r = blocks.off (half i h r, n) :=
    (laneOff_eq i h r _).trans (congrArg (fun k => ![128 * n.val, k]) (show 256 * (i 0).val + 128 * r.val = 128 * (2 * (i 0).val + r.val) by omega))
  rw [e]
  iapply (FilledAt.mk c arg19 (hY.step blocks (half i h r, n) ha.symm ht.symm)); iexact H19

/-- The loop over the sixteen blocks. -/
theorem dys_triple (i : grid0.Coords) (h : k0_cond1 i = 1#1) (E : Set ℕ) (r : Fin 2) (sdy sx : FVec F S1x128 .f32)
    (X : S256x2048.Idx → Elt F .fp8e5m2) (tgt : Fin 14 × Fin 16 → FVec F S128x128 .bf16) (a : ℕ) (ha : a = 16 * (2 * (i 0).val + r.val))
    (ht : ∀ n, tgt (half i h r, n) = dyBlock sdy sx (dOf X r n)) (K : PUnit → sProp 𝕄) :
    iprop((owns (c : Thread nD τ) arg3 fullShare X ∗ FilledAt c arg19 blocks tgt a) ∗ ((owns (c : Thread nD τ) arg3 fullShare X ∗ FilledAt c arg19 blocks tgt (a + 16)) -∗ K ⟨⟩))
      ⊢ wp frame (wpE (defs₀ (F := F)) Variants.none (c : Thread nD τ) none) E (forFin 16 (dyStep i arg3 arg19 harg19 h r sdy sx)) K :=
  wp_forFin c E (fun n => iprop(owns (c : Thread nD τ) arg3 fullShare X ∗ FilledAt c arg19 blocks tgt (a + n))) 16 _
    (fun n K => dy_triple c arg3 arg19 harg19 i h E r sdy sx X tgt (a + n.val) n (by rw [ha]) (ht n) K) K

/-- 128 tokens' scales. -/
def scalesOf (X : S256x7168.Idx → Elt F .bf16) (r : Fin 2) : FVec F S1x128 .f32 :=
  scaleRow (rowsOf X r 0) (rowsOf X r 1) (rowsOf X r 2) (rowsOf X r 3)

/-- What the token step holds of its buffers after `k` halves of the point. -/
def TokenAt (i : grid0.Coords) (x : Fin 56 → FVec F S32x7168 .bf16) (sc : Fin 14 → FVec F S1x128 .f32) (dt : Fin 14 × Fin 16 → FVec F S128x128 .bf16)
    (X2 : S256x7168.Idx → Elt F .bf16) (X3 : S256x2048.Idx → Elt F .fp8e5m2) (X4 : S1x1792.Idx → Elt F .f32) (k : ℕ) : sProp 𝕄 :=
  iprop(owns (c : Thread nD τ) arg2 fullShare X2 ∗ owns (c : Thread nD τ) arg3 fullShare X3 ∗ owns (c : Thread nD τ) arg4 fullShare X4
    ∗ FilledAt c arg12 rowBands (fun j => codes (rowsOf X2 j.1 j.2)) (4 * k)
    ∗ FilledAt c arg13 lanes sc (2 * (i 0).val + k)
    ∗ FilledAt c arg18 slabs (fun j => slabOf (x j.1) j.2) (14 * (8 * (i 0).val + 4 * k))
    ∗ FilledAt c arg19 blocks dt (16 * (2 * (i 0).val + k)))

/-- 128 tokens. -/
theorem token_triple (i : grid0.Coords) (h : k0_cond1 i = 1#1) (E : Set ℕ) (r : Fin 2) (x : Fin 56 → FVec F S32x7168 .bf16) (sc : Fin 14 → FVec F S1x128 .f32)
    (dt : Fin 14 × Fin 16 → FVec F S128x128 .bf16)
    (X2 : S256x7168.Idx → Elt F .bf16) (X3 : S256x2048.Idx → Elt F .fp8e5m2) (X4 : S1x1792.Idx → Elt F .f32)
    (hx : ∀ r q, x (chunk i h r q) = rowsOf X2 r q) (hsc : ∀ r, sc (half i h r) = scalesOf X2 r)
    (hdt : ∀ r n, dt (half i h r, n) = dyBlock (sdyOf X4 (half i h r)) (scalesOf X2 r) (dOf X3 r n)) (K : PUnit → sProp 𝕄) :
    iprop(TokenAt c arg2 arg3 arg4 arg12 arg13 arg18 arg19 i x sc dt X2 X3 X4 r.val
        ∗ (TokenAt c arg2 arg3 arg4 arg12 arg13 arg18 arg19 i x sc dt X2 X3 X4 (r.val + 1) -∗ K ⟨⟩))
      ⊢ wp frame (wpE (defs₀ (F := F)) Variants.none (c : Thread nD τ) none) E
        (tokenStep i arg2 arg3 arg4 arg12 harg12 arg13 arg18 harg18 arg19 harg19 h r) K := by
  unfold TokenAt
  iintro ⟨⟨H2, H3, H4, H12, H13, H18, H19⟩, Hk⟩
  unfold tokenStep
  rw [wp_bind]
  iapply (rows_triple c arg2 arg12 harg12 arg18 harg18 i h E r 0 x X2 (hx r 0) (4 * r.val) (14 * (8 * (i 0).val + 4 * r.val)) (by simp) (by show _ = 14 * (8 * (i 0).val + 4 * r.val + 0); omega))
  isplitl [H2]; · iexact H2
  isplitl [H12]; · iexact H12
  isplitl [H18]; · iexact H18
  iintro ⟨H2, H12, H18⟩
  rw [wp_bind]
  iapply (rows_triple c arg2 arg12 harg12 arg18 harg18 i h E r 1 x X2 (hx r 1) (4 * r.val + 1) (14 * (8 * (i 0).val + 4 * r.val) + 14) (by simp) (by show _ = 14 * (8 * (i 0).val + 4 * r.val + 1); omega))
  isplitl [H2]; · iexact H2
  isplitl [H12]; · iexact H12
  isplitl [H18]; · iexact H18
  iintro ⟨H2, H12, H18⟩
  rw [wp_bind]
  iapply (rows_triple c arg2 arg12 harg12 arg18 harg18 i h E r 2 x X2 (hx r 2) (4 * r.val + 1 + 1) (14 * (8 * (i 0).val + 4 * r.val) + 14 + 14) (by simp) (by show _ = 14 * (8 * (i 0).val + 4 * r.val + 2); omega))
  isplitl [H2]; · iexact H2
  isplitl [H12]; · iexact H12
  isplitl [H18]; · iexact H18
  iintro ⟨H2, H12, H18⟩
  rw [wp_bind]
  iapply (rows_triple c arg2 arg12 harg12 arg18 harg18 i h E r 3 x X2 (hx r 3) (4 * r.val + 1 + 1 + 1) (14 * (8 * (i 0).val + 4 * r.val) + 14 + 14 + 14) (by simp) (by show _ = 14 * (8 * (i 0).val + 4 * r.val + 3); omega))
  isplitl [H2]; · iexact H2
  isplitl [H12]; · iexact H12
  isplitl [H18]; · iexact H18
  iintro ⟨H2, H12, H18⟩
  have e : laneOff i 0 r = lanes.off (half i h r) :=
    (laneOff_eq i h r 0).trans (congrArg (fun k => ![0, k]) (show 256 * (i 0).val + 128 * r.val = 128 * (2 * (i 0).val + r.val) by omega))
  ihave H13 := (FilledAt.open c arg13 lanes sc (2 * (i 0).val + r.val)) $$ H13
  icases H13 with ⟨%Y, %hY, H13⟩
  rw [wp_bind]
  iapply (load_triple c E arg13 (Rect.unit (s := S1x1792) (laneOff i 0 r) S1x128.size (inb_lane i h r)) _ Y)
  isplitl [H13]; · iexact H13
  iintro H13
  rw [wp_bind]
  iapply (store_triple c E arg13 (inb_lane i h r) _ _ _ Y)
  isplitl [H13]; · iexact H13
  iintro H13
  rw [wp_bind]
  iapply (load_triple c E arg4 (Rect.unit (s := S1x1792) (laneOff i 0 r) S1x128.size (inb_lane i h r)) _ X4)
  isplitl [H4]; · iexact H4
  iintro H4
  have e4 : ld (Val := Elt F) (e' := .f32) X4 (Rect.unit (s := S1x1792) (laneOff i 0 r) S1x128.size (inb_lane i h r)) = sdyOf X4 (half i h r) :=
    funext fun y => congrArg X4 (funext fun a => Fin.ext (by
      exact congrArg (fun k => k + 1 * (y a).val) (congrFun e a)))
  iapply (dys_triple c arg3 arg19 harg19 i h E r _ (scalesOf X2 r) X3 dt (16 * (2 * (i 0).val + r.val)) rfl (fun n => by rw [hdt, e4]))
  isplitl [H3 H19]
  · isplitl [H3]; · iexact H3
    iexact H19
  iintro ⟨H3, H19⟩
  iapply Hk
  isplitl [H2]; · iexact H2
  isplitl [H3]; · iexact H3
  isplitl [H4]; · iexact H4
  isplitl [H12]; · iapply (FilledAt.cast c arg12 (show 4 * r.val + 1 + 1 + 1 + 1 = 4 * (r.val + 1) by omega)); iexact H12
  isplitl [H13]
  · rw [e]
    iapply (FilledAt.mk c arg13 (hY.step lanes (half i h r) rfl (hsc r).symm)); iexact H13
  isplitl [H18]; · iapply (FilledAt.cast c arg18 (show 14 * (8 * (i 0).val + 4 * r.val) + 14 + 14 + 14 + 14 = 14 * (8 * (i 0).val + 4 * (r.val + 1)) by omega)); iexact H18
  iapply (FilledAt.cast c arg19 (show 16 * (2 * (i 0).val + r.val) + 16 = 16 * (2 * (i 0).val + (r.val + 1)) by omega)); iexact H19

/-- The token step of a grid point. -/
theorem tokens_triple (i : grid0.Coords) (h : k0_cond1 i = 1#1) (E : Set ℕ) (x : Fin 56 → FVec F S32x7168 .bf16) (sc : Fin 14 → FVec F S1x128 .f32)
    (dt : Fin 14 × Fin 16 → FVec F S128x128 .bf16)
    (X2 : S256x7168.Idx → Elt F .bf16) (X3 : S256x2048.Idx → Elt F .fp8e5m2) (X4 : S1x1792.Idx → Elt F .f32)
    (hx : ∀ r q, x (chunk i h r q) = rowsOf X2 r q) (hsc : ∀ r, sc (half i h r) = scalesOf X2 r)
    (hdt : ∀ r n, dt (half i h r, n) = dyBlock (sdyOf X4 (half i h r)) (scalesOf X2 r) (dOf X3 r n)) (K : PUnit → sProp 𝕄) :
    iprop(TokenAt c arg2 arg3 arg4 arg12 arg13 arg18 arg19 i x sc dt X2 X3 X4 0
        ∗ (TokenAt c arg2 arg3 arg4 arg12 arg13 arg18 arg19 i x sc dt X2 X3 X4 2 -∗ K ⟨⟩))
      ⊢ wp frame (wpE (defs₀ (F := F)) Variants.none (c : Thread nD τ) none) E
        (forFin 2 (tokenStep i arg2 arg3 arg4 arg12 harg12 arg13 arg18 harg18 arg19 harg19 h)) K :=
  wp_forFin c E (fun k => TokenAt c arg2 arg3 arg4 arg12 arg13 arg18 arg19 i x sc dt X2 X3 X4 k) 2 _
    (fun r K => token_triple c arg2 arg3 arg4 arg12 harg12 arg13 arg18 harg18 arg19 harg19 i h E r x sc dt X2 X3 X4 hx hsc hdt K) K

end

end Cert.KernelIdeal.Unit

end
-- ==== Proof.Data.lean ====
/- What the call holds at each point of the grid: the inputs' blocks, how much of each output buffer and of the two scratch
   buffers is done, and that a staging buffer found at a point holds what this says. -/
module

public import proofs.«01_k».proof.Proof.Steps
public import proofs.«01_k».proof.Proof.Gen.KernelIdeal.Frame

@[expose] public section

set_option maxRecDepth 16384

noncomputable section

namespace Cert.KernelIdeal.Unit

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.View (ld)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-- The first branch is taken at the points before 7, -/
theorem cond1_iff : ∀ t : Fin cfg0.N, k0_cond1 (grid0.coords t) = 1#1 ↔ t.val < 7 :=
  (by decide +kernel : ∀ t : Fin grid0.N, k0_cond1 (grid0.coords t) = 1#1 ↔ t.val < 7)
/-- the second from 7 on. -/
theorem cond2_iff : ∀ t : Fin cfg0.N, k0_cond2 (grid0.coords t) = 1#1 ↔ 7 ≤ t.val :=
  (by decide +kernel : ∀ t : Fin grid0.N, k0_cond2 (grid0.coords t) = 1#1 ↔ 7 ≤ t.val)
/-- A point's one coordinate is its number. -/
theorem coord_eq : ∀ t : Fin cfg0.N, (grid0.coords t 0).val = t.val :=
  (by decide +kernel : ∀ t : Fin grid0.N, (grid0.coords t 0).val = t.val)

abbrev ms0 (t : Fin cfg0.N) : Memref sig .tc .smem S2 .f32 := win0_0.stage (cfg0.slots t 0)
abbrev ms1 (t : Fin cfg0.N) : Memref sig .tc .vmem S256x7168 .bf16 := win0_1.stage (cfg0.slots t 1)
abbrev ms2 (t : Fin cfg0.N) : Memref sig .tc .vmem S256x2048 .fp8e5m2 := win0_2.stage (cfg0.slots t 2)
abbrev ms3 (t : Fin cfg0.N) : Memref sig .tc .vmem S1x1792 .f32 := win0_3.stage (cfg0.slots t 3)
abbrev ms4 (t : Fin cfg0.N) : Memref sig .tc .vmem S512x2048 .bf16 := win0_4.stage (cfg0.slots t 4)
abbrev ms5 (t : Fin cfg0.N) : Memref sig .tc .vmem S512x2048 .i8 := win0_5.stage (cfg0.slots t 5)
abbrev ms6 (t : Fin cfg0.N) : Memref sig .tc .vmem S16x512 .f32 := win0_6.stage (cfg0.slots t 6)
abbrev ms7 (t : Fin cfg0.N) : Memref sig .tc .vmem S512x2048 .i8 := win0_7.stage (cfg0.slots t 7)
abbrev ms8 (t : Fin cfg0.N) : Memref sig .tc .vmem S16x512 .f32 := win0_8.stage (cfg0.slots t 8)
abbrev ms9 (t : Fin cfg0.N) : Memref sig .tc .vmem S512x2048 .bf16 := win0_9.stage (cfg0.slots t 9)
abbrev ms10 (t : Fin cfg0.N) : Memref sig .tc .vmem S512x2048 .f32 := win0_10.stage (cfg0.slots t 10)
abbrev ms11 (t : Fin cfg0.N) : Memref sig .tc .vmem S256x7168 .fp8e4m3 := win0_11.stage (cfg0.slots t 11)
abbrev ms12 (t : Fin cfg0.N) : Memref sig .tc .vmem S1x1792 .f32 := win0_12.stage (cfg0.slots t 12)
abbrev ms13 (t : Fin cfg0.N) : Memref sig .tc .vmem S512x2048 .i8 := win0_13.stage (cfg0.slots t 13)
abbrev ms14 (t : Fin cfg0.N) : Memref sig .tc .vmem S16x512 .f32 := win0_14.stage (cfg0.slots t 14)
abbrev ms15 (t : Fin cfg0.N) : Memref sig .tc .vmem S512x2048 .i8 := win0_15.stage (cfg0.slots t 15)
abbrev ms16 (t : Fin cfg0.N) : Memref sig .tc .vmem S16x512 .f32 := win0_16.stage (cfg0.slots t 16)
abbrev xqM : Memref sig .tc .vmem S14x1792x512 .fp8e4m3 := Memref.whole cc0_scratch0
abbrev dyM : Memref sig .tc .vmem S2048x1792 .bf16 := Memref.whole cc0_scratch1

/-- The scratch buffers as memrefs owned at some contents. -/
theorem PhiA0_eq (c : Dev nD) :
    (Pipeline.ΦA spec0 c : sProp 𝕄)
      = iprop(iprop((∃ d, owns (c : Thread nD τ) xqM fullShare d) ∗ (∃ d, owns (c : Thread nD τ) dyM fullShare d)) ∗ (∃ r, prngReg c r)) := by
  unfold Pipeline.ΦA; rw [scopedRest0_eq]; simp only [xqM, dyM, owns_whole]; try rfl

section
variable (c : Dev nD)

/-- The point that holds the `k`-th part of the tokens, or the last such point. -/
def pt (k : ℕ) : Fin cfg0.N := ⟨min k 6, by show min k 6 < 21; omega⟩

/-- Token rows `32 τ` to `32 τ + 31` of `x`, -/
def xOf (k : Fin 56) : FVec F S32x7168 .bf16 :=
  rowsOf (iblk m c 1 (pt (k.val / 8))) ⟨k.val % 8 / 4, by omega⟩ ⟨k.val % 4, by omega⟩
/-- the scales of 128 tokens, -/
def scOf (k : Fin 14) : FVec F S1x128 .f32 := scalesOf (iblk m c 1 (pt (k.val / 2))) ⟨k.val % 2, by omega⟩
/-- and the block of the scaled gradient at 128 tokens and 128 columns. -/
def dtOf (j : Fin 14 × Fin 16) : FVec F S128x128 .bf16 :=
  dyBlock (sdyOf (iblk m c 3 (pt (j.1.val / 2))) j.1) (scOf m c j.1) (dOf (iblk m c 2 (pt (j.1.val / 2))) ⟨j.1.val % 2, by omega⟩ j.2)

/-- The codes scratch holds the first `k` points' codes, -/
def QDone (k : ℕ) (Q : Vec F S14x1792x512 .fp8e4m3) : Prop := slabs.Filled (fun j => slabOf (xOf m c j.1) j.2) (14 * (8 * k)) Q
/-- the gradient scratch their scaled gradients. -/
def DDone (k : ℕ) (D : FVec F S2048x1792 .bf16) : Prop := blocks.Filled (dtOf m c) (16 * (2 * k)) D

/-- The old weights, codes and scales at a point. -/
def oldOf (t : Fin cfg0.N) : Old F := ⟨iblk m c 4 t, iblk m c 5 t, iblk m c 6 t, iblk m c 7 t, iblk m c 8 t⟩

/-- At an Adam point the six new buffers are complete. -/
def Result (t : Fin cfg0.N) (Y : New F) : Prop :=
  ∀ h : k0_cond2 (grid0.coords t) = 1#1, ∃ Q D, QDone m c 7 Q ∧ DDone m c 7 D
    ∧ NewFilled (oldOf m c t) (Scalar.mulf ((iblk m c 0 t : S2.Idx → Elt F .f32) (coefIx 0)) (Named.named κ "lr_unit" 0xBB4F3E37#32))
        (Scalar.mulf ((iblk m c 0 t : S2.Idx → Elt F .f32) (coefIx 1)) (Named.named κ "eps_unit" 0x34A9C603#32))
        (gAt D (ld Q (Rect.unit (s := S14x1792x512) (k0_off32 (grid0.coords t)) S1x1792x512.size (k0_off32_inb (grid0.coords t) h)))) 64 Y

/-- The two scratch buffers before point `k`, and the core's generator register. -/
def Scratch (k : ℕ) : sProp 𝕄 :=
  iprop(FilledAt c xqM slabs (fun j => slabOf (xOf m c j.1) j.2) (14 * (8 * min k 7))
    ∗ FilledAt c dyM blocks (dtOf m c) (16 * (2 * min k 7)) ∗ ∃ r, prngReg c r)

/-- The codes of a point's rows. -/
def codesOf (k : ℕ) (j : Fin 2 × Fin 4) : FVec F S32x7168 .fp8e4m3 := codes (rowsOf (iblk m c 1 (pt k)) j.1 j.2)

/-- What the call leaves in each window's buffer: an input as found; a new buffer complete at an Adam point; the codes of the
    point's rows (and still those of the last token point at an Adam point); the scales of the tokens so far. -/
def rdat : Pipeline.RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => X = Y
    | ⟨9, _⟩ => fun _ X => ∃ Y, Result m c t Y ∧ X = Y.w
    | ⟨10, _⟩ => fun _ X => ∃ Y, Result m c t Y ∧ X = Y.u
    | ⟨11, _⟩ => fun _ X => rowBands.Filled (codesOf m c t.val) 8 X
    | ⟨12, _⟩ => fun _ X => lanes.Filled (scOf m c) (2 * min (t.val + 1) 7) X
    | ⟨13, _⟩ => fun _ X => ∃ Y, Result m c t Y ∧ X = Y.mc
    | ⟨14, _⟩ => fun _ X => ∃ Y, Result m c t Y ∧ X = Y.ms
    | ⟨15, _⟩ => fun _ X => ∃ Y, Result m c t Y ∧ X = Y.sc
    | ⟨16, _⟩ => fun _ X => ∃ Y, Result m c t Y ∧ X = Y.ss
    | ⟨_ + 17, h⟩ => absurd h (Nat.not_lt.2 (Nat.le_add_left _ _))
  Φ t := Scratch m c t.val
  q _ := fullShare
  owed _ := 0

theorem rdat_A (w : Fin cfg0.W) : (rdat m c).A w = V m c (Pipeline.arrRef spec0 w) := by
  dsimp only [rdat]

theorem finds_0 (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  exact hd.trans (by unfold Pipeline.RDat.fetched Pipeline.RDat.blockOf iblk; rw [rdat_A]; try rfl)
theorem finds_1 (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  exact hd.trans (by unfold Pipeline.RDat.fetched Pipeline.RDat.blockOf iblk; rw [rdat_A]; try rfl)
theorem finds_2 (t : Fin cfg0.N) (Y) (h : (rdat m c).Finds 2 t Y) : Y = iblk m c 2 t := by
  obtain ⟨d, hd⟩ := (rdat m c).finds_in_eq_fetched 2 rfl (fun _ _ _ => rfl) (fun _ _ _ h => h) t Y h
  exact hd.trans (by unfold Pipeline.RDat.fetched Pipeline.RDat.blockOf iblk; rw [rdat_A]; try rfl)
theorem finds_3 (t : Fin cfg0.N) (Y) (h : (rdat m c).Finds 3 t Y) : Y = iblk m c 3 t := by
  obtain ⟨d, hd⟩ := (rdat m c).finds_in_eq_fetched 3 rfl (fun _ _ _ => rfl) (fun _ _ _ h => h) t Y h
  exact hd.trans (by unfold Pipeline.RDat.fetched Pipeline.RDat.blockOf iblk; rw [rdat_A]; try rfl)
theorem finds_4 (t : Fin cfg0.N) (Y) (h : (rdat m c).Finds 4 t Y) : Y = iblk m c 4 t := by
  obtain ⟨d, hd⟩ := (rdat m c).finds_in_eq_fetched 4 rfl (fun _ _ _ => rfl) (fun _ _ _ h => h) t Y h
  exact hd.trans (by unfold Pipeline.RDat.fetched Pipeline.RDat.blockOf iblk; rw [rdat_A]; try rfl)
theorem finds_5 (t : Fin cfg0.N) (Y) (h : (rdat m c).Finds 5 t Y) : Y = iblk m c 5 t := by
  obtain ⟨d, hd⟩ := (rdat m c).finds_in_eq_fetched 5 rfl (fun _ _ _ => rfl) (fun _ _ _ h => h) t Y h
  exact hd.trans (by unfold Pipeline.RDat.fetched Pipeline.RDat.blockOf iblk; rw [rdat_A]; try rfl)
theorem finds_6 (t : Fin cfg0.N) (Y) (h : (rdat m c).Finds 6 t Y) : Y = iblk m c 6 t := by
  obtain ⟨d, hd⟩ := (rdat m c).finds_in_eq_fetched 6 rfl (fun _ _ _ => rfl) (fun _ _ _ h => h) t Y h
  exact hd.trans (by unfold Pipeline.RDat.fetched Pipeline.RDat.blockOf iblk; rw [rdat_A]; try rfl)
theorem finds_7 (t : Fin cfg0.N) (Y) (h : (rdat m c).Finds 7 t Y) : Y = iblk m c 7 t := by
  obtain ⟨d, hd⟩ := (rdat m c).finds_in_eq_fetched 7 rfl (fun _ _ _ => rfl) (fun _ _ _ h => h) t Y h
  exact hd.trans (by unfold Pipeline.RDat.fetched Pipeline.RDat.blockOf iblk; rw [rdat_A]; try rfl)
theorem finds_8 (t : Fin cfg0.N) (Y) (h : (rdat m c).Finds 8 t Y) : Y = iblk m c 8 t := by
  obtain ⟨d, hd⟩ := (rdat m c).finds_in_eq_fetched 8 rfl (fun _ _ _ => rfl) (fun _ _ _ h => h) t Y h
  exact hd.trans (by unfold Pipeline.RDat.fetched Pipeline.RDat.blockOf iblk; rw [rdat_A]; try rfl)

/-- The codes buffer is not written back between the last token point and the last point, -/
theorem flush_11 : ∀ t : Fin cfg0.N, 6 ≤ t.val → t.val < 20 → (cfg0.win 11).flush t = false :=
  (by decide +kernel : ∀ t : Fin grid0.N, 6 ≤ t.val → t.val < 20 → win0_11.flush t = false)

/-- so that at an Adam point it still holds the last token point's codes. -/
theorem finds_11 (t : Fin cfg0.N) (ht : 7 ≤ t.val) (Y) (h : (rdat m c).Finds 11 t Y) : rowBands.Filled (codesOf m c t.val) 8 Y := by
  have hN : t.val < 21 := t.isLt
  rcases ((rdat m c).finds_of_pos (w := 11) (t := t) rfl (by omega) Y).1 h with h | ⟨Y', _, h⟩
  · rw [flush_11 _ (by show 6 ≤ t.val - 1; omega) (by show t.val - 1 < 20; omega)] at h; cases h
  · have e : codesOf m c t.val = codesOf m c (t.val - 1) := by
      have hp : pt t.val = pt (t.val - 1) := Fin.ext (by show min t.val 6 = min (t.val - 1) 6; omega)
      unfold codesOf; rw [hp]
    rw [e]; exact h

/-- The scales buffer is written back at the last point alone, so it holds all the scales so far. -/
theorem finds_12 (t : Fin cfg0.N) (Y) (h : (rdat m c).Finds 12 t Y) : lanes.Filled (scOf m c) (2 * min t.val 7) Y := by
  have hN : t.val < 21 := t.isLt
  by_cases ht : t.val = 0
  · rw [ht]; exact Tiling.Filled.zero lanes
  rcases ((rdat m c).finds_of_pos (w := 12) (t := t) rfl ht Y).1 h with h | ⟨Y', _, h⟩
  · have := (flush0_12 _).1 h
    have h' : (t.val - 1) % 21 = 20 := this
    omega
  · have e : t.val - 1 + 1 = t.val := by omega
    have h' : lanes.Filled (scOf m c) (2 * min (t.val - 1 + 1) 7) Y := h
    rwa [e] at h'

end

end Cert.KernelIdeal.Unit

end
-- ==== Proof.Sup.lean ====
/- A maximum over one axis, read at a result index as a supremum, at any extents. -/
module

public import Idealize.ShloMosaic.Lib.Pointwise

@[expose] public section

noncomputable section

namespace Cert.Sup

open Idealize.ShloMosaic

/-- The pattern of minus infinity names `⊥`. -/
theorem bot_f32 : (FloatOps.ofBits (F := Ideal) .f32 0xFF800000#32 : EReal) = ⊥ := by
  simp [FloatOps.ofBits, Ideal.ofBits, Ideal.ieee]
theorem bot_bf16 : (FloatOps.ofBits (F := Ideal) .bf16 0xFF80#16 : EReal) = ⊥ := by
  simp [FloatOps.ofBits, Ideal.ofBits, Ideal.ieee]

/-- The maximum along the second of two axes. -/
theorem last2 {φ : FTy} {m n : Nat} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.maximumf.neutral φ hφ) (hb : (FloatOps.ofBits (F := Ideal) φ acc : EReal) = ⊥) (r : Fin m) :
    (multiReduction .maximumf [1] ⟨1, ![m]⟩ src acc h hφ hacc (ix1 r) : EReal)
      = Finset.univ.sup fun k : Fin n => (src (ix2 r k) : EReal) := by
  refine (Ideal.multiReduction_maximumf_single src acc h hφ hacc (ix1 r)).trans ?_
  rw [hb]
  refine congrArg (fun f => Finset.fold max (⊥ : EReal) f (Finset.univ : Finset (Fin n))) (funext fun k => congrArg src ?_)
  funext c; apply Fin.ext
  fin_cases c <;> rfl

/-- The maximum along the first of two axes. -/
theorem first2 {φ : FTy} {m n : Nat} (src : FVec Ideal ⟨2, ![m, n]⟩ φ) (acc : BitVec φ.bits)
    (h : (⟨2, ![m, n]⟩ : Shape).Reduces [0] (⟨1, ![n]⟩ : Shape)) (hφ : FKind.Formats φ)
    (hacc : acc = FKind.maximumf.neutral φ hφ) (hb : (FloatOps.ofBits (F := Ideal) φ acc : EReal) = ⊥) (r : Fin n) :
    (multiReduction .maximumf [0] ⟨1, ![n]⟩ src acc h hφ hacc (ix1 r) : EReal)
      = Finset.univ.sup fun k : Fin m => (src (ix2 k r) : EReal) := by
  refine (Ideal.multiReduction_maximumf_single src acc h hφ hacc (ix1 r)).trans ?_
  rw [hb]
  refine congrArg (fun f => Finset.fold max (⊥ : EReal) f (Finset.univ : Finset (Fin m))) (funext fun k => congrArg src ?_)
  funext c; apply Fin.ext
  fin_cases c <;> rfl

/-- The maximum along the last of three axes. -/
theorem last3 {φ : FTy} {m n p : Nat} (src : FVec Ideal ⟨3, ![m, n, p]⟩ φ) (acc : BitVec φ.bits)
    (h : (⟨3, ![m, n, p]⟩ : Shape).Reduces [2] (⟨2, ![m, n]⟩ : Shape)) (hφ : FKind.Formats φ)
    (hacc : acc = FKind.maximumf.neutral φ hφ) (hb : (FloatOps.ofBits (F := Ideal) φ acc : EReal) = ⊥) (r : Fin m) (s : Fin n) :
    (multiReduction .maximumf [2] ⟨2, ![m, n]⟩ src acc h hφ hacc (ix2 r s) : EReal)
      = Finset.univ.sup fun k : Fin p => (src (ix3 r s k) : EReal) := by
  refine (Ideal.multiReduction_maximumf_single src acc h hφ hacc (ix2 r s)).trans ?_
  rw [hb]
  refine congrArg (fun f => Finset.fold max (⊥ : EReal) f (Finset.univ : Finset (Fin p))) (funext fun k => congrArg src ?_)
  funext c; apply Fin.ext
  fin_cases c <;> rfl

end Cert.Sup

end
-- ==== Proof.Spec.lean ====
/- The scalar functions of the mathematics, on extended reals: the power-of-two scale of a token, its clipped codes, and
   the int8 codes and scales of a block of 128. -/
module

public import proofs.«01_k».proof.Proof.Sup

@[expose] public section

noncomputable section

namespace Cert.Spec

open Idealize.ShloMosaic

/-- The float nearest 1/448. -/
def over448 : EReal := Ideal.ofBits .f32 0x3B124925#32

/-- The largest magnitude. -/
def big {n : Nat} (f : Fin n → EReal) : EReal := Finset.univ.sup fun k => max (f k) (-(f k))

/-- The exponent: one below the scale's. -/
def expo (t : EReal) : EReal :=
  if t < Ideal.ofBits .f32 0x00800000#32 then Ideal.ofBits .f32 0xBF800000#32
  else Ideal.liftRound Int.floor (Ideal.div (Ideal.log t) ((Real.log 2 : ℝ) : EReal))

/-- The scale. -/
def scale (t : EReal) : EReal := Ideal.exp2 (expo t) * Ideal.ofBits .f32 0x40000000#32

/-- Its inverse. -/
def inv (t : EReal) : EReal := Ideal.exp2 (0 - expo t) * Ideal.ofBits .f32 0x3F000000#32

/-- The clip to the range of the fp8 codes. -/
def clip448 (y : EReal) : EReal := min (Ideal.ofBits .f32 0x43E00000#32) (max (Ideal.ofBits .f32 0xC3E00000#32) y)

/-- The clip to the range of the int8 codes. -/
def clip127 (y : EReal) : EReal := min (Ideal.ofBits .f32 0x42FE0000#32) (max (Ideal.ofBits .f32 0xC2FE0000#32) y)

/-- The int8 code of a scaled entry. -/
def code8 (y : EReal) : BitVec 8 :=
  FloatOps.fptosi (F := Ideal) (φ := .f32) 8 (clip127 (Ideal.liftRound Ideal.roundHalfEven y))

/-- The int8 scale of a block whose largest magnitude is `a`. -/
def scale8 (a : EReal) : EReal :=
  Ideal.div (if a = 0 then Ideal.ofBits .f32 0x42FE0000#32 else a) (Ideal.ofBits .f32 0x42FE0000#32)

end Cert.Spec

end
-- ==== Proof.KerVal.lean ====
/- The kernel's vector arithmetic at Ideal, entry by entry. -/
module

public import proofs.«01_k».proof.Proof.Ops
public import proofs.«01_k».proof.Proof.Spec

@[expose] public section

set_option maxRecDepth 16384

noncomputable section

namespace Cert.KernelIdeal.Unit

open Cert.KernelIdeal Cert.KernelIdeal.Gen Idealize.ShloMosaic

/-- The largest magnitudes of 32 tokens. -/
theorem rowMax_apply (x : FVec Ideal S32x7168 .bf16) (t : Fin 32) :
    (rowMax x (ix2 t 0) : EReal) = Spec.big fun k : Fin 7168 => (x (ix2 t k) : EReal) := by
  have h := fun (y : FVec Ideal S32x7168 .bf16) hr hf ha => Sup.last2 (m := 32) (n := 7168) y 0xFF80#16 hr hf ha Sup.bot_bf16 t
  unfold rowMax Spec.big
  generalize hM : multiReduction (F := Ideal) .maximumf [1] S32 (absf (shapeCast S32x7168 x shapeCasts_S32x7168_S32x7168)) 0xFF80#16 reduces_S32x7168_S32 (.inr rfl) rfl = M
  have hm : (M (ix1 t) : EReal) = Finset.univ.sup fun k : Fin 7168 => max (x (ix2 t k) : EReal) (-(x (ix2 t k) : EReal)) := by
    rw [← hM]
    refine (h _ _ _ _).trans ?_
    refine Finset.sup_congr rfl fun k _ => ?_
    pointwise []
    rfl
  rw [← hm]
  clear hM hm h
  pointwise []

theorem spread_apply (x : FVec Ideal S32x7168 .bf16) (t : Fin 32) (l : Fin 128) : (spread x (ix2 t l) : EReal) = rowMax x (ix2 t 0) := by
  unfold spread
  generalize rowMax x = M
  pointwise []

theorem ratio_apply {s : Shape} (a : FVec Ideal s .f32) (j : s.Idx) : (ratio a j : EReal) = (a j : EReal) * Spec.over448 := rfl

/-- The codes of 32 tokens. -/
theorem codes_apply (x : FVec Ideal S32x7168 .bf16) (t : Fin 32) (j : Fin 7168) :
    (codes x (ix2 t j) : EReal) = Spec.clip448 ((x (ix2 t j) : EReal) * (down (F := Ideal) (field (ratio (rowMax x))) (ix2 t 0) : EReal)) := by
  unfold codes
  generalize down (F := Ideal) (field (ratio (rowMax x))) = D
  pointwise []
  rfl

/-- Which of four groups of 32 tokens, and where in it. -/
theorem scaleRow_stack (a b c d : FVec Ideal S32x128 .f32) (q : Fin 4) (t : Fin 32) :
    (extractStridedSlice S1x128 ![0, 0] (transpose S128x128 [1, 0]
      (concatenate S128x128 0 [⟨S32x128, a⟩, ⟨S32x128, b⟩, ⟨S32x128, c⟩, ⟨S32x128, d⟩]
        concatenates_S32x128_S32x128_S32x128_S32x128_S128x128_d0) transposes_S128x128_p1_0_S128x128) slices_S128x128_o0_0_S1x128
        (ix2 0 ⟨32 * q.val + t.val, by omega⟩) : EReal)
      = (![a, b, c, d] q) (ix2 t 0) := by
  pointwise []
  fin_cases q <;> dsimp only <;> split_ifs <;> first
    | (exfalso; omega)
    | exact congrArg (fun z => a (ix2 z 0)) (Fin.ext (by first | (simp; done) | (simp; omega)))
    | exact congrArg (fun z => b (ix2 z 0)) (Fin.ext (by first | (simp; done) | (simp; omega)))
    | exact congrArg (fun z => c (ix2 z 0)) (Fin.ext (by first | (simp; done) | (simp; omega)))
    | exact congrArg (fun z => d (ix2 z 0)) (Fin.ext (by first | (simp; done) | (simp; omega)))

/-- A block of the incoming gradient with its scales. -/
theorem dyBlock_apply (sdy sx : FVec Ideal S1x128 .f32) (d : FVec Ideal S128x128 .fp8e5m2) (i t : Fin 128) :
    (dyBlock sdy sx d (ix2 i t) : EReal) = (d (ix2 t i) : EReal) * (sdy (ix2 0 t) : EReal) * (sx (ix2 0 t) : EReal) := by
  pointwise [dyBlock]

theorem widen_apply (gain : Ideal .f32) (c : IVec S128x128 8) (s : FVec Ideal S1x128 .f32) (i j : Fin 128) :
    (widen gain c s (ix2 i j) : EReal) = (((c (ix2 j i) : BitVec 8).toInt : ℝ) : EReal) * ((s (ix2 0 j) : EReal) * (gain : EReal)) := by
  pointwise [widen]
  rfl

theorem mNew_apply (g : FVec Ideal S128x128 .f32) (mc : IVec S128x128 8) (ms : FVec Ideal S1x128 .f32) (i j : Fin 128) :
    (mNew g mc ms (ix2 i j) : EReal) = (((mc (ix2 j i) : BitVec 8).toInt : ℝ) : EReal) * ((ms (ix2 0 j) : EReal) * ((9 : ℝ) : EReal)) + (g (ix2 i j) : EReal) := by
  have h := widen_apply (Named.named (F := Ideal) κ "m_gain" 0x41100000#32) mc ms i j
  unfold mNew
  generalize widen (F := Ideal) _ _ _ = W at h ⊢
  pointwise []
  rw [h]; rfl

theorem vNew_apply (g : FVec Ideal S128x128 .f32) (sc : IVec S128x128 8) (ss : FVec Ideal S1x128 .f32) (i j : Fin 128) :
    (vNew g sc ss (ix2 i j) : EReal) = ((((sc (ix2 j i) : BitVec 8).toInt : ℝ) : EReal) * ((ss (ix2 0 j) : EReal) * ((Real.sqrt 999 : ℝ) : EReal)))
        * ((((sc (ix2 j i) : BitVec 8).toInt : ℝ) : EReal) * ((ss (ix2 0 j) : EReal) * ((Real.sqrt 999 : ℝ) : EReal)))
        + (g (ix2 i j) : EReal) * (g (ix2 i j) : EReal) := by
  have h := widen_apply (Named.named (F := Ideal) κ "s_gain" 0x41FCDB0F#32) sc ss i j
  unfold vNew
  generalize widen (F := Ideal) _ _ _ = W at h ⊢
  pointwise []
  rw [h]; rfl

theorem sNew_apply (g : FVec Ideal S128x128 .f32) (sc : IVec S128x128 8) (ss : FVec Ideal S1x128 .f32) (i j : Fin 128) :
    (sNew g sc ss (ix2 i j) : EReal) = Ideal.div (Ideal.ofBits .f32 0x3F800000#32) (Ideal.rsqrt (vNew g sc ss (ix2 i j))) := by
  unfold sNew
  generalize vNew g sc ss = V
  pointwise []
  try rfl

theorem update_apply (ca cb : Ideal .f32) (m s : FVec Ideal S128x128 .f32) (i j : Fin 128) :
    (update ca cb m s (ix2 i j) : EReal)
      = ((m (ix2 j i) : EReal) * (ca : EReal)) * Ideal.div (Ideal.ofBits .f32 0x3F800000#32) ((s (ix2 j i) : EReal) + (cb : EReal)) := by
  pointwise [update]
  try rfl

theorem weight_apply (w : FVec Ideal S128x128 .bf16) (u : FVec Ideal S128x128 .f32) (i j : Fin 128) :
    (weight w u (ix2 i j) : EReal) = (w (ix2 i j) : EReal) + (u (ix2 i j) : EReal) := by
  pointwise [weight]

theorem colMax_apply (a : FVec Ideal S128x128 .f32) (j : Fin 128) :
    (colMax a (ix2 0 j) : EReal) = Finset.univ.sup fun k : Fin 128 => (a (ix2 k j) : EReal) := by
  have h := fun (y : FVec Ideal S128x128 .f32) hr hf ha => Sup.first2 (m := 128) (n := 128) y 0xFF800000#32 hr hf ha Sup.bot_f32 j
  unfold colMax
  generalize hM : multiReduction (F := Ideal) .maximumf [0] S128 a 0xFF800000#32 reduces_S128x128_S128 (.inl rfl) rfl = M
  have hm : (M (ix1 j) : EReal) = Finset.univ.sup fun k : Fin 128 => (a (ix2 k j) : EReal) := by
    rw [← hM]
    exact h _ _ _ _
  rw [← hm]
  clear hM hm h
  pointwise []

theorem colMax_abs_apply (a : FVec Ideal S128x128 .f32) (j : Fin 128) :
    (colMax (absf a) (ix2 0 j) : EReal) = Spec.big fun k : Fin 128 => (a (ix2 k j) : EReal) :=
  (colMax_apply (absf a) j).trans rfl

theorem newScale_apply (unit : Ideal .f32) (a : FVec Ideal S1x128 .f32) (j : Fin 128) :
    (newScale unit a (ix2 0 j) : EReal)
      = if (a (ix2 0 j) : EReal) = 0 then Ideal.ofBits .f32 0x3F800000#32 else Ideal.div ((a (ix2 0 j) : EReal) * (unit : EReal)) (Ideal.ofBits .f32 0x42FE0000#32) := by
  pointwise [newScale, isZero]
  try rfl

/-- The int8 code as the kernel narrows it: to 32 bits, then 16, then 8. -/
def code32 (y : EReal) : BitVec 8 :=
  ((FloatOps.fptosi (F := Ideal) (φ := .f32) 32 (Spec.clip127 (Ideal.liftRound Ideal.roundHalfEven y))).setWidth 16).setWidth 8

theorem newCodes_apply (val : FVec Ideal S128x128 .f32) (a : FVec Ideal S1x128 .f32) (i j : Fin 128) :
    newCodes val a (ix2 i j) = code32 ((val (ix2 j i) : EReal) *
      (if (a (ix2 0 i) : EReal) = 0 then Ideal.ofBits .f32 0x3F800000#32 else Ideal.div (Ideal.ofBits .f32 0x42FE0000#32) (a (ix2 0 i)))) := by
  pointwise [newCodes, isZero]
  try rfl

end Cert.KernelIdeal.Unit

end
-- ==== Proof.Scale.lean ====
/- The power-of-two scale: the kernel's binary search over the exponent field finds the floor of the base-2 logarithm. -/
module

public import proofs.«01_k».proof.Proof.KerVal

@[expose] public section

noncomputable section

namespace Cert.KernelIdeal.Unit

open Cert.KernelIdeal Cert.KernelIdeal.Gen Idealize.ShloMosaic

/-- The float whose exponent field is `n` and whose other bits are zero. -/
def thr (n : ℕ) : EReal := if n = 0 then 0 else if n < 255 then (((2 : ℝ) ^ ((n : ℤ) - 127) : ℝ) : EReal) else ⊤

theorem field_bits : ∀ n : Fin 256, (BitVec.ofNat 32 n.val <<< 23).extractLsb' 31 1 = 0#1
    ∧ ((BitVec.ofNat 32 n.val <<< 23).extractLsb' 23 8).toNat = n.val ∧ ((BitVec.ofNat 32 n.val <<< 23).extractLsb' 0 23).toNat = 0 := by
  decide +kernel

theorem ofBits_field (n : ℕ) (h : n < 256) : (Ideal.ofBits .f32 (BitVec.ofNat 32 n <<< 23) : EReal) = thr n := by
  obtain ⟨h1, h2, h3⟩ := field_bits ⟨n, h⟩
  dsimp only at h1 h2 h3
  unfold Ideal.ofBits Ideal.ieee thr
  dsimp only
  simp only [Nat.reduceAdd, FTy.bits] at *
  rw [h1, h2, h3]
  by_cases h0 : n = 0
  · subst h0; simp
  · by_cases h5 : n < 255
    · have : ¬ n = 255 := by omega
      simp only [h0, h5, this, if_false, if_true, Nat.reducePow, Nat.reduceSub]
      norm_num
      have e : ((2 : ℝ) ^ ((n : ℤ) - 127)) = 8388608 * (2 : ℝ) ^ ((n : ℤ) - 127 - 23) := by
        rw [show (n : ℤ) - 127 = ((n : ℤ) - 127 - 23) + 23 by ring, zpow_add₀ (by norm_num)]
        norm_num; ring_nf
      rw [e]
      push_cast
      norm_num
    · have : n = 255 := by omega
      subst this; simp

/-- One step of the search, on a scalar. -/
def step (b : ℕ) (t : EReal) (n : ℕ) : ℕ := if thr (n + b) ≤ t then n + b else n

theorem probe_apply {s : Shape} (b n : ℕ) (hn : n + b < 256) (t : FVec Ideal s .f32) (f : IVec s 32) (j : s.Idx) (hf : f j = BitVec.ofNat 32 n) :
    probe (BitVec.ofNat 32 b) t f j = BitVec.ofNat 32 (step b (t j) n) := by
  have e : f j + BitVec.ofNat 32 b = BitVec.ofNat 32 (n + b) := by rw [hf, BitVec.ofNat_add]
  have h := ofBits_field (n + b) hn
  have hp : probe (BitVec.ofNat 32 b) t f j = if (Ideal.ofBits .f32 ((f j + BitVec.ofNat 32 b) <<< 23) : EReal) ≤ t j then f j + BitVec.ofNat 32 b else f j := by
    pointwise [probe]
    try rfl
  rw [hp, e, h, hf]
  unfold step
  split_ifs <;> rfl

/-- Each step halves the range that holds `t`. -/
theorem step_spec (b n : ℕ) (t : EReal) (h : thr n ≤ t) (h' : t < thr (n + 2 * b)) :
    thr (step b t n) ≤ t ∧ t < thr (step b t n + b) := by
  unfold step
  split_ifs with hc
  · refine ⟨hc, ?_⟩
    rwa [show n + b + b = n + 2 * b by ring]
  · exact ⟨h, not_le.1 hc⟩

theorem step_cases (b n : ℕ) (t : EReal) : step b t n = n ∨ step b t n = n + b := by
  unfold step; split_ifs <;> simp

/-- The field the search finds brackets `t`. -/
theorem field_apply {s : Shape} (t : FVec Ideal s .f32) (j : s.Idx) (h0 : (0 : EReal) ≤ t j) (h1 : (t j : EReal) < thr 253) :
    ∃ n : ℕ, n < 253 ∧ field t j = BitVec.ofNat 32 n ∧ thr n ≤ t j ∧ (t j : EReal) < thr (n + 1) := by
  have ht : (t j : EReal) < thr (0 + 2 * 128) := lt_of_lt_of_le h1 (by unfold thr; simp)
  have z : thr 0 ≤ (t j : EReal) := by unfold thr; simpa using h0
  have a7 := step_spec 128 0 (t j) z ht
  have c7 := step_cases 128 0 (t j)
  have b7 := probe_apply 128 0 (by norm_num) t (broadcast s 0#32) j rfl
  generalize step 128 (t j) 0 = n7 at *
  have a6 := step_spec 64 n7 (t j) a7.1 a7.2
  have c6 := step_cases 64 n7 (t j)
  have b6 := probe_apply 64 n7 (by omega) t _ j b7
  generalize step 64 (t j) n7 = n6 at *
  have a5 := step_spec 32 n6 (t j) a6.1 a6.2
  have c5 := step_cases 32 n6 (t j)
  have b5 := probe_apply 32 n6 (by omega) t _ j b6
  generalize step 32 (t j) n6 = n5 at *
  have a4 := step_spec 16 n5 (t j) a5.1 a5.2
  have c4 := step_cases 16 n5 (t j)
  have b4 := probe_apply 16 n5 (by omega) t _ j b5
  generalize step 16 (t j) n5 = n4 at *
  have a3 := step_spec 8 n4 (t j) a4.1 a4.2
  have c3 := step_cases 8 n4 (t j)
  have b3 := probe_apply 8 n4 (by omega) t _ j b4
  generalize step 8 (t j) n4 = n3 at *
  have a2 := step_spec 4 n3 (t j) a3.1 a3.2
  have c2 := step_cases 4 n3 (t j)
  have b2 := probe_apply 4 n3 (by omega) t _ j b3
  generalize step 4 (t j) n3 = n2 at *
  have a1 := step_spec 2 n2 (t j) a2.1 a2.2
  have c1 := step_cases 2 n2 (t j)
  have b1 := probe_apply 2 n2 (by omega) t _ j b2
  generalize step 2 (t j) n2 = n1 at *
  have a0 := step_spec 1 n1 (t j) a1.1 a1.2
  have c0 := step_cases 1 n1 (t j)
  have b0 := probe_apply 1 n1 (by omega) t _ j b1
  generalize step 1 (t j) n1 = n0 at *
  refine ⟨n0, ?_, b0, a0.1, a0.2⟩
  by_contra hc
  have hl : thr 253 ≤ thr n0 := by
    unfold thr
    by_cases h5 : n0 < 255
    · have : n0 ≠ 0 := by omega
      simp only [this, h5, if_false, if_true, show (253 : ℕ) ≠ 0 by norm_num, show (253 : ℕ) < 255 by norm_num]
      exact EReal.coe_le_coe_iff.2 (zpow_le_zpow_right₀ (by norm_num) (by push_cast; omega))
    · have : n0 ≠ 0 := by omega
      simp [this, h5]
  exact absurd (lt_of_lt_of_le h1 (hl.trans a0.1)) (lt_irrefl _)

theorem select_plain (w a b : BitVec 32) :
    Scalar.select (IntOp.ori (IntOp.cmpi .eq w 0#32) (IntOp.cmpi .eq w 255#32)) a b = if w = 0#32 ∨ w = 255#32 then a else b := by
  by_cases h0 : w = 0#32
  · subst h0; rfl
  · by_cases h5 : w = 255#32
    · subst h5; rfl
    · have e0 : (w == 0#32) = false := by simpa using h0
      have e5 : (w == 255#32) = false := by simpa using h5
      simp [h0, h5, e0, e5, Scalar.select, IntOp.ori, IntOp.cmpi]

theorem up_apply {s : Shape} (f : IVec s 32) (j : s.Idx) (n : ℕ) (hn : n < 253) (hf : f j = BitVec.ofNat 32 n) :
    (up (F := Ideal) f j : EReal) = thr (if n = 0 then 127 else n + 1) := by
  have e : ∀ w, f j = w → (up (F := Ideal) f j : EReal) = Ideal.ofBits .f32 ((if w = 0#32 ∨ w = 255#32 then 127#32 else w + 1#32) <<< 23) := by
    intro w hw
    subst hw
    pointwise [up, plain]
    rw [select_plain]
    rfl
  have h0 : (BitVec.ofNat 32 n = 0#32) ↔ n = 0 := by rw [← BitVec.toNat_inj]; simp; omega
  have h5 : ¬ (BitVec.ofNat 32 n = 255#32) := by rw [← BitVec.toNat_inj]; simp; omega
  rw [← ofBits_field _ (by split_ifs <;> omega)]
  refine (e _ hf).trans (congrArg (fun w : BitVec 32 => (Ideal.ofBits .f32 (w <<< 23) : EReal)) ?_)
  by_cases hz : n = 0
  · simp [hz]
  · have : ¬ (BitVec.ofNat 32 n = 0#32) := fun h => hz (h0.1 h)
    simp only [this, h5, hz, or_self, if_false, BitVec.ofNat_add]

theorem down_apply {s : Shape} (f : IVec s 32) (j : s.Idx) (n : ℕ) (hn : n < 253) (hf : f j = BitVec.ofNat 32 n) :
    (down (F := Ideal) f j : EReal) = thr (if n = 0 then 127 else 253 - n) := by
  have e : ∀ w, f j = w → (down (F := Ideal) f j : EReal) = Ideal.ofBits .f32 ((if w = 0#32 ∨ w = 255#32 then 127#32 else 253#32 - w) <<< 23) := by
    intro w hw
    subst hw
    pointwise [down, plain]
    rw [select_plain]
    rfl
  have h0 : (BitVec.ofNat 32 n = 0#32) ↔ n = 0 := by rw [← BitVec.toNat_inj]; simp; omega
  have h5 : ¬ (BitVec.ofNat 32 n = 255#32) := by rw [← BitVec.toNat_inj]; simp; omega
  have h3 : 253#32 - BitVec.ofNat 32 n = BitVec.ofNat 32 (253 - n) := by
    rw [← BitVec.toNat_inj, BitVec.toNat_sub]; simp; omega
  rw [← ofBits_field _ (by split_ifs <;> omega)]
  refine (e _ hf).trans (congrArg (fun w : BitVec 32 => (Ideal.ofBits .f32 (w <<< 23) : EReal)) ?_)
  by_cases hz : n = 0
  · simp [hz]
  · have : ¬ (BitVec.ofNat 32 n = 0#32) := fun h => hz (h0.1 h)
    simp only [this, h5, hz, or_self, if_false, h3]

theorem tiny_eq : (Ideal.ofBits .f32 0x00800000#32 : EReal) = thr 1 := ofBits_field 1 (by norm_num)
theorem neg_one_eq : (Ideal.ofBits .f32 0xBF800000#32 : EReal) = ((-1 : ℝ) : EReal) := by
  simp [Ideal.ofBits, Ideal.ieee]; norm_num
  rw [← EReal.coe_mul]; norm_num
theorem two_eq : (Ideal.ofBits .f32 0x40000000#32 : EReal) = ((2 : ℝ) : EReal) := by
  refine (ofBits_field 128 (by norm_num)).trans ?_; unfold thr; norm_num
theorem half_eq : (Ideal.ofBits .f32 0x3F000000#32 : EReal) = ((1 / 2 : ℝ) : EReal) := by
  refine (ofBits_field 126 (by norm_num)).trans ?_; unfold thr; norm_num

/-- The exponent of a ratio in a binade. -/
theorem expo_eq (n : ℕ) (hn : n < 253) (t : EReal) (h0 : thr n ≤ t) (h1 : t < thr (n + 1)) :
    Spec.expo t = (((if n = 0 then -1 else (n : ℤ) - 127 : ℤ) : ℝ) : EReal) := by
  unfold Spec.expo
  rw [tiny_eq, neg_one_eq]
  by_cases hz : n = 0
  · subst hz
    rw [if_pos (by simpa using h1)]
    simp
  · have e0 : thr n = (((2 : ℝ) ^ ((n : ℤ) - 127) : ℝ) : EReal) := by unfold thr; rw [if_neg hz, if_pos (by omega)]
    have e1 : thr (n + 1) = (((2 : ℝ) ^ ((n : ℤ) - 126) : ℝ) : EReal) := by
      unfold thr; rw [if_neg (by omega), if_pos (by omega)]
      congr 2; push_cast; ring
    have e2 : thr 1 = (((2 : ℝ) ^ (-126 : ℤ) : ℝ) : EReal) := by unfold thr; norm_num
    rw [e0] at h0; rw [e1] at h1
    induction t with
    | bot => exact absurd h0 (by simp)
    | top => exact absurd h1 (by simp)
    | coe r =>
      have g0 : (2 : ℝ) ^ ((n : ℤ) - 127) ≤ r := EReal.coe_le_coe_iff.1 h0
      have g1 : r < (2 : ℝ) ^ ((n : ℤ) - 126) := EReal.coe_lt_coe_iff.1 h1
      have hr : 0 < r := lt_of_lt_of_le (by positivity) g0
      have hc : ¬ ((r : EReal) < thr 1) := by
        rw [e2, EReal.coe_lt_coe_iff, not_lt]
        exact le_trans (zpow_le_zpow_right₀ (by norm_num) (by omega)) g0
      rw [if_neg hc, if_neg hz]
      have hl : (0 : ℝ) < Real.log 2 := Real.log_pos (by norm_num)
      have hlog : Ideal.log (r : EReal) = ((Real.log r : ℝ) : EReal) := by
        show (if r ≤ 0 then (⊥ : EReal) else ((Real.log r : ℝ) : EReal)) = _
        rw [if_neg (not_le.2 hr)]
      rw [hlog]
      have hd : Ideal.div ((Real.log r : ℝ) : EReal) ((Real.log 2 : ℝ) : EReal) = ((Real.log r / Real.log 2 : ℝ) : EReal) := by
        unfold Ideal.div
        rw [if_neg (by exact_mod_cast hl.ne'), div_eq_mul_inv, EReal.coe_mul, EReal.coe_inv]
      rw [hd]
      show (((⌊Real.log r / Real.log 2⌋ : ℤ) : ℝ) : EReal) = _
      congr 2
      rw [Int.floor_eq_iff]
      constructor
      · rw [le_div_iff₀ hl, ← Real.log_zpow]
        exact Real.log_le_log (by positivity) g0
      · rw [div_lt_iff₀ hl]
        have : ((((n : ℤ) - 127 : ℤ) : ℝ) + 1) = (((n : ℤ) - 126 : ℤ) : ℝ) := by push_cast; ring
        rw [this, ← Real.log_zpow]
        exact Real.log_lt_log hr g1

/-- Both scales of the search, as the mathematics states them. -/
theorem scale_of_field {s : Shape} (t : FVec Ideal s .f32) (j : s.Idx) (h0 : (0 : EReal) ≤ t j) (h1 : (t j : EReal) < thr 253) :
    (up (F := Ideal) (field t) j : EReal) = Spec.scale (t j) ∧ (down (F := Ideal) (field t) j : EReal) = Spec.inv (t j) := by
  obtain ⟨n, hn, hf, g0, g1⟩ := field_apply t j h0 h1
  have he := expo_eq n hn (t j) g0 g1
  rw [up_apply _ j n hn hf, down_apply _ j n hn hf]
  unfold Spec.scale Spec.inv
  rw [he, two_eq, half_eq]
  have hs : (0 : EReal) - (((if n = 0 then -1 else (n : ℤ) - 127 : ℤ) : ℝ) : EReal) = ((((if n = 0 then 1 else 127 - (n : ℤ) : ℤ)) : ℝ) : EReal) := by
    rw [zero_sub, ← EReal.coe_neg]; congr 1; split_ifs <;> push_cast <;> ring
  rw [hs, Ideal.exp2_coe, Ideal.exp2_coe, ← EReal.coe_mul, ← EReal.coe_mul]
  have p : ∀ k : ℤ, Real.rpow 2 (k : ℝ) = (2 : ℝ) ^ k := fun k => Real.rpow_intCast 2 k
  rw [p, p]
  unfold thr
  by_cases hz : n = 0
  · subst hz; norm_num
  · have hk : 253 - n ≠ 0 := by omega
    have hk' : 253 - n < 255 := by omega
    have hn1 : n + 1 < 255 := by omega
    simp only [hz, hk, hk', hn1, if_false, if_true, Nat.add_eq_zero_iff, one_ne_zero, and_false]
    constructor
    · congr 1
      rw [← zpow_add_one₀ (by norm_num)]
      congr 1; push_cast; ring
    · congr 1
      rw [one_div, ← zpow_sub_one₀ (by norm_num)]
      congr 1; push_cast [Nat.cast_sub (show n ≤ 253 by omega)]; ring

end Cert.KernelIdeal.Unit

end
-- ==== Proof.Blocks.lean ====
module

public import proofs.«01_k».proof.Proof.Data
public import proofs.«01_k».proof.Proof.KerVal
public import proofs.«01_k».proof.Proof.Scale
public import Idealize.ShloMosaic.Lib.Pipeline.ValueKit

@[expose] public section

/-!
# The kernel's blocks, read at an index of the array that they are cut from
-/

set_option maxRecDepth 16384

noncomputable section

namespace Cert.KernelIdeal.Unit

open Idealize.ShloMosaic
open Idealize.ShloMosaic.View (ld)
open Cert.KernelIdeal Cert.KernelIdeal.Gen

variable (m : (ℓ : Loc nD τ sig) → Buf (Elt Ideal) ℓ) (c : Dev nD)

/-- Which block each window holds at a point. -/
theorem idx : ∀ t : Fin cfg0.N, win0_1.index t = ![min t.val 6, 0] ∧ win0_2.index t = ![min t.val 6, 0] ∧ win0_3.index t = ![0, 0]
    ∧ win0_4.index t = ![t.val - 7, 0] ∧ win0_5.index t = ![t.val - 7, 0] ∧ win0_6.index t = ![0, t.val - 7]
    ∧ win0_7.index t = ![t.val - 7, 0] ∧ win0_8.index t = ![0, t.val - 7] ∧ win0_0.index t = ![0] :=
  (by decide +kernel : ∀ t : Fin grid0.N, win0_1.index t = ![min t.val 6, 0] ∧ win0_2.index t = ![min t.val 6, 0] ∧ win0_3.index t = ![0, 0]
    ∧ win0_4.index t = ![t.val - 7, 0] ∧ win0_5.index t = ![t.val - 7, 0] ∧ win0_6.index t = ![0, t.val - 7]
    ∧ win0_7.index t = ![t.val - 7, 0] ∧ win0_8.index t = ![0, t.val - 7] ∧ win0_0.index t = ![0])

/-- and each result's window. -/
theorem idxOut : ∀ t : Fin cfg0.N, win0_9.index t = ![t.val - 7, 0] ∧ win0_10.index t = ![t.val - 7, 0] ∧ win0_11.index t = ![min t.val 6, 0]
    ∧ win0_12.index t = ![0, 0] ∧ win0_13.index t = ![t.val - 7, 0] ∧ win0_14.index t = ![0, t.val - 7]
    ∧ win0_15.index t = ![t.val - 7, 0] ∧ win0_16.index t = ![0, t.val - 7] :=
  (by decide +kernel : ∀ t : Fin grid0.N, win0_9.index t = ![t.val - 7, 0] ∧ win0_10.index t = ![t.val - 7, 0] ∧ win0_11.index t = ![min t.val 6, 0]
    ∧ win0_12.index t = ![0, 0] ∧ win0_13.index t = ![t.val - 7, 0] ∧ win0_14.index t = ![0, t.val - 7]
    ∧ win0_15.index t = ![t.val - 7, 0] ∧ win0_16.index t = ![0, t.val - 7])

/-- The points at which the results are written back. -/
theorem flushOut : ∀ t : Fin cfg0.N, (win0_9.flush t = true → 7 ≤ t.val) ∧ (win0_10.flush t = true → 7 ≤ t.val) ∧ (win0_12.flush t = true → 6 ≤ t.val)
    ∧ (win0_13.flush t = true → 7 ≤ t.val) ∧ (win0_14.flush t = true → 7 ≤ t.val) ∧ (win0_15.flush t = true → 7 ≤ t.val) ∧ (win0_16.flush t = true → 7 ≤ t.val) :=
  (by decide +kernel : ∀ t : Fin grid0.N, (win0_9.flush t = true → 7 ≤ t.val) ∧ (win0_10.flush t = true → 7 ≤ t.val) ∧ (win0_12.flush t = true → 6 ≤ t.val)
    ∧ (win0_13.flush t = true → 7 ≤ t.val) ∧ (win0_14.flush t = true → 7 ≤ t.val) ∧ (win0_15.flush t = true → 7 ≤ t.val) ∧ (win0_16.flush t = true → 7 ≤ t.val))

theorem lt21 (t : Fin cfg0.N) : t.val < 21 := t.isLt

/-- The arrays that the call reads: the tokens, the incoming gradient and its scales, the weights and the two moments. -/
abbrev X0 : S1792x7168.Idx → EReal := V m c main_v13
abbrev D0 : S1792x2048.Idx → EReal := V m c main_v14
abbrev S0 : S1x1792.Idx → EReal := V m c main_arg2
abbrev W0 : S7168x2048.Idx → EReal := V m c main_arg3
abbrev MC0 : S7168x2048.Idx → BitVec 8 := V m c main_arg4
abbrev MS0 : S16x7168.Idx → EReal := V m c main_v15
abbrev SC0 : S7168x2048.Idx → BitVec 8 := V m c main_arg6
abbrev SS0 : S16x7168.Idx → EReal := V m c main_v16

theorem x_blk (t : Fin cfg0.N) (r : Fin 256) (l : Fin 7168) : (iblk m c 1 t : S256x7168.Idx → EReal) (ix2 r l) = X0 m c (ix2 ⟨256 * min t.val 6 + r.val, by omega⟩ l) := by
  blk_ext [iblk, idx t]
theorem d_blk (t : Fin cfg0.N) (r : Fin 256) (l : Fin 2048) : (iblk m c 2 t : S256x2048.Idx → EReal) (ix2 r l) = D0 m c (ix2 ⟨256 * min t.val 6 + r.val, by omega⟩ l) := by
  blk_ext [iblk, idx t]
theorem s_blk (t : Fin cfg0.N) (l : Fin 1792) : (iblk m c 3 t : S1x1792.Idx → EReal) (ix2 0 l) = S0 m c (ix2 0 l) := by
  blk_ext [iblk, idx t]
theorem w_blk (t : Fin cfg0.N) (r : Fin 512) (l : Fin 2048) : (iblk m c 4 t : S512x2048.Idx → EReal) (ix2 r l) = W0 m c (ix2 ⟨512 * (t.val - 7) + r.val, by have := lt21 t; omega⟩ l) := by
  blk_ext [iblk, idx t]
theorem mc_blk (t : Fin cfg0.N) (r : Fin 512) (l : Fin 2048) : (iblk m c 5 t : S512x2048.Idx → BitVec 8) (ix2 r l) = MC0 m c (ix2 ⟨512 * (t.val - 7) + r.val, by have := lt21 t; omega⟩ l) := by
  blk_ext [iblk, idx t]
theorem ms_blk (t : Fin cfg0.N) (b : Fin 16) (r : Fin 512) : (iblk m c 6 t : S16x512.Idx → EReal) (ix2 b r) = MS0 m c (ix2 b ⟨512 * (t.val - 7) + r.val, by have := lt21 t; omega⟩) := by
  blk_ext [iblk, idx t]
theorem sc_blk (t : Fin cfg0.N) (r : Fin 512) (l : Fin 2048) : (iblk m c 7 t : S512x2048.Idx → BitVec 8) (ix2 r l) = SC0 m c (ix2 ⟨512 * (t.val - 7) + r.val, by have := lt21 t; omega⟩ l) := by
  blk_ext [iblk, idx t]
theorem ss_blk (t : Fin cfg0.N) (b : Fin 16) (r : Fin 512) : (iblk m c 8 t : S16x512.Idx → EReal) (ix2 b r) = SS0 m c (ix2 b ⟨512 * (t.val - 7) + r.val, by have := lt21 t; omega⟩) := by
  blk_ext [iblk, idx t]

/-- A load of a box, read at a place. -/
theorem ld_rect {s : Shape} {e' : EltTy} (A : s.Idx → Elt Ideal e') (off : Fin s.rank → ℕ) (size : Fin s.rank → ℕ) (inb : ∀ a, off a + size a ≤ s.size a)
    (y : (Rect.unit (s := s) off size inb).shape.Idx) (z : s.Idx) (h : ∀ a, (z a).val = off a + (y a).val) :
    ld (Val := Elt Ideal) (e' := e') A (Rect.unit (s := s) off size inb) y = A z := by
  refine congrArg A (funext fun a => Fin.ext ?_)
  have e : (((Rect.unit (s := s) off size inb).emb y) a).val = off a + 1 * (y a).val := rfl
  rw [h a, ← Nat.one_mul (y a).val, ← e]; rfl

end Cert.KernelIdeal.Unit

end
-- ==== Proof.Tokens.lean ====
/- What the two scratch buffers hold, entry by entry: the tokens' codes, and the incoming gradient times both scales. -/
module

public import proofs.«01_k».proof.Proof.Blocks

@[expose] public section

set_option maxRecDepth 16384

noncomputable section

namespace Cert.KernelIdeal.Unit

open Idealize.ShloMosaic
open Idealize.ShloMosaic.View (ld)
open Cert.KernelIdeal Cert.KernelIdeal.Gen

variable (m : (ℓ : Loc nD τ sig) → Buf (Elt Ideal) ℓ) (c : Dev nD)

/-- A number below `a * b` by its quotient and remainder. -/
theorem split_fin (a b N : ℕ) (hN : N = b * a) (T : Fin N) : ∃ (p : Fin a) (r : Fin b), ∃ h : b * p.val + r.val < N, T = ⟨b * p.val + r.val, h⟩ := by
  subst hN
  have hb : 0 < b := by
    rcases Nat.eq_zero_or_pos b with h | h
    · subst h; exact absurd T.isLt (by simp)
    · exact h
  refine ⟨⟨T.val / b, Nat.div_lt_of_lt_mul T.isLt⟩, ⟨T.val % b, Nat.mod_lt _ hb⟩, ?_, ?_⟩
  · show b * (T.val / b) + T.val % b < b * a
    rw [Nat.div_add_mod]; exact T.isLt
  · exact Fin.ext (Nat.div_add_mod _ _).symm

theorem four {α : Type} (f : Fin 4 → α) : ∀ q, (![f 0, f 1, f 2, f 3] : Fin 4 → α) q = f q
  | 0 => rfl
  | 1 => rfl
  | 2 => rfl
  | 3 => rfl

theorem rowsOf_apply (X : S256x7168.Idx → EReal) (r : Fin 2) (q : Fin 4) (a : Fin 32) (l : Fin 7168) :
    (rowsOf (F := Ideal) X r q (ix2 a l) : EReal) = X (ix2 ⟨128 * r.val + 32 * q.val + a.val, by omega⟩ l) := by
  refine ld_rect (e' := .bf16) X _ _ _ (ix2 a l) _ fun b => ?_
  match b with
  | 0 => rfl
  | 1 => exact (Nat.zero_add _).symm

theorem dOf_apply (X : S256x2048.Idx → EReal) (r : Fin 2) (n : Fin 16) (a l : Fin 128) :
    (dOf (F := Ideal) X r n (ix2 a l) : EReal) = X (ix2 ⟨128 * r.val + a.val, by omega⟩ ⟨128 * n.val + l.val, by omega⟩) := by
  refine ld_rect (e' := .fp8e5m2) X _ _ _ (ix2 a l) _ fun b => ?_
  match b with
  | 0 => rfl
  | 1 => rfl

theorem sdyOf_apply (X : S1x1792.Idx → EReal) (ρ : Fin 14) (l : Fin 128) :
    (sdyOf (F := Ideal) X ρ (ix2 0 l) : EReal) = X (ix2 0 ⟨128 * ρ.val + l.val, by omega⟩) := by
  refine lanes.get_apply X ρ (ix2 0 l) (ix2 0 ⟨128 * ρ.val + l.val, by omega⟩) fun b => ?_
  match b with
  | 0 => rfl
  | 1 => rfl

/-- 32 token rows. -/
theorem xOf_apply (k : Fin 56) (a : Fin 32) (l : Fin 7168) : (xOf m c k (ix2 a l) : EReal) = X0 m c (ix2 ⟨32 * k.val + a.val, by omega⟩ l) := by
  unfold xOf
  rw [rowsOf_apply, x_blk]
  refine congrArg (fun i => X0 m c (ix2 i l)) (Fin.ext ?_)
  show 256 * min (min (k.val / 8) 6) 6 + (128 * (k.val % 8 / 4) + 32 * (k.val % 4) + a.val) = 32 * k.val + a.val
  omega

/-- A token's largest magnitude over 448. -/
def ratioX (T : Fin 1792) : EReal := Spec.big (fun l : Fin 7168 => X0 m c (ix2 T l)) * Spec.over448

/-- The tokens are such that the scales exist. -/
def Sized : Prop := ∀ T, 0 ≤ ratioX m c T ∧ ratioX m c T < thr 253

/-- The codes of 32 rows. -/
theorem codes_rows (h : Sized m c) (x : FVec Ideal S32x7168 .bf16) (o : ℕ) (ho : o + 32 ≤ 1792)
    (hx : ∀ (a : Fin 32) (l : Fin 7168), (x (ix2 a l) : EReal) = X0 m c (ix2 ⟨o + a.val, by omega⟩ l)) (a : Fin 32) (l : Fin 7168) :
    (codes x (ix2 a l) : EReal) = Spec.clip448 (X0 m c (ix2 ⟨o + a.val, by omega⟩ l) * Spec.inv (ratioX m c ⟨o + a.val, by omega⟩)) := by
  have e : (ratio (rowMax x) (ix2 a 0) : EReal) = ratioX m c ⟨o + a.val, by omega⟩ := by
    rw [ratio_apply, rowMax_apply]
    unfold ratioX
    simp only [hx]
  have h' := h ⟨o + a.val, by omega⟩
  rw [← e] at h'
  rw [codes_apply, (scale_of_field _ _ h'.1 h'.2).2, e, hx]

/-- The scales of 128 tokens. -/
theorem scOf_apply (h : Sized m c) (k : Fin 14) (l : Fin 128) :
    (scOf m c k (ix2 0 l) : EReal) = Spec.scale (ratioX m c ⟨128 * k.val + l.val, by omega⟩) := by
  obtain ⟨q, t, hl, rfl⟩ := split_fin 4 32 128 rfl l
  unfold scOf scalesOf scaleRow
  set M := extractStridedSlice _ _ _ _ with hM
  have e : (ratio M (ix2 0 ⟨32 * q.val + t.val, by omega⟩) : EReal) = ratioX m c ⟨128 * k.val + (32 * q.val + t.val), by omega⟩ := by
    rw [ratio_apply, hM, scaleRow_stack]
    have hr : ∀ q : Fin 4, (spread (rowsOf (iblk m c 1 (pt (k.val / 2))) ⟨k.val % 2, by omega⟩ q) (ix2 t 0) : EReal)
        = Spec.big (fun l : Fin 7168 => X0 m c (ix2 ⟨128 * k.val + (32 * q.val + t.val), by omega⟩ l)) := by
      intro q
      rw [spread_apply, rowMax_apply]
      refine congrArg Spec.big (funext fun l => ?_)
      rw [rowsOf_apply, x_blk]
      refine congrArg (fun i => X0 m c (ix2 i l)) (Fin.ext ?_)
      show 256 * min (min (k.val / 2) 6) 6 + (128 * (k.val % 2) + 32 * q.val + t.val) = 128 * k.val + (32 * q.val + t.val)
      omega
    unfold ratioX
    refine congrArg (· * Spec.over448) ?_
    rw [← hr q]
    exact congrFun (four (fun q => spread (rowsOf (iblk m c 1 (pt (k.val / 2))) ⟨k.val % 2, by omega⟩ q)) q) (ix2 t 0)
  have h' := h ⟨128 * k.val + (32 * q.val + t.val), by omega⟩
  rw [← e] at h'
  rw [(scale_of_field _ _ h'.1 h'.2).1, e]

/-- The scaled gradient. -/
theorem dtOf_apply (h : Sized m c) (j : Fin 14 × Fin 16) (i t : Fin 128) :
    (dtOf m c j (ix2 i t) : EReal) = D0 m c (ix2 ⟨128 * j.1.val + t.val, by omega⟩ ⟨128 * j.2.val + i.val, by omega⟩) * S0 m c (ix2 0 ⟨128 * j.1.val + t.val, by omega⟩)
      * Spec.scale (ratioX m c ⟨128 * j.1.val + t.val, by omega⟩) := by
  unfold dtOf
  rw [dyBlock_apply, scOf_apply m c h, sdyOf_apply, s_blk, dOf_apply, d_blk]
  refine congrArg (fun r => D0 m c (ix2 r ⟨128 * j.2.val + i.val, by omega⟩) * S0 m c (ix2 0 ⟨128 * j.1.val + t.val, by omega⟩)
      * Spec.scale (ratioX m c ⟨128 * j.1.val + t.val, by omega⟩)) (Fin.ext ?_)
  show 256 * min (min (j.1.val / 2) 6) 6 + (128 * (j.1.val % 2) + t.val) = 128 * j.1.val + t.val
  omega

theorem slabOf_apply (x : FVec Ideal S32x7168 .bf16) (n : Fin 14) (a : Fin 32) (k : Fin 512) :
    (slabOf x n (ix3 0 a k) : EReal) = codes x (ix2 a ⟨512 * n.val + k.val, by omega⟩) := by
  unfold slabOf
  generalize codes x = y
  pointwise []

/-- The codes scratch, complete. -/
theorem q_apply (h : Sized m c) {Q : Vec Ideal S14x1792x512 .fp8e4m3} (hQ : QDone m c 7 Q) (n : Fin 14) (T : Fin 1792) (k : Fin 512) :
    (Q (ix3 n T k) : EReal) = Spec.clip448 (X0 m c (ix2 T ⟨512 * n.val + k.val, by omega⟩) * Spec.inv (ratioX m c T)) := by
  obtain ⟨κ, a, hT, rfl⟩ := split_fin 56 32 1792 rfl T
  have g := hQ (κ, n) (by show 14 * κ.val + n.val < 14 * (8 * 7); omega)
  have g' := slabs.get_apply Q (κ, n) (ix3 0 a k) (ix3 n ⟨32 * κ.val + a.val, by omega⟩ k) (fun b => by
    match b with
    | 0 => rfl
    | 1 => rfl
    | 2 => exact (Nat.zero_add _).symm)
  refine (g'.symm.trans (congrFun g (ix3 0 a k))).trans ?_
  refine (slabOf_apply (xOf m c κ) n a k).trans ?_
  exact codes_rows m c h (xOf m c κ) (32 * κ.val) (by omega) (xOf_apply m c κ) a _

/-- The gradient scratch, complete. -/
theorem d_apply (h : Sized m c) {D : FVec Ideal S2048x1792 .bf16} (hD : DDone m c 7 D) (i : Fin 2048) (T : Fin 1792) :
    (D (ix2 i T) : EReal) = D0 m c (ix2 T i) * S0 m c (ix2 0 T) * Spec.scale (ratioX m c T) := by
  obtain ⟨p, t, hT, rfl⟩ := split_fin 14 128 1792 rfl T
  obtain ⟨q, r, hi, rfl⟩ := split_fin 16 128 2048 rfl i
  have g := hD (p, q) (by show 16 * p.val + q.val < 16 * (2 * 7); omega)
  have g' := blocks.get_apply D (p, q) (ix2 r t) (ix2 ⟨128 * q.val + r.val, by omega⟩ ⟨128 * p.val + t.val, by omega⟩) (fun b => by
    match b with
    | 0 => rfl
    | 1 => rfl)
  refine (g'.symm.trans (congrFun g (ix2 r t))).trans ?_
  exact dtOf_apply m c h (p, q) r t

theorem grad_entry (a : FVec Ideal S256x1792 .bf16) (b : FVec Ideal S1x1792x512 .fp8e4m3) (u : Fin 8) (i k : Fin 128) :
    (gradCell (grad a b) u (ix2 i k) : EReal)
      = ∑ T : Fin 1792, (a (ix2 ⟨128 * (u.val / 4) + i.val, by omega⟩ T) : EReal) * (b (ix3 0 T ⟨128 * (u.val % 4) + k.val, by omega⟩) : EReal) := by
  unfold gradCell grad
  pointwise []
  try rfl

theorem off32 : ∀ t : Fin cfg0.N, 7 ≤ t.val → k0_off32 (grid0.coords t) = ![t.val - 7, 0, 0] :=
  (by decide +kernel : ∀ t : Fin grid0.N, 7 ≤ t.val → k0_off32 (grid0.coords t) = ![t.val - 7, 0, 0])

/-- The weight gradient. -/
theorem gAt_apply (h : Sized m c) {Q : Vec Ideal S14x1792x512 .fp8e4m3} {D : FVec Ideal S2048x1792 .bf16} (hQ : QDone m c 7 Q) (hD : DDone m c 7 D)
    (t : Fin cfg0.N) (ht : 7 ≤ t.val) (hc : k0_cond2 (grid0.coords t) = 1#1) (ib : Fin 4) (jb : Fin 16) (i k : Fin 128) :
    (gAt D (ld Q (Rect.unit (s := S14x1792x512) (k0_off32 (grid0.coords t)) S1x1792x512.size (k0_off32_inb (grid0.coords t) hc))) ib jb (ix2 i k) : EReal)
      = ∑ T : Fin 1792, (Spec.clip448 (X0 m c (ix2 T ⟨512 * (t.val - 7) + 128 * ib.val + k.val, by have := lt21 t; omega⟩) * Spec.inv (ratioX m c T)) * Spec.scale (ratioX m c T))
          * (D0 m c (ix2 T ⟨128 * jb.val + i.val, by omega⟩) * S0 m c (ix2 0 T)) := by
  have h21 := lt21 t
  unfold gAt
  rw [grad_entry]
  refine Finset.sum_congr rfl fun T _ => ?_
  have eD := ld_rect (e' := .bf16) D ![256 * (jb.val / 2), 0] S256x1792.size (by intro b; match b with | 0 => show 256 * (jb.val / 2) + 256 ≤ 2048; omega | 1 => show 0 + 1792 ≤ 1792; omega)
    (ix2 ⟨128 * ((4 * (jb.val % 2) + ib.val) / 4) + i.val, by omega⟩ T) (ix2 ⟨128 * jb.val + i.val, by omega⟩ T) (fun b => by
      match b with
      | 0 => show 128 * jb.val + i.val = 256 * (jb.val / 2) + (128 * ((4 * (jb.val % 2) + ib.val) / 4) + i.val); omega
      | 1 => exact (Nat.zero_add _).symm)
  have eoff : k0_off32 (grid0.coords t) = ![t.val - 7, 0, 0] := off32 t ht
  have eQ := ld_rect (e' := .fp8e4m3) Q (k0_off32 (grid0.coords t)) S1x1792x512.size (k0_off32_inb (grid0.coords t) hc)
    (ix3 0 T ⟨128 * ((4 * (jb.val % 2) + ib.val) % 4) + k.val, by omega⟩) (ix3 ⟨t.val - 7, by omega⟩ T ⟨128 * ib.val + k.val, by omega⟩) (fun b => by
      refine Eq.trans ?_ (congrArg (· + _) (congrFun eoff b).symm)
      match b with
      | 0 => rfl
      | 1 => exact (Nat.zero_add _).symm
      | 2 => show 128 * ib.val + k.val = 0 + (128 * ((4 * (jb.val % 2) + ib.val) % 4) + k.val); omega)
  refine (congrArg₂ (fun p q : EReal => p * q) eD eQ).trans ?_
  rw [d_apply m c h hD, q_apply m c h hQ]
  have e2 : (⟨512 * (t.val - 7) + (128 * ib.val + k.val), by omega⟩ : Fin 7168) = ⟨512 * (t.val - 7) + 128 * ib.val + k.val, by omega⟩ := Fin.ext (by dsimp only; omega)
  dsimp only
  rw [e2]
  ac_rfl

end Cert.KernelIdeal.Unit

end
-- ==== Proof.Adam.lean ====
/- The scalar mathematics of the Adam step: the kernel's moments in units of `1 - β`, its update in one quotient, and the
   int8 requantisation of a moment in any unit. -/
module

public import proofs.«01_k».proof.Proof.KerVal

@[expose] public section

noncomputable section

namespace Cert.KernelIdeal.Unit

open Cert.KernelIdeal Cert.KernelIdeal.Gen Idealize.ShloMosaic

theorem one_eq : (Ideal.ofBits .f32 0x3F800000#32 : EReal) = 1 := by
  simp [Ideal.ofBits, Ideal.ieee]
  try (rw [← EReal.coe_mul]; norm_num)

theorem c127_eq : (Ideal.ofBits .f32 0x42FE0000#32 : EReal) = ((127 : ℝ) : EReal) := by
  simp [Ideal.ofBits, Ideal.ieee]
  try norm_num
  try (rw [← EReal.coe_mul]; norm_num)

theorem m127_eq : (Ideal.ofBits .f32 0xC2FE0000#32 : EReal) = ((-127 : ℝ) : EReal) := by
  simp [Ideal.ofBits, Ideal.ieee]
  try norm_num
  try (rw [← EReal.coe_mul]; norm_num)

theorem div_coe (x : EReal) (r : ℝ) (h : r ≠ 0) : Ideal.div x (r : EReal) = x * ((r⁻¹ : ℝ) : EReal) := by
  unfold Ideal.div
  rw [if_neg (by exact_mod_cast h), EReal.coe_inv]

theorem div_top (x : EReal) : Ideal.div x ⊤ = 0 := by
  unfold Ideal.div
  rw [if_neg (by simp), EReal.inv_top, mul_zero]

/-- A nonnegative factor distributes. -/
theorem coe_mul_add (r : ℝ) (h : 0 ≤ r) (x y : EReal) : (r : EReal) * (x + y) = (r : EReal) * x + (r : EReal) * y :=
  EReal.left_distrib_of_nonneg_of_ne_top (by exact_mod_cast h) (EReal.coe_ne_top r) x y

/-- The new first moment is a tenth of the kernel's. -/
theorem m_unit (n s g : EReal) :
    ((9 / 10 : ℝ) : EReal) * (n * s) + ((1 / 10 : ℝ) : EReal) * g = ((1 / 10 : ℝ) : EReal) * (n * (s * ((9 : ℝ) : EReal)) + g) := by
  rw [coe_mul_add _ (by norm_num)]
  congr 1
  rw [show ((9 / 10 : ℝ) : EReal) = ((1 / 10 : ℝ) : EReal) * ((9 : ℝ) : EReal) by rw [← EReal.coe_mul]; norm_num]
  ac_rfl

/-- The new second moment is a thousandth of the kernel's. -/
theorem v_unit (n s g : EReal) :
    ((999 / 1000 : ℝ) : EReal) * ((n * s) * (n * s)) + ((1 / 1000 : ℝ) : EReal) * (g * g)
      = ((1 / 1000 : ℝ) : EReal) * ((n * (s * ((Real.sqrt 999 : ℝ) : EReal))) * (n * (s * ((Real.sqrt 999 : ℝ) : EReal))) + g * g) := by
  rw [coe_mul_add _ (by norm_num)]
  congr 1
  rw [show ((999 / 1000 : ℝ) : EReal) = ((1 / 1000 : ℝ) : EReal) * (((Real.sqrt 999 : ℝ) : EReal) * ((Real.sqrt 999 : ℝ) : EReal)) by
    rw [← EReal.coe_mul, ← EReal.coe_mul, Real.mul_self_sqrt (by norm_num)]; norm_num]
  ac_rfl

theorem mul_self_nonneg' (x : EReal) : 0 ≤ x * x := by
  rcases le_total 0 x with h | h
  · exact mul_nonneg h h
  · have : 0 ≤ -x := by simpa using EReal.neg_le_neg_iff.2 h
    have e : x * x = -x * -x := by rw [EReal.neg_mul, mul_comm x (-x), EReal.neg_mul, neg_neg]
    rw [e]
    exact mul_nonneg this this

theorem v_nonneg (a g : EReal) : 0 ≤ a * a + g * g := add_nonneg (mul_self_nonneg' a) (mul_self_nonneg' g)

theorem sqrt_of_nonneg (r : ℝ) (h : 0 ≤ r) : Ideal.sqrt (r : EReal) = ((Real.sqrt r : ℝ) : EReal) := by
  show (if r < 0 then (⊥ : EReal) else ((Real.sqrt r : ℝ) : EReal)) = _
  rw [if_neg (not_lt.2 h)]

/-- One over the reciprocal root is the root. -/
theorem root_eq (V : EReal) (h : 0 ≤ V) : Ideal.div (Ideal.ofBits .f32 0x3F800000#32) (Ideal.rsqrt V) = Ideal.sqrt V := by
  rw [one_eq]
  induction V with
  | bot => simp at h
  | top =>
    show Ideal.div 1 0 = ⊤
    simp [Ideal.div]
  | coe r =>
    have hr : 0 ≤ r := by exact_mod_cast h
    rw [sqrt_of_nonneg r hr]
    show Ideal.div 1 (if r < 0 then (⊥ : EReal) else if r = 0 then ⊤ else (((Real.sqrt r)⁻¹ : ℝ) : EReal)) = _
    rw [if_neg (not_lt.2 hr)]
    by_cases h0 : r = 0
    · subst h0; rw [if_pos rfl, div_top]; simp
    · have hs : Real.sqrt r ≠ 0 := (Real.sqrt_pos.2 (lt_of_le_of_ne hr (Ne.symm h0))).ne'
      rw [if_neg h0, div_coe _ _ (inv_ne_zero hs), inv_inv, one_mul]

theorem sqrt_nonneg (V : EReal) (h : 0 ≤ V) : 0 ≤ Ideal.sqrt V := by
  induction V with
  | bot => simp at h
  | top => show (0 : EReal) ≤ ⊤; simp
  | coe r =>
    rw [sqrt_of_nonneg r (by exact_mod_cast h)]
    exact_mod_cast Real.sqrt_nonneg r

/-- The root of a thousandth. -/
theorem sqrt_unit (V : EReal) (h : 0 ≤ V) :
    Ideal.sqrt (((1 / 1000 : ℝ) : EReal) * V) = ((Real.sqrt (1 / 1000) : ℝ) : EReal) * Ideal.sqrt V := by
  induction V with
  | bot => simp at h
  | top =>
    rw [EReal.coe_mul_top_of_pos (by norm_num)]
    show (⊤ : EReal) = ((Real.sqrt (1 / 1000) : ℝ) : EReal) * ⊤
    rw [EReal.coe_mul_top_of_pos (Real.sqrt_pos.2 (by norm_num))]
  | coe r =>
    have hr : 0 ≤ r := by exact_mod_cast h
    rw [← EReal.coe_mul, sqrt_of_nonneg _ (by positivity), sqrt_of_nonneg r hr, Real.sqrt_mul (by norm_num), EReal.coe_mul]

/-- The kernel's update is the mathematics' for bias corrections in (0, ∞). -/
theorem update_eq (b1 b2 : ℝ) (h1 : 0 < b1) (h2 : 0 < b2) (M V : EReal) (hV : 0 ≤ V) :
    Ideal.div (((-1 / 1000 : ℝ) : EReal) * Ideal.div (((1 / 10 : ℝ) : EReal) * M) (b1 : EReal))
        (Ideal.sqrt (Ideal.div (((1 / 1000 : ℝ) : EReal) * V) (b2 : EReal)) + ((1 / 100000000 : ℝ) : EReal))
      = (M * (((1 / (b1 * Real.sqrt (1 / b2)) : ℝ) : EReal) * (((-1 / 10000) * (Real.sqrt (1 / 1000))⁻¹ : ℝ) : EReal)))
        * Ideal.div (Ideal.ofBits .f32 0x3F800000#32)
            (Ideal.sqrt V + ((1 / Real.sqrt (1 / b2) : ℝ) : EReal) * (((1 / 100000000) * (Real.sqrt (1 / 1000))⁻¹ : ℝ) : EReal)) := by
  rw [one_eq, div_coe _ b1 h1.ne', div_coe _ b2 h2.ne', ← EReal.coe_mul, ← EReal.coe_mul]
  have hk : 0 < Real.sqrt (1 / 1000) := Real.sqrt_pos.2 (by norm_num)
  have hb : 0 < Real.sqrt (1 / b2) := Real.sqrt_pos.2 (by positivity)
  induction V with
  | bot => simp at hV
  | top =>
    rw [EReal.coe_mul_top_of_pos (by norm_num), EReal.top_mul_coe_of_pos (by positivity)]
    show Ideal.div _ ((⊤ : EReal) + _) = _ * Ideal.div 1 ((⊤ : EReal) + _)
    rw [EReal.top_add_coe, EReal.top_add_coe, div_top, div_top, mul_zero]
  | coe r =>
    have hr : 0 ≤ r := by exact_mod_cast hV
    rw [← EReal.coe_mul, ← EReal.coe_mul, sqrt_of_nonneg _ (by positivity), sqrt_of_nonneg r hr, ← EReal.coe_add, ← EReal.coe_add]
    have hs := Real.sqrt_nonneg r
    rw [div_coe _ _ (by positivity), div_coe _ _ (by positivity), one_mul]
    have e : ∀ a b c d : ℝ, (a : EReal) * ((b : EReal) * M * (c : EReal)) * (d : EReal) = M * ((a * b * c * d : ℝ) : EReal) := fun a b c d => by
      simp only [EReal.coe_mul]; ac_rfl
    rw [e, mul_assoc M, ← EReal.coe_mul]
    congr 2
    have hq : Real.sqrt (1 / 1000 * r * b2⁻¹) = Real.sqrt (1 / 1000) * Real.sqrt r * Real.sqrt (1 / b2) := by
      rw [Real.sqrt_mul (by positivity), Real.sqrt_mul (by norm_num), one_div b2]
    rw [hq]
    generalize Real.sqrt (1 / 1000) = k at *
    generalize Real.sqrt (1 / b2) = q at *
    generalize Real.sqrt r = s at *
    have p1 : k * s * q + 1 / 100000000 ≠ 0 := by positivity
    have p2 : s + 1 / q * (1 / 100000000 * k⁻¹) ≠ 0 := by positivity
    have : s + 1 / q * (1 / 100000000 * k⁻¹) = (k * s * q + 1 / 100000000) / (k * q) := by field_simp
    rw [this]
    field_simp
    try norm_num

/-! ## The int8 requantisation -/

theorem big_nonneg {n : Nat} (f : Fin (n + 1) → EReal) : 0 ≤ Spec.big f := by
  refine le_trans ?_ (Finset.le_sup (f := fun k => max (f k) (-(f k))) (Finset.mem_univ 0))
  rcases le_total 0 (f 0) with h | h
  · exact le_max_of_le_left h
  · exact le_max_of_le_right (by simpa using EReal.neg_le_neg_iff.2 h)

theorem le_big {n : Nat} (f : Fin n → EReal) (k : Fin n) : max (f k) (-(f k)) ≤ Spec.big f :=
  Finset.le_sup (f := fun k => max (f k) (-(f k))) (Finset.mem_univ k)

theorem big_of_nonneg {n : Nat} (f : Fin n → EReal) (h : ∀ k, 0 ≤ f k) : Spec.big f = Finset.univ.sup f := by
  unfold Spec.big
  refine Finset.sup_congr rfl fun k _ => max_eq_left ?_
  exact le_trans (by simpa using EReal.neg_le_neg_iff.2 (h k)) (h k)

/-- Scaling by a positive real. -/
theorem big_scale {n : Nat} (u : ℝ) (hu : 0 < u) (f : Fin (n + 1) → EReal) :
    (Spec.big fun k => (u : EReal) * f k) = (u : EReal) * Spec.big f := by
  have hm : Monotone fun x : EReal => (u : EReal) * x := fun x y h => mul_le_mul_of_nonneg_left h (by exact_mod_cast hu.le)
  have hx : ∀ x y : EReal, (u : EReal) * max x y = max ((u : EReal) * x) ((u : EReal) * y) := fun x y => hm.map_max
  apply le_antisymm
  · refine Finset.sup_le fun k _ => ?_
    refine le_trans ?_ (hm (le_big f k))
    show max ((u : EReal) * f k) (-((u : EReal) * f k)) ≤ (u : EReal) * max (f k) (-(f k))
    rw [hx]
    exact max_le_max le_rfl (le_of_eq (by rw [mul_comm, ← EReal.neg_mul, mul_comm]))
  · obtain ⟨k, -, hk⟩ := Finset.exists_mem_eq_sup (Finset.univ : Finset (Fin (n + 1))) ⟨0, Finset.mem_univ 0⟩ fun k => max (f k) (-(f k))
    unfold Spec.big
    rw [hk]
    refine le_trans (le_of_eq ?_) (Finset.le_sup (f := fun k => max ((u : EReal) * f k) (-((u : EReal) * f k))) (Finset.mem_univ k))
    rw [hx]
    congr 1
    rw [mul_comm, EReal.neg_mul, mul_comm]

theorem scale8_zero : Spec.scale8 0 = 1 := by
  unfold Spec.scale8
  rw [if_pos rfl, c127_eq, div_coe _ _ (by norm_num), ← EReal.coe_mul]
  norm_num

/-- The scale of a block from its largest magnitude in units of `u`. -/
theorem scale_unit (u : ℝ) (hu : 0 < u) (a : EReal) :
    (if a = 0 then Ideal.ofBits .f32 0x3F800000#32 else Ideal.div (a * (u : EReal)) (Ideal.ofBits .f32 0x42FE0000#32))
      = Spec.scale8 ((u : EReal) * a) := by
  by_cases h : a = 0
  · rw [if_pos h, h, mul_zero, scale8_zero, one_eq]
  · have : (u : EReal) * a ≠ 0 := mul_ne_zero (by exact_mod_cast hu.ne') h
    unfold Spec.scale8
    rw [if_neg h, if_neg this, mul_comm]

/-- The code's argument from a value and the block's largest magnitude, both in units of `u`. -/
theorem code_unit (u : ℝ) (hu : 0 < u) (x a : EReal) (ha : 0 ≤ a) (hx : max x (-x) ≤ a) :
    x * (if a = 0 then Ideal.ofBits .f32 0x3F800000#32 else Ideal.div (Ideal.ofBits .f32 0x42FE0000#32) a)
      = Ideal.div ((u : EReal) * x) (Spec.scale8 ((u : EReal) * a)) := by
  by_cases h : a = 0
  · subst h
    have h1 : x ≤ 0 := le_trans (le_max_left _ _) hx
    have h2 : 0 ≤ x := by simpa using EReal.neg_le_neg_iff.1 (le_trans (le_trans (le_max_right _ _) hx) (by simp : (0 : EReal) ≤ -0))
    have : x = 0 := le_antisymm h1 h2
    subst this
    rw [mul_zero, scale8_zero]
    simp [Ideal.div]
  · have hne : (u : EReal) * a ≠ 0 := mul_ne_zero (by exact_mod_cast hu.ne') h
    unfold Spec.scale8
    rw [if_neg h, if_neg hne, c127_eq, div_coe _ 127 (by norm_num)]
    induction a with
    | bot => simp at ha
    | top =>
      rw [div_top, mul_zero, EReal.coe_mul_top_of_pos hu, EReal.top_mul_coe_of_pos (by norm_num), div_top]
    | coe r =>
      have hr : r ≠ 0 := by exact_mod_cast h
      rw [div_coe _ r hr, ← EReal.coe_mul, ← EReal.coe_mul, ← EReal.coe_mul, div_coe _ _ (mul_ne_zero (mul_ne_zero hu.ne' hr) (by norm_num)),
        mul_comm (u : EReal) x, mul_assoc, ← EReal.coe_mul]
      congr 2
      have := hu.ne'
      field_simp

theorem narrow : ∀ k : Fin 255, ((BitVec.ofInt 32 ((k.val : ℤ) - 127)).setWidth 16).setWidth 8 = BitVec.ofInt 8 ((k.val : ℤ) - 127) := by
  decide +kernel

/-- A clipped rounding is an integer from -127 to 127. -/
theorem clip_int (y : EReal) : ∃ k : Fin 255, Spec.clip127 (Ideal.liftRound Ideal.roundHalfEven y) = ((((k.val : ℤ) - 127 : ℤ) : ℝ) : EReal) := by
  unfold Spec.clip127
  rw [c127_eq, m127_eq]
  induction y with
  | bot =>
    refine ⟨0, ?_⟩
    show min _ (max _ (⊥ : EReal)) = _
    rw [max_eq_left bot_le, min_eq_right (by exact_mod_cast (by norm_num : (-127 : ℝ) ≤ 127))]
    norm_num
  | top =>
    refine ⟨254, ?_⟩
    show min _ (max _ (⊤ : EReal)) = _
    rw [max_eq_right le_top, min_eq_left le_top]
    norm_num
  | coe r =>
    show ∃ k : Fin 255, min ((127 : ℝ) : EReal) (max ((-127 : ℝ) : EReal) (((Ideal.roundHalfEven r : ℤ) : ℝ) : EReal)) = _
    generalize Ideal.roundHalfEven r = z
    have e : min ((127 : ℝ) : EReal) (max ((-127 : ℝ) : EReal) (((z : ℤ) : ℝ) : EReal)) = (((min 127 (max (-127) z) : ℤ) : ℝ) : EReal) := by
      rw [Int.cast_min, Int.cast_max, EReal.coe_strictMono.monotone.map_min, EReal.coe_strictMono.monotone.map_max]
      norm_num
    refine ⟨⟨(min 127 (max (-127) z) + 127).toNat, by omega⟩, e.trans ?_⟩
    congr 2
    show min 127 (max (-127) z) = ((min 127 (max (-127) z) + 127).toNat : ℤ) - 127
    omega

/-- Narrowing in three steps is the conversion to 8 bits. -/
theorem code32_eq (y : EReal) : code32 y = Spec.code8 y := by
  obtain ⟨k, hk⟩ := clip_int y
  unfold code32 Spec.code8
  rw [hk]
  have e : ∀ w : Nat, 8 ≤ w → (FloatOps.fptosi (F := Ideal) (φ := .f32) w (((((k.val : ℤ) - 127 : ℤ) : ℝ) : EReal)) : BitVec w) = BitVec.ofInt w ((k.val : ℤ) - 127) := by
    intro w hw
    have hk := k.isLt
    have h2 : (2 : ℤ) ^ 7 ≤ 2 ^ (w - 1) := pow_le_pow_right₀ (by norm_num) (by omega)
    show BitVec.ofInt w (Ideal.toIntClamped _ _ _) = _
    rw [Ideal.toIntClamped_coe]
    have ht : (if 0 ≤ (((k.val : ℤ) - 127 : ℤ) : ℝ) then ⌊(((k.val : ℤ) - 127 : ℤ) : ℝ)⌋ else ⌈(((k.val : ℤ) - 127 : ℤ) : ℝ)⌉) = (k.val : ℤ) - 127 := by
      rw [Int.floor_intCast, Int.ceil_intCast, ite_self]
    rw [ht]
    congr 1
    have h3 : (((2 ^ (w - 1) : ℕ) : ℤ)) = (2 : ℤ) ^ (w - 1) := by push_cast; rfl
    rw [h3]
    generalize (2 : ℤ) ^ (w - 1) = P at h2
    norm_num at h2
    omega
  rw [e 32 (by norm_num), e 8 le_rfl]
  exact narrow k

end Cert.KernelIdeal.Unit

end
-- ==== Proof.Goal.lean ====
/- The eight results as mathematics: functions of the nine arguments' entries on extended reals. -/
module

public import proofs.«01_k».proof.Proof.Spec

@[expose] public section

noncomputable section

namespace Cert.Spec

open Idealize.ShloMosaic

/-- The block of 128 columns that column `j` lies in. -/
def blk (j : Fin 2048) : Fin 16 := ⟨j.val / 128, by omega⟩
/-- Column `k` of block `b`. -/
def col (b : Fin 16) (k : Fin 128) : Fin 2048 := ⟨b.val * 128 + k.val, by omega⟩

theorem blk_col (b : Fin 16) (k : Fin 128) : blk (col b k) = b := Fin.ext (by show (b.val * 128 + k.val) / 128 = b.val; omega)

/-- The arguments' entries: tokens, incoming gradient, its scales, weights, the two moments' codes and scales, and the two bias corrections. -/
structure Args where
  x : Fin 1792 → Fin 7168 → EReal
  d : Fin 1792 → Fin 2048 → EReal
  s : Fin 1792 → EReal
  w : Fin 7168 → Fin 2048 → EReal
  mc : Fin 7168 → Fin 2048 → BitVec 8
  ms : Fin 7168 → Fin 16 → EReal
  sc : Fin 7168 → Fin 2048 → BitVec 8
  ss : Fin 7168 → Fin 16 → EReal
  b1 : EReal
  b2 : EReal

variable (A : Args)

/-- A token's largest magnitude over 448. -/
def Args.ratio (t : Fin 1792) : EReal := big (fun k => A.x t k) * over448
/-- The tokens' codes. -/
def Args.code (t : Fin 1792) (i : Fin 7168) : EReal := clip448 (A.x t i * inv (A.ratio t))
/-- The tokens' scales. -/
def Args.xscale (t : Fin 1792) : EReal := scale (A.ratio t)
/-- The weight gradient of the dequantised tokens and the dequantised incoming gradient. -/
def Args.grad (i : Fin 7168) (j : Fin 2048) : EReal := ∑ t : Fin 1792, (A.code t i * A.xscale t) * (A.d t j * A.s t)
/-- The new first moment. -/
def Args.mom (i : Fin 7168) (j : Fin 2048) : EReal :=
  ((9 / 10 : ℝ) : EReal) * ((((A.mc i j).toInt : ℝ) : EReal) * A.ms i (blk j)) + ((1 / 10 : ℝ) : EReal) * A.grad i j
/-- The new second moment. -/
def Args.vel (i : Fin 7168) (j : Fin 2048) : EReal :=
  ((999 / 1000 : ℝ) : EReal) * (((((A.sc i j).toInt : ℝ) : EReal) * A.ss i (blk j)) * ((((A.sc i j).toInt : ℝ) : EReal) * A.ss i (blk j)))
    + ((1 / 1000 : ℝ) : EReal) * (A.grad i j * A.grad i j)
/-- The update. -/
def Args.upd (i : Fin 7168) (j : Fin 2048) : EReal :=
  Ideal.div (((-1 / 1000 : ℝ) : EReal) * Ideal.div (A.mom i j) A.b1) (Ideal.sqrt (Ideal.div (A.vel i j) A.b2) + ((1 / 100000000 : ℝ) : EReal))
/-- The new weight. -/
def Args.wn (i : Fin 7168) (j : Fin 2048) : EReal := A.w i j + A.upd i j
/-- The first moment's new scales. -/
def Args.mscale (i : Fin 7168) (b : Fin 16) : EReal := scale8 (big fun k : Fin 128 => A.mom i (col b k))
/-- Its new codes. -/
def Args.mcode (i : Fin 7168) (j : Fin 2048) : BitVec 8 := code8 (Ideal.div (A.mom i j) (A.mscale i (blk j)))
/-- The second moment's new scales, of its square root, -/
def Args.sscale (i : Fin 7168) (b : Fin 16) : EReal := scale8 (big fun k : Fin 128 => Ideal.sqrt (A.vel i (col b k)))
/-- and its new codes. -/
def Args.scode (i : Fin 7168) (j : Fin 2048) : BitVec 8 := code8 (Ideal.div (Ideal.sqrt (A.vel i j)) (A.sscale i (blk j)))

end Cert.Spec

end
-- ==== Proof.KerUnit.lean ====
/- One 128 × 128 unit of the Adam step: what it leaves is the mathematics of the arrays that the call reads. -/
module

public import proofs.«01_k».proof.Proof.Tokens
public import proofs.«01_k».proof.Proof.Adam
public import proofs.«01_k».proof.Proof.Goal

@[expose] public section

set_option maxRecDepth 16384

noncomputable section

namespace Cert.KernelIdeal.Unit

open Idealize.ShloMosaic
open Idealize.ShloMosaic.View (ld)
open Cert.KernelIdeal Cert.KernelIdeal.Gen

variable (m : (ℓ : Loc nD τ sig) → Buf (Elt Ideal) ℓ) (c : Dev nD) (b1 b2 : ℝ)

/-- The arrays' entries. -/
def args : Spec.Args where
  x t i := X0 m c (ix2 t i)
  d t j := D0 m c (ix2 t j)
  s t := S0 m c (ix2 0 t)
  w i j := W0 m c (ix2 i j)
  mc i j := MC0 m c (ix2 i j)
  ms i b := MS0 m c (ix2 b i)
  sc i j := SC0 m c (ix2 i j)
  ss i b := SS0 m c (ix2 b i)
  b1 := b1
  b2 := b2

/-- Row `k` of the cells' row `ib` at point `t`. -/
def row (t : Fin cfg0.N) (ib : Fin 4) (k : Fin 128) : Fin 7168 := ⟨512 * (t.val - 7) + 128 * ib.val + k.val, by have := lt21 t; omega⟩

variable (t : Fin cfg0.N) (ib : Fin 4) (jb : Fin 16)

theorem w_cell (k i : Fin 128) : (ld (Val := Elt Ideal) (e' := .bf16) (oldOf m c t).w (cell ib jb) (ix2 k i) : EReal) = (args m c b1 b2).w (row t ib k) (Spec.col jb i) := by
  refine (ld_rect (e' := .bf16) (oldOf m c t).w _ _ _ (ix2 k i) (ix2 ⟨128 * ib.val + k.val, by omega⟩ (Spec.col jb i)) fun b => ?_).trans ?_
  · match b with
    | 0 => rfl
    | 1 => show jb.val * 128 + i.val = 128 * jb.val + i.val; omega
  · refine (w_blk m c t _ _).trans (congrArg (fun r => W0 m c (ix2 r (Spec.col jb i))) (Fin.ext ?_))
    show 512 * (t.val - 7) + (128 * ib.val + k.val) = 512 * (t.val - 7) + 128 * ib.val + k.val
    omega
theorem mc_cell (k i : Fin 128) : (ld (Val := Elt Ideal) (e' := .i8) (oldOf m c t).mc (cell ib jb) (ix2 k i) : BitVec 8) = (args m c b1 b2).mc (row t ib k) (Spec.col jb i) := by
  refine (ld_rect (e' := .i8) (oldOf m c t).mc _ _ _ (ix2 k i) (ix2 ⟨128 * ib.val + k.val, by omega⟩ (Spec.col jb i)) fun b => ?_).trans ?_
  · match b with
    | 0 => rfl
    | 1 => show jb.val * 128 + i.val = 128 * jb.val + i.val; omega
  · refine (mc_blk m c t _ _).trans (congrArg (fun r => MC0 m c (ix2 r (Spec.col jb i))) (Fin.ext ?_))
    show 512 * (t.val - 7) + (128 * ib.val + k.val) = 512 * (t.val - 7) + 128 * ib.val + k.val
    omega
theorem sc_cell (k i : Fin 128) : (ld (Val := Elt Ideal) (e' := .i8) (oldOf m c t).sc (cell ib jb) (ix2 k i) : BitVec 8) = (args m c b1 b2).sc (row t ib k) (Spec.col jb i) := by
  refine (ld_rect (e' := .i8) (oldOf m c t).sc _ _ _ (ix2 k i) (ix2 ⟨128 * ib.val + k.val, by omega⟩ (Spec.col jb i)) fun b => ?_).trans ?_
  · match b with
    | 0 => rfl
    | 1 => show jb.val * 128 + i.val = 128 * jb.val + i.val; omega
  · refine (sc_blk m c t _ _).trans (congrArg (fun r => SC0 m c (ix2 r (Spec.col jb i))) (Fin.ext ?_))
    show 512 * (t.val - 7) + (128 * ib.val + k.val) = 512 * (t.val - 7) + 128 * ib.val + k.val
    omega
theorem ms_strip (k : Fin 128) : (ld (Val := Elt Ideal) (e' := .f32) (oldOf m c t).ms (strip ib jb) (ix2 0 k) : EReal) = (args m c b1 b2).ms (row t ib k) jb := by
  refine (ld_rect (e' := .f32) (oldOf m c t).ms _ _ _ (ix2 0 k) (ix2 jb ⟨128 * ib.val + k.val, by omega⟩) fun b => ?_).trans ?_
  · match b with
    | 0 => rfl
    | 1 => rfl
  · refine (ms_blk m c t _ _).trans (congrArg (fun r => MS0 m c (ix2 jb r)) (Fin.ext ?_))
    show 512 * (t.val - 7) + (128 * ib.val + k.val) = 512 * (t.val - 7) + 128 * ib.val + k.val
    omega
theorem ss_strip (k : Fin 128) : (ld (Val := Elt Ideal) (e' := .f32) (oldOf m c t).ss (strip ib jb) (ix2 0 k) : EReal) = (args m c b1 b2).ss (row t ib k) jb := by
  refine (ld_rect (e' := .f32) (oldOf m c t).ss _ _ _ (ix2 0 k) (ix2 jb ⟨128 * ib.val + k.val, by omega⟩) fun b => ?_).trans ?_
  · match b with
    | 0 => rfl
    | 1 => rfl
  · refine (ss_blk m c t _ _).trans (congrArg (fun r => SS0 m c (ix2 jb r)) (Fin.ext ?_))
    show 512 * (t.val - 7) + (128 * ib.val + k.val) = 512 * (t.val - 7) + 128 * ib.val + k.val
    omega

/-- The unit's gradient block is the mathematics'. -/
def IsGrad (g : FVec Ideal S128x128 .f32) : Prop := ∀ i k : Fin 128, (g (ix2 i k) : EReal) = (args m c b1 b2).grad (row t ib k) (Spec.col jb i)

theorem isGrad (h : Sized m c) {Q : Vec Ideal S14x1792x512 .fp8e4m3} {D : FVec Ideal S2048x1792 .bf16} (hQ : QDone m c 7 Q) (hD : DDone m c 7 D)
    (ht : 7 ≤ t.val) (hc : k0_cond2 (grid0.coords t) = 1#1) :
    IsGrad m c b1 b2 t ib jb (gAt D (ld Q (Rect.unit (s := S14x1792x512) (k0_off32 (grid0.coords t)) S1x1792x512.size (k0_off32_inb (grid0.coords t) hc))) ib jb) := by
  intro i k
  refine (gAt_apply m c h hQ hD t ht hc ib jb i k).trans ?_
  refine Finset.sum_congr rfl fun T _ => ?_
  have e : (⟨128 * jb.val + i.val, by omega⟩ : Fin 2048) = Spec.col jb i := Fin.ext (by show 128 * jb.val + i.val = jb.val * 128 + i.val; omega)
  rw [e]
  rfl

variable {g : FVec Ideal S128x128 .f32} (hg : IsGrad m c b1 b2 t ib jb g)
include hg

/-- The first moment is a tenth of the unit's, -/
theorem mAt_apply (i k : Fin 128) : ((1 / 10 : ℝ) : EReal) * (mAt (oldOf m c t) g ib jb (ix2 i k) : EReal) = (args m c b1 b2).mom (row t ib k) (Spec.col jb i) := by
  unfold mAt
  rw [mNew_apply, mc_cell m c b1 b2, ms_strip m c b1 b2, hg i k]
  unfold Spec.Args.mom
  rw [m_unit, Spec.blk_col]

/-- the second a thousandth. -/
theorem vAt_apply (i k : Fin 128) :
    ((1 / 1000 : ℝ) : EReal) * (vNew g (ld (oldOf m c t).sc (cell ib jb)) (ld (oldOf m c t).ss (strip ib jb)) (ix2 i k) : EReal) = (args m c b1 b2).vel (row t ib k) (Spec.col jb i) := by
  rw [vNew_apply, sc_cell m c b1 b2, ss_strip m c b1 b2, hg i k]
  unfold Spec.Args.vel
  rw [v_unit, Spec.blk_col]

omit hg in
theorem vAt_nonneg (i k : Fin 128) : (0 : EReal) ≤ vNew g (ld (oldOf m c t).sc (cell ib jb)) (ld (oldOf m c t).ss (strip ib jb)) (ix2 i k) := by
  rw [vNew_apply]; exact v_nonneg _ _

omit hg in
theorem sAt_eq (i k : Fin 128) : (sAt (oldOf m c t) g ib jb (ix2 i k) : EReal)
    = Ideal.sqrt (vNew g (ld (oldOf m c t).sc (cell ib jb)) (ld (oldOf m c t).ss (strip ib jb)) (ix2 i k)) := by
  unfold sAt
  rw [sNew_apply, root_eq _ (vAt_nonneg m c t ib jb i k)]

theorem sAt_apply (i k : Fin 128) :
    ((Real.sqrt (1 / 1000) : ℝ) : EReal) * (sAt (oldOf m c t) g ib jb (ix2 i k) : EReal) = Ideal.sqrt ((args m c b1 b2).vel (row t ib k) (Spec.col jb i)) := by
  rw [sAt_eq, ← sqrt_unit _ (vAt_nonneg m c t ib jb i k), vAt_apply m c b1 b2 t ib jb hg]

/-- The update. -/
theorem uAt_apply (h1 : 0 < b1) (h2 : 0 < b2) (ca cb : Ideal .f32)
    (ha : (ca : EReal) = ((1 / (b1 * Real.sqrt (1 / b2)) : ℝ) : EReal) * (((-1 / 10000) * (Real.sqrt (1 / 1000))⁻¹ : ℝ) : EReal))
    (hb : (cb : EReal) = ((1 / Real.sqrt (1 / b2) : ℝ) : EReal) * (((1 / 100000000) * (Real.sqrt (1 / 1000))⁻¹ : ℝ) : EReal)) (i k : Fin 128) :
    (uAt (oldOf m c t) ca cb g ib jb (ix2 k i) : EReal) = (args m c b1 b2).upd (row t ib k) (Spec.col jb i) := by
  unfold uAt
  rw [update_apply, ha, hb, sAt_eq, ← update_eq b1 b2 h1 h2 _ _ (vAt_nonneg m c t ib jb i k), mAt_apply m c b1 b2 t ib jb hg, vAt_apply m c b1 b2 t ib jb hg]
  rfl

theorem wAt_apply (h1 : 0 < b1) (h2 : 0 < b2) (ca cb : Ideal .f32)
    (ha : (ca : EReal) = ((1 / (b1 * Real.sqrt (1 / b2)) : ℝ) : EReal) * (((-1 / 10000) * (Real.sqrt (1 / 1000))⁻¹ : ℝ) : EReal))
    (hb : (cb : EReal) = ((1 / Real.sqrt (1 / b2) : ℝ) : EReal) * (((1 / 100000000) * (Real.sqrt (1 / 1000))⁻¹ : ℝ) : EReal)) (i k : Fin 128) :
    (weight (ld (oldOf m c t).w (cell ib jb)) (uAt (oldOf m c t) ca cb g ib jb) (ix2 k i) : EReal) = (args m c b1 b2).wn (row t ib k) (Spec.col jb i) := by
  rw [weight_apply, uAt_apply m c b1 b2 t ib jb hg h1 h2 ca cb ha hb, w_cell m c b1 b2]
  rfl

/-- The first moment's scales. -/
theorem msAt_apply (k : Fin 128) :
    (newScale (Named.named κ "m_unit" 0x3DCCCCCD#32) (colMax (absf (mAt (oldOf m c t) g ib jb))) (ix2 0 k) : EReal) = (args m c b1 b2).mscale (row t ib k) jb := by
  rw [newScale_apply, colMax_abs_apply]
  refine (scale_unit (1 / 10) (by norm_num) _).trans ?_
  rw [← big_scale (1 / 10) (by norm_num)]
  exact congrArg (fun f => Spec.scale8 (Spec.big f)) (funext fun i => mAt_apply m c b1 b2 t ib jb hg i k)

/-- Its codes. -/
theorem mcAt_apply (i k : Fin 128) :
    newCodes (mAt (oldOf m c t) g ib jb) (colMax (absf (mAt (oldOf m c t) g ib jb))) (ix2 k i) = (args m c b1 b2).mcode (row t ib k) (Spec.col jb i) := by
  rw [newCodes_apply, code32_eq, colMax_abs_apply, code_unit (1 / 10) (by norm_num) _ _ (big_nonneg _) (le_big (fun i => (mAt (oldOf m c t) g ib jb (ix2 i k) : EReal)) i),
    ← big_scale (1 / 10) (by norm_num), mAt_apply m c b1 b2 t ib jb hg]
  unfold Spec.Args.mcode
  rw [Spec.blk_col]
  exact congrArg (fun f => Spec.code8 (Ideal.div _ (Spec.scale8 (Spec.big f)))) (funext fun i => mAt_apply m c b1 b2 t ib jb hg i k)

omit hg in
theorem sMax (k : Fin 128) : (colMax (sAt (oldOf m c t) g ib jb) (ix2 0 k) : EReal) = Spec.big fun i : Fin 128 => (sAt (oldOf m c t) g ib jb (ix2 i k) : EReal) := by
  rw [colMax_apply, big_of_nonneg]
  intro i
  rw [sAt_eq]
  exact sqrt_nonneg _ (vAt_nonneg m c t ib jb i k)

omit hg in
theorem root_pos : 0 < Real.sqrt (1 / 1000) := Real.sqrt_pos.2 (by norm_num)

/-- The second moment's scales. -/
theorem ssAt_apply (k : Fin 128) :
    (newScale (Named.named κ "s_unit" 0x3D0186E2#32) (colMax (sAt (oldOf m c t) g ib jb)) (ix2 0 k) : EReal) = (args m c b1 b2).sscale (row t ib k) jb := by
  rw [newScale_apply, sMax]
  refine (scale_unit (Real.sqrt (1 / 1000)) root_pos _).trans ?_
  rw [← big_scale (Real.sqrt (1 / 1000)) root_pos]
  exact congrArg (fun f => Spec.scale8 (Spec.big f)) (funext fun i => sAt_apply m c b1 b2 t ib jb hg i k)

/-- Its codes. -/
theorem scAt_apply (i k : Fin 128) :
    newCodes (sAt (oldOf m c t) g ib jb) (colMax (sAt (oldOf m c t) g ib jb)) (ix2 k i) = (args m c b1 b2).scode (row t ib k) (Spec.col jb i) := by
  rw [newCodes_apply, code32_eq, sMax, code_unit (Real.sqrt (1 / 1000)) root_pos _ _ (big_nonneg _) (le_big (fun i => (sAt (oldOf m c t) g ib jb (ix2 i k) : EReal)) i),
    ← big_scale (Real.sqrt (1 / 1000)) root_pos, sAt_apply m c b1 b2 t ib jb hg]
  unfold Spec.Args.scode
  rw [Spec.blk_col]
  exact congrArg (fun f => Spec.code8 (Ideal.div _ (Spec.scale8 (Spec.big f)))) (funext fun i => sAt_apply m c b1 b2 t ib jb hg i k)

end Cert.KernelIdeal.Unit

end
-- ==== Proof.Run.lean ====
/- The kernel's run: the call keeps what Data.lean says of every point, so the run ends with each output array as the buffers it
   was written from say, the arguments unchanged and every semaphore counter at zero. -/
module

public import proofs.«01_k».proof.Proof.Data
public import Idealize.ShloMosaic.Lib.Claim

@[expose] public section

set_option maxRecDepth 16384

noncomputable section

namespace Cert.KernelIdeal.Unit

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.View (ld)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section
variable (c : Dev nD)

theorem xOf_chunk (t : Fin cfg0.N) (h : k0_cond1 (grid0.coords t) = 1#1) (r : Fin 2) (q : Fin 4) :
    xOf m c (chunk (grid0.coords t) h r q) = rowsOf (iblk m c 1 t) r q := by
  have ht := coord_eq t
  have hl := point_lt _ h
  have hp : pt ((chunk (grid0.coords t) h r q).val / 8) = t := Fin.ext (by
    show min ((8 * (grid0.coords t 0).val + 4 * r.val + q.val) / 8) 6 = t.val; omega)
  have h1 : (⟨(chunk (grid0.coords t) h r q).val % 8 / 4, by omega⟩ : Fin 2) = r := Fin.ext (by
    show (8 * (grid0.coords t 0).val + 4 * r.val + q.val) % 8 / 4 = r.val; omega)
  have h2 : (⟨(chunk (grid0.coords t) h r q).val % 4, by omega⟩ : Fin 4) = q := Fin.ext (by
    show (8 * (grid0.coords t 0).val + 4 * r.val + q.val) % 4 = q.val; omega)
  unfold xOf; rw [hp, h1, h2]

theorem pt_half (t : Fin cfg0.N) (h : k0_cond1 (grid0.coords t) = 1#1) (r : Fin 2) : pt ((half (grid0.coords t) h r).val / 2) = t := by
  have ht := coord_eq t
  have hl := point_lt _ h
  exact Fin.ext (by show min ((2 * (grid0.coords t 0).val + r.val) / 2) 6 = t.val; omega)

theorem half_mod (t : Fin cfg0.N) (h : k0_cond1 (grid0.coords t) = 1#1) (r : Fin 2) :
    (⟨(half (grid0.coords t) h r).val % 2, by omega⟩ : Fin 2) = r :=
  Fin.ext (by show (2 * (grid0.coords t 0).val + r.val) % 2 = r.val; omega)

theorem scOf_half (t : Fin cfg0.N) (h : k0_cond1 (grid0.coords t) = 1#1) (r : Fin 2) :
    scOf m c (half (grid0.coords t) h r) = scalesOf (iblk m c 1 t) r := by
  unfold scOf; rw [pt_half t h r, half_mod t h r]

theorem dtOf_half (t : Fin cfg0.N) (h : k0_cond1 (grid0.coords t) = 1#1) (r : Fin 2) (n : Fin 16) :
    dtOf m c (half (grid0.coords t) h r, n) = dyBlock (sdyOf (iblk m c 3 t) (half (grid0.coords t) h r)) (scalesOf (iblk m c 1 t) r) (dOf (iblk m c 2 t) r n) := by
  unfold dtOf; rw [pt_half t h r, half_mod t h r, scOf_half m c t h r]

section
variable (arg1 : Memref sig .tc .smem S2 .f32) (arg2 : Memref sig .tc .vmem S256x7168 .bf16) (arg3 : Memref sig .tc .vmem S256x2048 .fp8e5m2) (arg4 : Memref sig .tc .vmem S1x1792 .f32) (arg5 : Memref sig .tc .vmem S512x2048 .bf16) (arg6 : Memref sig .tc .vmem S512x2048 .i8) (arg7 : Memref sig .tc .vmem S16x512 .f32) (arg8 : Memref sig .tc .vmem S512x2048 .i8) (arg9 : Memref sig .tc .vmem S16x512 .f32) (arg10 : Memref sig .tc .vmem S512x2048 .bf16) (harg10 : arg10.IsWhole) (arg11 : Memref sig .tc .vmem S512x2048 .f32) (arg12 : Memref sig .tc .vmem S256x7168 .fp8e4m3) (harg12 : arg12.IsWhole) (arg13 : Memref sig .tc .vmem S1x1792 .f32) (arg14 : Memref sig .tc .vmem S512x2048 .i8) (harg14 : arg14.IsWhole) (arg15 : Memref sig .tc .vmem S16x512 .f32) (arg16 : Memref sig .tc .vmem S512x2048 .i8) (harg16 : arg16.IsWhole) (arg17 : Memref sig .tc .vmem S16x512 .f32) (arg18 : Memref sig .tc .vmem S14x1792x512 .fp8e4m3) (harg18 : arg18.IsWhole) (arg19 : Memref sig .tc .vmem S2048x1792 .bf16) (harg19 : arg19.IsWhole)

/-- At a token point the body is the token step, -/
theorem wp_body_token (i : grid0.Coords) (h : k0_cond1 i = 1#1) (h' : ¬ k0_cond2 i = 1#1) (E : Set ℕ) (K : PUnit → sProp 𝕄) :
    (wp frame (wpE (defs₀ (F := F)) Variants.none (c : Thread nD τ) none) E
        (forFin 2 (tokenStep i arg2 arg3 arg4 arg12 harg12 arg13 arg18 harg18 arg19 harg19 h)) fun _ => K ⟨⟩)
      ⊢ wp frame (wpE (defs₀ (F := F)) Variants.none (c : Thread nD τ) none) E (body i arg1 arg2 arg3 arg4 arg5 arg6 arg7 arg8 arg9 arg10 harg10 arg11 arg12 harg12 arg13 arg14 harg14 arg15 arg16 harg16 arg17 arg18 harg18 arg19 harg19) K := by
  unfold body
  rw [dif_pos h, dif_neg h', wp_bind]
  exact (wp frame (wpE (defs₀ (F := F)) Variants.none (c : Thread nD τ) none) E _).mono fun _ => by
    rw [wp_pure]
    show K ⟨⟩ ⊢ _
    iintro H; imodintro; iexact H

/-- at an Adam point the Adam step. -/
theorem wp_body_adam (i : grid0.Coords) (h : ¬ k0_cond1 i = 1#1) (h' : k0_cond2 i = 1#1) (E : Set ℕ) (K : PUnit → sProp 𝕄) :
    (wp frame (wpE (defs₀ (F := F)) Variants.none (c : Thread nD τ) none) E
        (adamStep i arg1 arg5 arg6 arg7 arg8 arg9 arg10 harg10 arg11 arg14 harg14 arg15 arg16 harg16 arg17 arg18 arg19 h') K)
      ⊢ wp frame (wpE (defs₀ (F := F)) Variants.none (c : Thread nD τ) none) E (body i arg1 arg2 arg3 arg4 arg5 arg6 arg7 arg8 arg9 arg10 harg10 arg11 arg12 harg12 arg13 arg14 harg14 arg15 arg16 harg16 arg17 arg18 harg18 arg19 harg19) K := by
  unfold body
  rw [dif_neg h, dif_pos h']

end

set_option maxHeartbeats 1000000 in
/-- A token point. -/
theorem token_body (t : Fin cfg0.N) (ht : t.val < 7) (O : sProp 𝕄) (Y : (w : Fin cfg0.W) → (cfg0.win w).block.Idx → Elt F (cfg0.win w).elt)
    (hY : ∀ w, (rdat m c).Finds w t (Y w)) :
    iprop(Scratch m c t.val ∗ O ∗ owns (c : Thread nD τ) (ms0 t) fullShare (Y 0) ∗ owns (c : Thread nD τ) (ms1 t) fullShare (Y 1) ∗ owns (c : Thread nD τ) (ms2 t) fullShare (Y 2) ∗ owns (c : Thread nD τ) (ms3 t) fullShare (Y 3) ∗ owns (c : Thread nD τ) (ms4 t) fullShare (Y 4) ∗ owns (c : Thread nD τ) (ms5 t) fullShare (Y 5) ∗ owns (c : Thread nD τ) (ms6 t) fullShare (Y 6) ∗ owns (c : Thread nD τ) (ms7 t) fullShare (Y 7) ∗ owns (c : Thread nD τ) (ms8 t) fullShare (Y 8) ∗ owns (c : Thread nD τ) (ms9 t) fullShare (Y 9) ∗ owns (c : Thread nD τ) (ms10 t) fullShare (Y 10) ∗ owns (c : Thread nD τ) (ms11 t) fullShare (Y 11) ∗ owns (c : Thread nD τ) (ms12 t) fullShare (Y 12) ∗ owns (c : Thread nD τ) (ms13 t) fullShare (Y 13) ∗ owns (c : Thread nD τ) (ms14 t) fullShare (Y 14) ∗ owns (c : Thread nD τ) (ms15 t) fullShare (Y 15) ∗ owns (c : Thread nD τ) (ms16 t) fullShare (Y 16))
      ⊢ wp frame (wpE (defs₀ (F := F)) Variants.none (c : Thread nD τ) none) Set.univ (body (grid0.coords t) (ms0 t) (ms1 t) (ms2 t) (ms3 t) (ms4 t) (ms5 t) (ms6 t) (ms7 t) (ms8 t) (ms9 t) (hstage0_9 ((cfg0.slots t 9).cast nbuf0_9)) (ms10 t) (ms11 t) (hstage0_11 ((cfg0.slots t 11).cast nbuf0_11)) (ms12 t) (ms13 t) (hstage0_13 ((cfg0.slots t 13).cast nbuf0_13)) (ms14 t) (ms15 t) (hstage0_15 ((cfg0.slots t 15).cast nbuf0_15)) (ms16 t) xqM (Memref.isWhole_whole _) dyM (Memref.isWhole_whole _)) fun _ =>
        iprop(Scratch m c (t.val + 1) ∗ O ∗ (∃ X, ⌜(rdat m c).after 0 t (Y 0) X⌝ ∗ owns (c : Thread nD τ) (ms0 t) fullShare X) ∗ (∃ X, ⌜(rdat m c).after 1 t (Y 1) X⌝ ∗ owns (c : Thread nD τ) (ms1 t) fullShare X) ∗ (∃ X, ⌜(rdat m c).after 2 t (Y 2) X⌝ ∗ owns (c : Thread nD τ) (ms2 t) fullShare X) ∗ (∃ X, ⌜(rdat m c).after 3 t (Y 3) X⌝ ∗ owns (c : Thread nD τ) (ms3 t) fullShare X) ∗ (∃ X, ⌜(rdat m c).after 4 t (Y 4) X⌝ ∗ owns (c : Thread nD τ) (ms4 t) fullShare X) ∗ (∃ X, ⌜(rdat m c).after 5 t (Y 5) X⌝ ∗ owns (c : Thread nD τ) (ms5 t) fullShare X) ∗ (∃ X, ⌜(rdat m c).after 6 t (Y 6) X⌝ ∗ owns (c : Thread nD τ) (ms6 t) fullShare X) ∗ (∃ X, ⌜(rdat m c).after 7 t (Y 7) X⌝ ∗ owns (c : Thread nD τ) (ms7 t) fullShare X) ∗ (∃ X, ⌜(rdat m c).after 8 t (Y 8) X⌝ ∗ owns (c : Thread nD τ) (ms8 t) fullShare X) ∗ (∃ X, ⌜(rdat m c).after 9 t (Y 9) X⌝ ∗ owns (c : Thread nD τ) (ms9 t) fullShare X) ∗ (∃ X, ⌜(rdat m c).after 10 t (Y 10) X⌝ ∗ owns (c : Thread nD τ) (ms10 t) fullShare X) ∗ (∃ X, ⌜(rdat m c).after 11 t (Y 11) X⌝ ∗ owns (c : Thread nD τ) (ms11 t) fullShare X) ∗ (∃ X, ⌜(rdat m c).after 12 t (Y 12) X⌝ ∗ owns (c : Thread nD τ) (ms12 t) fullShare X) ∗ (∃ X, ⌜(rdat m c).after 13 t (Y 13) X⌝ ∗ owns (c : Thread nD τ) (ms13 t) fullShare X) ∗ (∃ X, ⌜(rdat m c).after 14 t (Y 14) X⌝ ∗ owns (c : Thread nD τ) (ms14 t) fullShare X) ∗ (∃ X, ⌜(rdat m c).after 15 t (Y 15) X⌝ ∗ owns (c : Thread nD τ) (ms15 t) fullShare X) ∗ (∃ X, ⌜(rdat m c).after 16 t (Y 16) X⌝ ∗ owns (c : Thread nD τ) (ms16 t) fullShare X)) := by
  have h1 : k0_cond1 (grid0.coords t) = 1#1 := (cond1_iff t).2 ht
  have h2 : ¬ k0_cond2 (grid0.coords t) = 1#1 := fun h => absurd ((cond2_iff t).1 h) (by omega)
  have hc := coord_eq t
  have e1 := finds_1 m c t _ (hY 1)
  have e2 := finds_2 m c t _ (hY 2)
  have e3 := finds_3 m c t _ (hY 3)
  have e12 := finds_12 m c t _ (hY 12)
  have hR : Result m c t ⟨Y 9, Y 10, Y 13, Y 14, Y 15, Y 16⟩ := fun h => absurd h h2
  unfold Scratch
  iintro ⟨⟨HQ, HD, Hr⟩, HO, H0, H1, H2, H3, H4, H5, H6, H7, H8, H9, H10, H11, H12, H13, H14, H15, H16⟩
  iapply (wp_body_token c (ms0 t) (ms1 t) (ms2 t) (ms3 t) (ms4 t) (ms5 t) (ms6 t) (ms7 t) (ms8 t) (ms9 t) (hstage0_9 ((cfg0.slots t 9).cast nbuf0_9)) (ms10 t) (ms11 t) (hstage0_11 ((cfg0.slots t 11).cast nbuf0_11)) (ms12 t) (ms13 t) (hstage0_13 ((cfg0.slots t 13).cast nbuf0_13)) (ms14 t) (ms15 t) (hstage0_15 ((cfg0.slots t 15).cast nbuf0_15)) (ms16 t) xqM (Memref.isWhole_whole _) dyM (Memref.isWhole_whole _) (grid0.coords t) h1 h2 Set.univ)
  iapply (tokens_triple c (ms1 t) (ms2 t) (ms3 t) (ms11 t) (hstage0_11 ((cfg0.slots t 11).cast nbuf0_11)) (ms12 t) xqM (Memref.isWhole_whole _) dyM (Memref.isWhole_whole _)
    (grid0.coords t) h1 Set.univ (xOf m c) (scOf m c) (dtOf m c) (Y 1) (Y 2) (Y 3)
    (fun r q => (xOf_chunk m c t h1 r q).trans (congrArg (fun X => rowsOf X r q) e1.symm))
    (fun r => (scOf_half m c t h1 r).trans (congrArg (fun X => scalesOf X r) e1.symm))
    (fun r n => by rw [e1, e2, e3]; exact dtOf_half m c t h1 r n))
  unfold TokenAt
  isplitl [H1 H2 H3 H11 H12 HQ HD]
  · isplitl [H1]; · iexact H1
    isplitl [H2]; · iexact H2
    isplitl [H3]; · iexact H3
    isplitl [H11]; · iapply (FilledAt.mk c (ms11 t) (Tiling.Filled.zero rowBands)); iexact H11
    isplitl [H12]; · iapply (FilledAt.mk c (ms12 t) (T := lanes) (tgt := scOf m c) (n := 2 * (grid0.coords t 0).val + 0) (by have h := e12; rwa [show 2 * min t.val 7 = 2 * (grid0.coords t 0).val + 0 by omega] at h)); iexact H12
    isplitl [HQ]; · iapply (FilledAt.cast c xqM (n := 14 * (8 * min t.val 7)) (by omega)); iexact HQ
    iapply (FilledAt.cast c dyM (n := 16 * (2 * min t.val 7)) (by omega)); iexact HD
  iintro ⟨H1, H2, H3, H11, H12, HQ, HD⟩
  isplitl [HQ HD Hr]
  · isplitl [HQ]; · iapply (FilledAt.cast c xqM (n := 14 * (8 * (grid0.coords t 0).val + 4 * 2)) (by omega)); iexact HQ
    isplitl [HD]; · iapply (FilledAt.cast c dyM (n := 16 * (2 * (grid0.coords t 0).val + 2)) (by omega)); iexact HD
    iexact Hr
  isplitl [HO]; · iexact HO
  isplitl [H0]; · iexists Y 0; isplitr; swap; iexact H0; ipureintro; exact rfl
  isplitl [H1]; · iexists Y 1; isplitr; swap; iexact H1; ipureintro; exact rfl
  isplitl [H2]; · iexists Y 2; isplitr; swap; iexact H2; ipureintro; exact rfl
  isplitl [H3]; · iexists Y 3; isplitr; swap; iexact H3; ipureintro; exact rfl
  isplitl [H4]; · iexists Y 4; isplitr; swap; iexact H4; ipureintro; exact rfl
  isplitl [H5]; · iexists Y 5; isplitr; swap; iexact H5; ipureintro; exact rfl
  isplitl [H6]; · iexists Y 6; isplitr; swap; iexact H6; ipureintro; exact rfl
  isplitl [H7]; · iexists Y 7; isplitr; swap; iexact H7; ipureintro; exact rfl
  isplitl [H8]; · iexists Y 8; isplitr; swap; iexact H8; ipureintro; exact rfl
  isplitl [H9]; · iexists Y 9; isplitr; swap; iexact H9; ipureintro; exact ⟨_, hR, rfl⟩
  isplitl [H10]; · iexists Y 10; isplitr; swap; iexact H10; ipureintro; exact ⟨_, hR, rfl⟩
  isplitl [H11]; · unfold FilledAt; icases H11 with ⟨%X, %hX, H11⟩; iexists X; isplitr; swap; iexact H11; ipureintro; have h : rowBands.Filled (fun j => codes (rowsOf (Y 1) j.1 j.2)) 8 X := hX; rw [e1] at h; have hp : pt t.val = t := Fin.ext (by show min t.val 6 = t.val; omega); show rowBands.Filled (codesOf m c t.val) 8 X; unfold codesOf; rw [hp]; exact h
  isplitl [H12]; · unfold FilledAt; icases H12 with ⟨%X, %hX, H12⟩; iexists X; isplitr; swap; iexact H12; ipureintro; show lanes.Filled (scOf m c) (2 * min (t.val + 1) 7) X; rw [show 2 * min (t.val + 1) 7 = 2 * (grid0.coords t 0).val + 2 by omega]; exact hX
  isplitl [H13]; · iexists Y 13; isplitr; swap; iexact H13; ipureintro; exact ⟨_, hR, rfl⟩
  isplitl [H14]; · iexists Y 14; isplitr; swap; iexact H14; ipureintro; exact ⟨_, hR, rfl⟩
  isplitl [H15]; · iexists Y 15; isplitr; swap; iexact H15; ipureintro; exact ⟨_, hR, rfl⟩
  iexists Y 16; isplitr; swap; iexact H16; ipureintro; exact ⟨_, hR, rfl⟩

set_option maxHeartbeats 1000000 in
/-- An Adam point. -/
theorem adam_body (t : Fin cfg0.N) (ht : 7 ≤ t.val) (O : sProp 𝕄) (Y : (w : Fin cfg0.W) → (cfg0.win w).block.Idx → Elt F (cfg0.win w).elt)
    (hY : ∀ w, (rdat m c).Finds w t (Y w)) :
    iprop(Scratch m c t.val ∗ O ∗ owns (c : Thread nD τ) (ms0 t) fullShare (Y 0) ∗ owns (c : Thread nD τ) (ms1 t) fullShare (Y 1) ∗ owns (c : Thread nD τ) (ms2 t) fullShare (Y 2) ∗ owns (c : Thread nD τ) (ms3 t) fullShare (Y 3) ∗ owns (c : Thread nD τ) (ms4 t) fullShare (Y 4) ∗ owns (c : Thread nD τ) (ms5 t) fullShare (Y 5) ∗ owns (c : Thread nD τ) (ms6 t) fullShare (Y 6) ∗ owns (c : Thread nD τ) (ms7 t) fullShare (Y 7) ∗ owns (c : Thread nD τ) (ms8 t) fullShare (Y 8) ∗ owns (c : Thread nD τ) (ms9 t) fullShare (Y 9) ∗ owns (c : Thread nD τ) (ms10 t) fullShare (Y 10) ∗ owns (c : Thread nD τ) (ms11 t) fullShare (Y 11) ∗ owns (c : Thread nD τ) (ms12 t) fullShare (Y 12) ∗ owns (c : Thread nD τ) (ms13 t) fullShare (Y 13) ∗ owns (c : Thread nD τ) (ms14 t) fullShare (Y 14) ∗ owns (c : Thread nD τ) (ms15 t) fullShare (Y 15) ∗ owns (c : Thread nD τ) (ms16 t) fullShare (Y 16))
      ⊢ wp frame (wpE (defs₀ (F := F)) Variants.none (c : Thread nD τ) none) Set.univ (body (grid0.coords t) (ms0 t) (ms1 t) (ms2 t) (ms3 t) (ms4 t) (ms5 t) (ms6 t) (ms7 t) (ms8 t) (ms9 t) (hstage0_9 ((cfg0.slots t 9).cast nbuf0_9)) (ms10 t) (ms11 t) (hstage0_11 ((cfg0.slots t 11).cast nbuf0_11)) (ms12 t) (ms13 t) (hstage0_13 ((cfg0.slots t 13).cast nbuf0_13)) (ms14 t) (ms15 t) (hstage0_15 ((cfg0.slots t 15).cast nbuf0_15)) (ms16 t) xqM (Memref.isWhole_whole _) dyM (Memref.isWhole_whole _)) fun _ =>
        iprop(Scratch m c (t.val + 1) ∗ O ∗ (∃ X, ⌜(rdat m c).after 0 t (Y 0) X⌝ ∗ owns (c : Thread nD τ) (ms0 t) fullShare X) ∗ (∃ X, ⌜(rdat m c).after 1 t (Y 1) X⌝ ∗ owns (c : Thread nD τ) (ms1 t) fullShare X) ∗ (∃ X, ⌜(rdat m c).after 2 t (Y 2) X⌝ ∗ owns (c : Thread nD τ) (ms2 t) fullShare X) ∗ (∃ X, ⌜(rdat m c).after 3 t (Y 3) X⌝ ∗ owns (c : Thread nD τ) (ms3 t) fullShare X) ∗ (∃ X, ⌜(rdat m c).after 4 t (Y 4) X⌝ ∗ owns (c : Thread nD τ) (ms4 t) fullShare X) ∗ (∃ X, ⌜(rdat m c).after 5 t (Y 5) X⌝ ∗ owns (c : Thread nD τ) (ms5 t) fullShare X) ∗ (∃ X, ⌜(rdat m c).after 6 t (Y 6) X⌝ ∗ owns (c : Thread nD τ) (ms6 t) fullShare X) ∗ (∃ X, ⌜(rdat m c).after 7 t (Y 7) X⌝ ∗ owns (c : Thread nD τ) (ms7 t) fullShare X) ∗ (∃ X, ⌜(rdat m c).after 8 t (Y 8) X⌝ ∗ owns (c : Thread nD τ) (ms8 t) fullShare X) ∗ (∃ X, ⌜(rdat m c).after 9 t (Y 9) X⌝ ∗ owns (c : Thread nD τ) (ms9 t) fullShare X) ∗ (∃ X, ⌜(rdat m c).after 10 t (Y 10) X⌝ ∗ owns (c : Thread nD τ) (ms10 t) fullShare X) ∗ (∃ X, ⌜(rdat m c).after 11 t (Y 11) X⌝ ∗ owns (c : Thread nD τ) (ms11 t) fullShare X) ∗ (∃ X, ⌜(rdat m c).after 12 t (Y 12) X⌝ ∗ owns (c : Thread nD τ) (ms12 t) fullShare X) ∗ (∃ X, ⌜(rdat m c).after 13 t (Y 13) X⌝ ∗ owns (c : Thread nD τ) (ms13 t) fullShare X) ∗ (∃ X, ⌜(rdat m c).after 14 t (Y 14) X⌝ ∗ owns (c : Thread nD τ) (ms14 t) fullShare X) ∗ (∃ X, ⌜(rdat m c).after 15 t (Y 15) X⌝ ∗ owns (c : Thread nD τ) (ms15 t) fullShare X) ∗ (∃ X, ⌜(rdat m c).after 16 t (Y 16) X⌝ ∗ owns (c : Thread nD τ) (ms16 t) fullShare X)) := by
  have h1 : ¬ k0_cond1 (grid0.coords t) = 1#1 := fun h => absurd ((cond1_iff t).1 h) (by omega)
  have h2 : k0_cond2 (grid0.coords t) = 1#1 := (cond2_iff t).2 ht
  have e0 := finds_0 m c t _ (hY 0)
  have e4 := finds_4 m c t _ (hY 4)
  have e5 := finds_5 m c t _ (hY 5)
  have e6 := finds_6 m c t _ (hY 6)
  have e7 := finds_7 m c t _ (hY 7)
  have e8 := finds_8 m c t _ (hY 8)
  have e11 := finds_11 m c t ht _ (hY 11)
  have e12 := finds_12 m c t _ (hY 12)
  have hX : (⟨Y 4, Y 5, Y 6, Y 7, Y 8⟩ : Old F) = oldOf m c t := by unfold oldOf; rw [← e4, ← e5, ← e6, ← e7, ← e8]
  have k7 : min t.val 7 = 7 := by omega
  have k7' : min (t.val + 1) 7 = 7 := by omega
  unfold Scratch FilledAt
  iintro ⟨⟨⟨%Q, %hQ, HQ⟩, ⟨%D, %hD, HD⟩, Hr⟩, HO, H0, H1, H2, H3, H4, H5, H6, H7, H8, H9, H10, H11, H12, H13, H14, H15, H16⟩
  iapply (wp_body_adam c (ms0 t) (ms1 t) (ms2 t) (ms3 t) (ms4 t) (ms5 t) (ms6 t) (ms7 t) (ms8 t) (ms9 t) (hstage0_9 ((cfg0.slots t 9).cast nbuf0_9)) (ms10 t) (ms11 t) (hstage0_11 ((cfg0.slots t 11).cast nbuf0_11)) (ms12 t) (ms13 t) (hstage0_13 ((cfg0.slots t 13).cast nbuf0_13)) (ms14 t) (ms15 t) (hstage0_15 ((cfg0.slots t 15).cast nbuf0_15)) (ms16 t) xqM (Memref.isWhole_whole _) dyM (Memref.isWhole_whole _) (grid0.coords t) h1 h2 Set.univ)
  iapply (adam_triple c (ms0 t) (ms4 t) (ms5 t) (ms6 t) (ms7 t) (ms8 t) (ms9 t) (hstage0_9 ((cfg0.slots t 9).cast nbuf0_9)) (ms10 t) (ms13 t) (hstage0_13 ((cfg0.slots t 13).cast nbuf0_13))
    (ms14 t) (ms15 t) (hstage0_15 ((cfg0.slots t 15).cast nbuf0_15)) (ms16 t) xqM dyM
    (grid0.coords t) h2 Set.univ (Y 0) ⟨Y 4, Y 5, Y 6, Y 7, Y 8⟩ ⟨Y 9, Y 10, Y 13, Y 14, Y 15, Y 16⟩ Q D)
  unfold OldAt NewAt
  isplitl [H0]; · iexact H0
  isplitl [HQ]; · iexact HQ
  isplitl [HD]; · iexact HD
  isplitl [H4 H5 H6 H7 H8]
  · isplitl [H4]; · iexact H4
    isplitl [H5]; · iexact H5
    isplitl [H6]; · iexact H6
    isplitl [H7]; · iexact H7
    iexact H8
  isplitl [H9 H10 H13 H14 H15 H16]
  · isplitl [H9]; · iexact H9
    isplitl [H10]; · iexact H10
    isplitl [H13]; · iexact H13
    isplitl [H14]; · iexact H14
    isplitl [H15]; · iexact H15
    iexact H16
  iintro ⟨H0, HQ, HD, ⟨H4, H5, H6, H7, H8⟩, ⟨%Z, %hZ, H9, H10, H13, H14, H15, H16⟩⟩
  have hQ7 : QDone m c 7 Q := Eq.mp (congrArg (fun k => QDone m c k Q) k7) hQ
  have hD7 : DDone m c 7 D := Eq.mp (congrArg (fun k => DDone m c k D) k7) hD
  have hR : Result m c t Z := fun _ => ⟨Q, D, hQ7, hD7, by rw [hX] at hZ; rw [e0] at hZ; exact hZ⟩
  isplitl [HQ HD Hr]
  · isplitl [HQ]; · iexists Q; isplitr; swap; iexact HQ; ipureintro; exact Eq.mpr (congrArg (fun k => QDone m c k Q) k7') hQ7
    isplitl [HD]; · iexists D; isplitr; swap; iexact HD; ipureintro; exact Eq.mpr (congrArg (fun k => DDone m c k D) k7') hD7
    iexact Hr
  isplitl [HO]; · iexact HO
  isplitl [H0]; · iexists Y 0; isplitr; swap; iexact H0; ipureintro; exact rfl
  isplitl [H1]; · iexists Y 1; isplitr; swap; iexact H1; ipureintro; exact rfl
  isplitl [H2]; · iexists Y 2; isplitr; swap; iexact H2; ipureintro; exact rfl
  isplitl [H3]; · iexists Y 3; isplitr; swap; iexact H3; ipureintro; exact rfl
  isplitl [H4]; · iexists Y 4; isplitr; swap; iexact H4; ipureintro; exact rfl
  isplitl [H5]; · iexists Y 5; isplitr; swap; iexact H5; ipureintro; exact rfl
  isplitl [H6]; · iexists Y 6; isplitr; swap; iexact H6; ipureintro; exact rfl
  isplitl [H7]; · iexists Y 7; isplitr; swap; iexact H7; ipureintro; exact rfl
  isplitl [H8]; · iexists Y 8; isplitr; swap; iexact H8; ipureintro; exact rfl
  isplitl [H9]; · iexists Z.w; isplitr; swap; iexact H9; ipureintro; exact ⟨Z, hR, rfl⟩
  isplitl [H10]; · iexists Z.u; isplitr; swap; iexact H10; ipureintro; exact ⟨Z, hR, rfl⟩
  isplitl [H11]; · iexists Y 11; isplitr; swap; iexact H11; ipureintro; exact e11
  isplitl [H12]; · iexists Y 12; isplitr; swap; iexact H12; ipureintro; show lanes.Filled (scOf m c) (2 * min (t.val + 1) 7) (Y 12); rw [k7']; rw [k7] at e12; exact e12
  isplitl [H13]; · iexists Z.mc; isplitr; swap; iexact H13; ipureintro; exact ⟨Z, hR, rfl⟩
  isplitl [H14]; · iexists Z.ms; isplitr; swap; iexact H14; ipureintro; exact ⟨Z, hR, rfl⟩
  isplitl [H15]; · iexists Z.sc; isplitr; swap; iexact H15; ipureintro; exact ⟨Z, hR, rfl⟩
  iexists Z.ss; isplitr; swap; iexact H16; ipureintro; exact ⟨Z, hR, rfl⟩

theorem defs₀_row (t : Fin cfg0.N) : defs₀ (F := F) .tc cfg0.body (cfg0.bodyArgs t (cfg0.slots t)) = bodyAt0 t := by
  unfold defs₀; rw [Defs.onTc_tc]

/-- The body at every point. -/
theorem body_obligation : (rdat m c).BodyObligation (defs₀ (F := F)) Variants.none () Set.univ := fun t Y hY => by
  rw [bigSep_W0, bigSep_W0, defs₀_row]
  by_cases ht : t.val < 7
  · exact triple_restated (token_body m c t ht ((rdat m c).owesAt () t.castSucc) Y hY) (congrArg (wp frame (wpE (defs₀ (F := F)) Variants.none (c : Thread nD τ) none) Set.univ) (printed_eq_body (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (ms12 t) (hstage0_12 ((cfg0.slots t 12).cast nbuf0_12)) (ms13 t) (hstage0_13 ((cfg0.slots t 13).cast nbuf0_13)) (ms14 t) (hstage0_14 ((cfg0.slots t 14).cast nbuf0_14)) (ms15 t) (hstage0_15 ((cfg0.slots t 15).cast nbuf0_15)) (ms16 t) (hstage0_16 ((cfg0.slots t 16).cast nbuf0_16)) xqM (Memref.isWhole_whole _) dyM (Memref.isWhole_whole _)).symm) .rfl fun _ => .rfl
  · exact triple_restated (adam_body m c t (by omega) ((rdat m c).owesAt () t.castSucc) Y hY) (congrArg (wp frame (wpE (defs₀ (F := F)) Variants.none (c : Thread nD τ) none) Set.univ) (printed_eq_body (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (ms12 t) (hstage0_12 ((cfg0.slots t 12).cast nbuf0_12)) (ms13 t) (hstage0_13 ((cfg0.slots t 13).cast nbuf0_13)) (ms14 t) (hstage0_14 ((cfg0.slots t 14).cast nbuf0_14)) (ms15 t) (hstage0_15 ((cfg0.slots t 15).cast nbuf0_15)) (ms16 t) (hstage0_16 ((cfg0.slots t 16).cast nbuf0_16)) xqM (Memref.isWhole_whole _) dyM (Memref.isWhole_whole _)).symm) .rfl fun _ => .rfl

end

theorem enter (c : Dev nD) : (Pipeline.ΦA spec0 c : sProp 𝕄) ⊢ (rdat m c).Φ 0 := by
  show _ ⊢ Scratch m c 0
  rw [PhiA0_eq]
  unfold Scratch
  iintro ⟨⟨⟨%Q, HQ⟩, ⟨%D, HD⟩⟩, Hr⟩
  isplitl [HQ]; · iapply (FilledAt.mk c xqM (Tiling.Filled.zero slabs)); iexact HQ
  isplitl [HD]; · iapply (FilledAt.mk c dyM (Tiling.Filled.zero blocks)); iexact HD
  iexact Hr

theorem leave (c : Dev nD) : (rdat m c).Φ (Fin.last cfg0.N) ⊢ (Pipeline.ΦA spec0 c : sProp 𝕄) := by
  show Scratch m c cfg0.N ⊢ _
  rw [PhiA0_eq]
  unfold Scratch FilledAt
  iintro ⟨⟨%Q, %hQ, HQ⟩, ⟨%D, %hD, HD⟩, Hr⟩
  isplitl [HQ HD]
  · isplitl [HQ]; · iexists Q; iexact HQ
    iexists D; iexact HD
  iexact Hr

set_option backward.isDefEq.respectTransparency.types false in
/-- The run of @main, every semaphore counter at zero at its end. -/
theorem run_main : θ_run defs (onTc (τ := τ) (main (F := F))) (s₀ m ρ) (fun r => Pipeline.RDat.FramePost (cfgs 0) (rdat m) (V m) r ∧ r.2.sem = fun _ => 0) :=
  Pipeline.RDat.θ_run_frame_track (Q' := _) cfgs (0 : Fin 1) launch0 defs₀ Variants.none (rdat m) m ρ main
    (hbody := body_obligation m) (hshare := fun c w => by unfold Pipeline.RDat.share; split <;> rfl)
    (howed := fun _ _ => rfl) (V := V m) (hmain := hmain m Variants.none) (hA := rdat_A m) (hin := enter m) (hout := leave m) (hQ' := fun _ h => h)

end Cert.KernelIdeal.Unit

end
-- ==== Proof.KerFinal.lean ====
/- The kernel's eight results are the mathematics' of the arrays that the call reads. -/
module

public import proofs.«01_k».proof.Proof.KerUnit
public import proofs.«01_k».proof.Proof.Run
public import Idealize.ShloMosaic.Lib.Pipeline.ArrRel

@[expose] public section

set_option maxRecDepth 16384

noncomputable section

namespace Cert.KernelIdeal.Unit

open Idealize.ShloMosaic Idealize.ShloMosaic.TcCoe Idealize.SL.Sem
open Idealize.ShloMosaic.View (ld)
open Cert.KernelIdeal Cert.KernelIdeal.Gen

variable (m : (ℓ : Loc nD τ sig) → Buf (Elt Ideal) ℓ) (c : Dev nD) (b1 b2 : ℝ)

/-- The two coefficients that the call reads. -/
abbrev C0 : S2.Idx → EReal := V m c main_v12

theorem c_blk (t : Fin cfg0.N) (k : Fin 2) : (iblk m c 0 t : S2.Idx → EReal) (coefIx k) = C0 m c (coefIx k) := by
  refine congrArg (C0 m c) (funext fun a => Fin.ext ?_)
  fin_cases a
  blk_simp [idx t]
  done

/-- What the run is about: tokens that have scales, bias corrections that are positive reals, and the coefficients made of them. -/
structure Good : Prop where
  sized : Sized m c
  h1 : 0 < b1
  h2 : 0 < b2
  c0 : C0 m c (coefIx 0) = ((1 / (b1 * Real.sqrt (1 / b2)) : ℝ) : EReal)
  c1 : C0 m c (coefIx 1) = ((1 / Real.sqrt (1 / b2) : ℝ) : EReal)

variable {m c b1 b2} (G : Good m c b1 b2)
include G

/-- The row of a result that row `r` of point `t`'s block is. -/
abbrev rowAt (t : Fin cfg0.N) (r : Fin 512) : Fin 7168 := ⟨512 * (t.val - 7) + r.val, by have := lt21 t; omega⟩

omit G in
theorem row_eq (t : Fin cfg0.N) (ib : Fin 4) (k : Fin 128) (h : 128 * ib.val + k.val < 512) : row t ib k = rowAt t ⟨128 * ib.val + k.val, h⟩ :=
  Fin.ext (by show 512 * (t.val - 7) + 128 * ib.val + k.val = 512 * (t.val - 7) + (128 * ib.val + k.val); omega)

omit G in
/-- A block filled cell by cell with a function's values holds them all, -/
theorem cells_all {α : Type} {tgt : Fin 4 × Fin 16 → S128x128.Idx → α} {Y : S512x2048.Idx → α} (h : cells.Filled tgt 64 Y) (f : Fin 512 → Fin 2048 → α)
    (hf : ∀ (ib : Fin 4) (jb : Fin 16) (k i : Fin 128), tgt (ib, jb) (ix2 k i) = f ⟨128 * ib.val + k.val, by omega⟩ (Spec.col jb i)) (r : Fin 512) (l : Fin 2048) :
    Y (ix2 r l) = f r l := by
  obtain ⟨ib, k, hr, rfl⟩ := split_fin 4 128 512 rfl r
  obtain ⟨jb, i, hl, rfl⟩ := split_fin 16 128 2048 rfl l
  have e : (⟨128 * jb.val + i.val, hl⟩ : Fin 2048) = Spec.col jb i := Fin.ext (by show 128 * jb.val + i.val = jb.val * 128 + i.val; omega)
  rw [e, ← hf ib jb k i]
  refine Eq.trans ?_ (congrFun (h (ib, jb) (by show 4 * jb.val + ib.val < 64; omega)) (ix2 k i))
  refine (cells.get_apply Y (ib, jb) (ix2 k i) (ix2 ⟨128 * ib.val + k.val, hr⟩ (Spec.col jb i)) fun b => ?_).symm
  match b with
  | 0 => rfl
  | 1 => show jb.val * 128 + i.val = 128 * jb.val + i.val; omega

omit G in
/-- and so does one filled strip by strip. -/
theorem strips_all {α : Type} {tgt : Fin 4 × Fin 16 → S1x128.Idx → α} {Y : S16x512.Idx → α} (h : strips.Filled tgt 64 Y) (f : Fin 16 → Fin 512 → α)
    (hf : ∀ (ib : Fin 4) (jb : Fin 16) (k : Fin 128), tgt (ib, jb) (ix2 0 k) = f jb ⟨128 * ib.val + k.val, by omega⟩) (b : Fin 16) (r : Fin 512) :
    Y (ix2 b r) = f b r := by
  obtain ⟨ib, k, hr, rfl⟩ := split_fin 4 128 512 rfl r
  rw [← hf ib b k]
  refine Eq.trans ?_ (congrFun (h (ib, b) (by show 4 * b.val + ib.val < 64; omega)) (ix2 0 k))
  refine (strips.get_apply Y (ib, b) (ix2 0 k) (ix2 b ⟨128 * ib.val + k.val, hr⟩) fun a => ?_).symm
  match a with
  | 0 => rfl
  | 1 => rfl

/-- The six new blocks of an Adam point. -/
theorem result_apply (t : Fin cfg0.N) (ht : 7 ≤ t.val) {Y : New Ideal} (h : Result m c t Y) :
    (∀ r l, (Y.w (ix2 r l) : EReal) = (args m c b1 b2).wn (rowAt t r) l)
    ∧ (∀ r l, (Y.u (ix2 r l) : EReal) = (args m c b1 b2).upd (rowAt t r) l)
    ∧ (∀ r l, (Y.mc (ix2 r l) : BitVec 8) = (args m c b1 b2).mcode (rowAt t r) l)
    ∧ (∀ b r, (Y.ms (ix2 b r) : EReal) = (args m c b1 b2).mscale (rowAt t r) b)
    ∧ (∀ r l, (Y.sc (ix2 r l) : BitVec 8) = (args m c b1 b2).scode (rowAt t r) l)
    ∧ (∀ b r, (Y.ss (ix2 b r) : EReal) = (args m c b1 b2).sscale (rowAt t r) b) := by
  have hc := (cond2_iff t).2 ht
  obtain ⟨Q, D, hQ, hD, hw, hu, hmc, hms, hsc, hss⟩ := h hc
  have hg := fun ib jb => isGrad m c b1 b2 t ib jb G.sized hQ hD ht hc
  have ha : ((Scalar.mulf ((iblk m c 0 t : S2.Idx → Elt Ideal .f32) (coefIx 0)) (Named.named κ "lr_unit" 0xBB4F3E37#32) : Ideal .f32) : EReal)
      = ((1 / (b1 * Real.sqrt (1 / b2)) : ℝ) : EReal) * (((-1 / 10000) * (Real.sqrt (1 / 1000))⁻¹ : ℝ) : EReal) := by
    rw [← G.c0, ← c_blk m c t]; rfl
  have hb : ((Scalar.mulf ((iblk m c 0 t : S2.Idx → Elt Ideal .f32) (coefIx 1)) (Named.named κ "eps_unit" 0x34A9C603#32) : Ideal .f32) : EReal)
      = ((1 / Real.sqrt (1 / b2) : ℝ) : EReal) * (((1 / 100000000) * (Real.sqrt (1 / 1000))⁻¹ : ℝ) : EReal) := by
    rw [← G.c1, ← c_blk m c t]; rfl
  refine ⟨cells_all hw (fun r l => (args m c b1 b2).wn (rowAt t r) l) fun ib jb k i => ?_, cells_all hu (fun r l => (args m c b1 b2).upd (rowAt t r) l) fun ib jb k i => ?_,
    cells_all hmc (fun r l => (args m c b1 b2).mcode (rowAt t r) l) fun ib jb k i => ?_, strips_all hms (fun b r => (args m c b1 b2).mscale (rowAt t r) b) fun ib jb k => ?_,
    cells_all hsc (fun r l => (args m c b1 b2).scode (rowAt t r) l) fun ib jb k i => ?_, strips_all hss (fun b r => (args m c b1 b2).sscale (rowAt t r) b) fun ib jb k => ?_⟩
  · exact (wAt_apply m c b1 b2 t ib jb (hg ib jb) G.h1 G.h2 _ _ ha hb i k).trans (by rw [row_eq])
  · exact (uAt_apply m c b1 b2 t ib jb (hg ib jb) G.h1 G.h2 _ _ ha hb i k).trans (by rw [row_eq])
  · exact (mcAt_apply m c b1 b2 t ib jb (hg ib jb) i k).trans (by rw [row_eq])
  · exact (msAt_apply m c b1 b2 t ib jb (hg ib jb) k).trans (by rw [row_eq])
  · exact (scAt_apply m c b1 b2 t ib jb (hg ib jb) i k).trans (by rw [row_eq])
  · exact (ssAt_apply m c b1 b2 t ib jb (hg ib jb) k).trans (by rw [row_eq])

/-- The codes of a point's tokens. -/
theorem codes_all (t : Fin cfg0.N) {Y : S256x7168.Idx → EReal} (h : rowBands.Filled (codesOf m c t.val) 8 Y) (r : Fin 256) (l : Fin 7168) :
    Y (ix2 r l) = (args m c b1 b2).code ⟨256 * min t.val 6 + r.val, by omega⟩ l := by
  obtain ⟨κ, a, hr, rfl⟩ := split_fin 8 32 256 rfl r
  have e4 : 128 * (κ.val / 4) + 32 * (κ.val % 4) + a.val = 32 * κ.val + a.val := by omega
  refine Eq.trans (b := rowBands.get Y (⟨κ.val / 4, by omega⟩, ⟨κ.val % 4, by omega⟩) (ix2 a l)) ?_ ?_
  · refine (rowBands.get_apply Y _ (ix2 a l) (ix2 ⟨32 * κ.val + a.val, hr⟩ l) fun b => ?_).symm
    match b with
    | 0 => exact e4.symm
    | 1 => exact (Nat.zero_add _).symm
  · refine (congrFun (h (⟨κ.val / 4, by omega⟩, ⟨κ.val % 4, by omega⟩) (by show 4 * (κ.val / 4) + κ.val % 4 < 8; omega)) (ix2 a l)).trans ?_
    refine (codes_rows m c G.sized _ (256 * min t.val 6 + 32 * κ.val) (by omega) (fun a l => ?_) a l).trans ?_
    · rw [rowsOf_apply, x_blk]
      refine congrArg (fun i => X0 m c (ix2 i l)) (Fin.ext ?_)
      show 256 * min (min t.val 6) 6 + (128 * (κ.val / 4) + 32 * (κ.val % 4) + a.val) = 256 * min t.val 6 + 32 * κ.val + a.val
      omega
    · have e : (⟨256 * min t.val 6 + 32 * κ.val + a.val, by omega⟩ : Fin 1792) = ⟨256 * min t.val 6 + (32 * κ.val + a.val), by omega⟩ := Fin.ext (by dsimp only; omega)
      rw [e]; rfl

/-- The scales of all tokens. -/
theorem lanes_all {Y : S1x1792.Idx → EReal} (h : lanes.Filled (scOf m c) 14 Y) (T : Fin 1792) : Y (ix2 0 T) = (args m c b1 b2).xscale T := by
  obtain ⟨k, l, hT, rfl⟩ := split_fin 14 128 1792 rfl T
  refine Eq.trans (b := lanes.get Y k (ix2 0 l)) ?_ ?_
  · refine (lanes.get_apply Y k (ix2 0 l) (ix2 0 ⟨128 * k.val + l.val, hT⟩) fun b => ?_).symm
    match b with
    | 0 => rfl
    | 1 => rfl
  · exact (congrFun (h k k.isLt) (ix2 0 l)).trans (scOf_apply m c G.sized k l)

/-! ## The results -/

omit G in
/-- Two arrays that agree at every pair of coordinates agree. -/
theorem ext2 {p q : ℕ} {α : Type} {f g : (⟨2, ![p, q]⟩ : Shape).Idx → α} (h : ∀ (i : Fin p) (j : Fin q), f (ix2 i j) = g (ix2 i j))
    (y : (⟨2, ![p, q]⟩ : Shape).Idx) : f y = g y := by
  have e : y = ix2 (n0 := p) (n1 := q) (y 0) (y 1) := by funext a; fin_cases a <;> rfl
  rw [e]; exact h _ _

theorem out_9 (after : (w : Fin cfg0.W) → Fin cfg0.N → (cfg0.win w).block.Idx → Elt Ideal (cfg0.win w).elt) (hL : ∀ u, (cfg0.win 9).flush u = true → (rdat m c).Leaves 9 u (after 9 u)) :
    ((rdat m c).withAfter after).arrAt 9 cfg0.N = fun j : S7168x2048.Idx => ((args m c b1 b2).wn (j 0) (j 1) : EReal) := by
  refine ((rdat m c).withAfter after).arrAt_eq_of_covers 9 _ (by decide +kernel) fun t hf y => ?_
  obtain ⟨_, _, Y, hY, e⟩ := hL t hf
  have ht : 7 ≤ t.val := (flushOut t).1 hf
  have h := (result_apply G t ht hY).1
  have ee : ((rdat m c).withAfter after).after 9 t = Y.w := e
  blk_simp
  rw [ee]
  refine ext2 (f := (Y.w : S512x2048.Idx → EReal)) (g := fun y : S512x2048.Idx => ((args m c b1 b2).wn (((win0_9.blk t).view.emb y) 0) (((win0_9.blk t).view.emb y) 1) : EReal)) (fun r l => (h r l).trans ?_) y
  refine congrArg₂ (args m c b1 b2).wn (Fin.ext ?_) (Fin.ext ?_)
  · blk_simp [idxOut t]; show 512 * (t.val - 7) + r.val = (t.val - 7) * 512 + r.val; omega
  · blk_simp [idxOut t]

theorem out_10 (after : (w : Fin cfg0.W) → Fin cfg0.N → (cfg0.win w).block.Idx → Elt Ideal (cfg0.win w).elt) (hL : ∀ u, (cfg0.win 10).flush u = true → (rdat m c).Leaves 10 u (after 10 u)) :
    ((rdat m c).withAfter after).arrAt 10 cfg0.N = fun j : S7168x2048.Idx => ((args m c b1 b2).upd (j 0) (j 1) : EReal) := by
  refine ((rdat m c).withAfter after).arrAt_eq_of_covers 10 _ (by decide +kernel) fun t hf y => ?_
  obtain ⟨_, _, Y, hY, e⟩ := hL t hf
  have ht : 7 ≤ t.val := (flushOut t).2.1 hf
  have h := (result_apply G t ht hY).2.1
  have ee : ((rdat m c).withAfter after).after 10 t = Y.u := e
  blk_simp
  rw [ee]
  refine ext2 (f := (Y.u : S512x2048.Idx → EReal)) (g := fun y : S512x2048.Idx => ((args m c b1 b2).upd (((win0_10.blk t).view.emb y) 0) (((win0_10.blk t).view.emb y) 1) : EReal)) (fun r l => (h r l).trans ?_) y
  refine congrArg₂ (args m c b1 b2).upd (Fin.ext ?_) (Fin.ext ?_)
  · blk_simp [idxOut t]; show 512 * (t.val - 7) + r.val = (t.val - 7) * 512 + r.val; omega
  · blk_simp [idxOut t]

theorem out_13 (after : (w : Fin cfg0.W) → Fin cfg0.N → (cfg0.win w).block.Idx → Elt Ideal (cfg0.win w).elt) (hL : ∀ u, (cfg0.win 13).flush u = true → (rdat m c).Leaves 13 u (after 13 u)) :
    ((rdat m c).withAfter after).arrAt 13 cfg0.N = fun j : S7168x2048.Idx => ((args m c b1 b2).mcode (j 0) (j 1) : BitVec 8) := by
  refine ((rdat m c).withAfter after).arrAt_eq_of_covers 13 _ (by decide +kernel) fun t hf y => ?_
  obtain ⟨_, _, Y, hY, e⟩ := hL t hf
  have ht : 7 ≤ t.val := (flushOut t).2.2.2.1 hf
  have h := (result_apply G t ht hY).2.2.1
  have ee : ((rdat m c).withAfter after).after 13 t = Y.mc := e
  blk_simp
  rw [ee]
  refine ext2 (f := (Y.mc : S512x2048.Idx → BitVec 8)) (g := fun y : S512x2048.Idx => ((args m c b1 b2).mcode (((win0_13.blk t).view.emb y) 0) (((win0_13.blk t).view.emb y) 1) : BitVec 8)) (fun r l => (h r l).trans ?_) y
  refine congrArg₂ (args m c b1 b2).mcode (Fin.ext ?_) (Fin.ext ?_)
  · blk_simp [idxOut t]; show 512 * (t.val - 7) + r.val = (t.val - 7) * 512 + r.val; omega
  · blk_simp [idxOut t]

theorem out_14 (after : (w : Fin cfg0.W) → Fin cfg0.N → (cfg0.win w).block.Idx → Elt Ideal (cfg0.win w).elt) (hL : ∀ u, (cfg0.win 14).flush u = true → (rdat m c).Leaves 14 u (after 14 u)) :
    ((rdat m c).withAfter after).arrAt 14 cfg0.N = fun j : S16x7168.Idx => ((args m c b1 b2).mscale (j 1) (j 0) : EReal) := by
  refine ((rdat m c).withAfter after).arrAt_eq_of_covers 14 _ (by decide +kernel) fun t hf y => ?_
  obtain ⟨_, _, Y, hY, e⟩ := hL t hf
  have ht : 7 ≤ t.val := (flushOut t).2.2.2.2.1 hf
  have h := (result_apply G t ht hY).2.2.2.1
  have ee : ((rdat m c).withAfter after).after 14 t = Y.ms := e
  blk_simp
  rw [ee]
  refine ext2 (f := (Y.ms : S16x512.Idx → EReal)) (g := fun y : S16x512.Idx => ((args m c b1 b2).mscale (((win0_14.blk t).view.emb y) 1) (((win0_14.blk t).view.emb y) 0) : EReal)) (fun r l => (h r l).trans ?_) y
  refine congrArg₂ (args m c b1 b2).mscale (Fin.ext ?_) (Fin.ext ?_)
  · blk_simp [idxOut t]; show 512 * (t.val - 7) + l.val = (t.val - 7) * 512 + l.val; omega
  · blk_simp [idxOut t]

theorem out_15 (after : (w : Fin cfg0.W) → Fin cfg0.N → (cfg0.win w).block.Idx → Elt Ideal (cfg0.win w).elt) (hL : ∀ u, (cfg0.win 15).flush u = true → (rdat m c).Leaves 15 u (after 15 u)) :
    ((rdat m c).withAfter after).arrAt 15 cfg0.N = fun j : S7168x2048.Idx => ((args m c b1 b2).scode (j 0) (j 1) : BitVec 8) := by
  refine ((rdat m c).withAfter after).arrAt_eq_of_covers 15 _ (by decide +kernel) fun t hf y => ?_
  obtain ⟨_, _, Y, hY, e⟩ := hL t hf
  have ht : 7 ≤ t.val := (flushOut t).2.2.2.2.2.1 hf
  have h := (result_apply G t ht hY).2.2.2.2.1
  have ee : ((rdat m c).withAfter after).after 15 t = Y.sc := e
  blk_simp
  rw [ee]
  refine ext2 (f := (Y.sc : S512x2048.Idx → BitVec 8)) (g := fun y : S512x2048.Idx => ((args m c b1 b2).scode (((win0_15.blk t).view.emb y) 0) (((win0_15.blk t).view.emb y) 1) : BitVec 8)) (fun r l => (h r l).trans ?_) y
  refine congrArg₂ (args m c b1 b2).scode (Fin.ext ?_) (Fin.ext ?_)
  · blk_simp [idxOut t]; show 512 * (t.val - 7) + r.val = (t.val - 7) * 512 + r.val; omega
  · blk_simp [idxOut t]

theorem out_16 (after : (w : Fin cfg0.W) → Fin cfg0.N → (cfg0.win w).block.Idx → Elt Ideal (cfg0.win w).elt) (hL : ∀ u, (cfg0.win 16).flush u = true → (rdat m c).Leaves 16 u (after 16 u)) :
    ((rdat m c).withAfter after).arrAt 16 cfg0.N = fun j : S16x7168.Idx => ((args m c b1 b2).sscale (j 1) (j 0) : EReal) := by
  refine ((rdat m c).withAfter after).arrAt_eq_of_covers 16 _ (by decide +kernel) fun t hf y => ?_
  obtain ⟨_, _, Y, hY, e⟩ := hL t hf
  have ht : 7 ≤ t.val := (flushOut t).2.2.2.2.2.2 hf
  have h := (result_apply G t ht hY).2.2.2.2.2
  have ee : ((rdat m c).withAfter after).after 16 t = Y.ss := e
  blk_simp
  rw [ee]
  refine ext2 (f := (Y.ss : S16x512.Idx → EReal)) (g := fun y : S16x512.Idx => ((args m c b1 b2).sscale (((win0_16.blk t).view.emb y) 1) (((win0_16.blk t).view.emb y) 0) : EReal)) (fun r l => (h r l).trans ?_) y
  refine congrArg₂ (args m c b1 b2).sscale (Fin.ext ?_) (Fin.ext ?_)
  · blk_simp [idxOut t]; show 512 * (t.val - 7) + l.val = (t.val - 7) * 512 + l.val; omega
  · blk_simp [idxOut t]

theorem out_11 (after : (w : Fin cfg0.W) → Fin cfg0.N → (cfg0.win w).block.Idx → Elt Ideal (cfg0.win w).elt) (hL : ∀ u, (cfg0.win 11).flush u = true → (rdat m c).Leaves 11 u (after 11 u)) :
    ((rdat m c).withAfter after).arrAt 11 cfg0.N = fun j : S1792x7168.Idx => ((args m c b1 b2).code (j 0) (j 1) : EReal) := by
  refine ((rdat m c).withAfter after).arrAt_eq_of_covers 11 _ (by decide +kernel) fun t hf y => ?_
  obtain ⟨_, _, hY⟩ := hL t hf
  have h := codes_all G t hY
  blk_simp
  refine ext2 (f := (after 11 t : S256x7168.Idx → EReal)) (g := fun y : S256x7168.Idx => ((args m c b1 b2).code (((win0_11.blk t).view.emb y) 0) (((win0_11.blk t).view.emb y) 1) : EReal)) (fun r l => (h r l).trans ?_) y
  refine congrArg₂ (args m c b1 b2).code (Fin.ext ?_) (Fin.ext ?_)
  · blk_simp [idxOut t]; show 256 * min t.val 6 + r.val = min t.val 6 * 256 + r.val; omega
  · blk_simp [idxOut t]

theorem out_12 (after : (w : Fin cfg0.W) → Fin cfg0.N → (cfg0.win w).block.Idx → Elt Ideal (cfg0.win w).elt) (hL : ∀ u, (cfg0.win 12).flush u = true → (rdat m c).Leaves 12 u (after 12 u)) :
    ((rdat m c).withAfter after).arrAt 12 cfg0.N = fun j : S1x1792.Idx => ((args m c b1 b2).xscale (j 1) : EReal) := by
  refine ((rdat m c).withAfter after).arrAt_eq_of_covers 12 _ (by decide +kernel) fun t hf y => ?_
  obtain ⟨_, _, hY⟩ := hL t hf
  have ht : 6 ≤ t.val := (flushOut t).2.2.1 hf
  have hY' : lanes.Filled (scOf m c) 14 (after 12 t) := by
    have e : 2 * min (t.val + 1) 7 = 14 := by omega
    have hY'' : lanes.Filled (scOf m c) (2 * min (t.val + 1) 7) (after 12 t) := hY
    rwa [e] at hY''
  have h := lanes_all (b1 := b1) (b2 := b2) G hY'
  blk_simp
  refine ext2 (f := (after 12 t : S1x1792.Idx → EReal)) (g := fun y : S1x1792.Idx => ((args m c b1 b2).xscale (((win0_12.blk t).view.emb y) 1) : EReal)) (fun r l => ?_) y
  obtain rfl : r = 0 := Subsingleton.elim _ _
  refine (h l).trans (congrArg (args m c b1 b2).xscale (Fin.ext ?_))
  blk_simp [idxOut t]

end Cert.KernelIdeal.Unit

end
-- ==== Proof.RefRun.lean ====
/- What the reference's one grid point leaves in each result's buffer: the body's named payloads of the argument blocks. -/
module

public import proofs.«01_k».proof.Proof.Gen.ReferenceIdeal.Value

@[expose] public section

set_option maxRecDepth 16384

noncomputable section

namespace Cert.ReferenceIdeal.Unit

open Cert.ReferenceIdeal Cert.ReferenceIdeal.Gen Idealize.ShloMosaic Idealize.ShloMosaic.TcCoe Idealize.SL.Sem

variable {F : FTy → Type} [FloatOps F] [Named F]
variable (m : (ℓ : Loc nD τ sig) → Buf (Elt F) ℓ)

/-- Two zero offsets. -/
theorem zeros : (![0, 0] : Fin 2 → Nat) = fun _ => 0 := funext fun a => by fin_cases a <;> rfl

/-- One store over a whole buffer leaves its payload. -/
theorem read_store {S : Shape} {e : EltTy} {sp : Space} (v : View sig .tc sp S e) {off : Fin S.rank → Nat} (h : off = fun _ => 0)
    (inb : ∀ a, off a + S.size a ≤ S.size a) (w : S.Idx → Elt F e) (f : v.ty.Contents (Elt F)) :
    v.read (Elt F) (v.writes (Elt F) f [(⟨Rect.unit off S.size inb, w⟩ : View.Piece (Elt F) S e)]) = w := by
  subst h; funext y
  have e := View.read_writes_of_unique v f (⟨Rect.whole S, w⟩ : View.Piece (Elt F) S e) y [⟨Rect.whole S, w⟩]
    (List.mem_singleton.2 rfl) (fun q hq _ => List.mem_singleton.1 hq)
  rw [Rect.emb_whole_apply] at e
  exact e

/-- A load of a whole buffer reads it. -/
theorem load_whole {S : Shape} {e : EltTy} {sp : Space} {M : Memref sig .tc sp S e} (hM : M.IsWhole) {off : Fin S.rank → Nat}
    (h : off = fun _ => 0) (inb : ∀ a, off a + S.size a ≤ S.size a) (x : S.Idx → Elt F e) :
    M.view.readAt (Elt F) (Rect.unit off S.size inb).toLoadRect (hM.unread x) = x := by
  rw [View.readAt_eq_ld, View.ld_unit_zero h, hM.read_unread]

/-- The first moment's array. -/
abbrev mArr (c : Dev nD) (t : Fin cfg0.N) : FVec F S7168x2048 .f32 :=
  k0_pay13 (k0_pay10 (iblk m c 1 t)) (k0_pay11 (iblk m c 2 t)) (iblk m c 3 t) (iblk m c 5 t) (iblk m c 6 t)

/-- The second moment's array. -/
abbrev vArr (c : Dev nD) (t : Fin cfg0.N) : FVec F S7168x2048 .f32 :=
  k0_pay14 (k0_pay10 (iblk m c 1 t)) (k0_pay11 (iblk m c 2 t)) (iblk m c 3 t) (iblk m c 7 t) (iblk m c 8 t)

/-- The index of word `k` of two. -/
def word (k : Fin 2) : S2.Idx := fun a => ⟨k, by fin_cases a; exact k.2⟩

/-- A word of the corrections' block. -/
abbrev bcAt (c : Dev nD) (t : Fin cfg0.N) (k : Fin 2) : Elt F .f32 := (iblk m c 0 t : S2.Idx → Elt F .f32) (word k)

/-- The scaled first moment. -/
abbrev lArr (c : Dev nD) (t : Fin cfg0.N) : FVec F S7168x2048 .f32 :=
  k0_pay15 (k0_pay10 (iblk m c 1 t)) (k0_pay11 (iblk m c 2 t)) (iblk m c 3 t) (bcAt m c t 0) (iblk m c 5 t) (iblk m c 6 t)

theorem load_1 (c : Dev nD) (t : Fin cfg0.N) :
    (ms0_1 t).view.readAt (Elt F) (Rect.unit (s := S1792x7168) ![0, 0] S1792x7168.size inb_S1792x7168_S1792x7168_0_0).toLoadRect ((hs0_1 t).unread (iblk m c 1 t))
      = iblk m c 1 t := load_whole (hs0_1 t) zeros _ _
theorem load_2 (c : Dev nD) (t : Fin cfg0.N) :
    (ms0_2 t).view.readAt (Elt F) (Rect.unit (s := S1792x2048) ![0, 0] S1792x2048.size inb_S1792x2048_S1792x2048_0_0).toLoadRect ((hs0_2 t).unread (iblk m c 2 t))
      = iblk m c 2 t := load_whole (hs0_2 t) zeros _ _
theorem load_3 (c : Dev nD) (t : Fin cfg0.N) :
    (ms0_3 t).view.readAt (Elt F) (Rect.unit (s := S1792x1) ![0, 0] S1792x1.size inb_S1792x1_S1792x1_0_0).toLoadRect ((hs0_3 t).unread (iblk m c 3 t))
      = iblk m c 3 t := load_whole (hs0_3 t) zeros _ _
theorem load_4 (c : Dev nD) (t : Fin cfg0.N) :
    (ms0_4 t).view.readAt (Elt F) (Rect.unit (s := S7168x2048) ![0, 0] S7168x2048.size inb_S7168x2048_S7168x2048_0_0).toLoadRect ((hs0_4 t).unread (iblk m c 4 t))
      = iblk m c 4 t := load_whole (hs0_4 t) zeros _ _
theorem load_5 (c : Dev nD) (t : Fin cfg0.N) :
    (ms0_5 t).view.readAt (Elt F) (Rect.unit (s := S7168x2048) ![0, 0] S7168x2048.size inb_S7168x2048_S7168x2048_0_0).toLoadRect ((hs0_5 t).unread (iblk m c 5 t))
      = iblk m c 5 t := load_whole (hs0_5 t) zeros _ _
theorem load_6 (c : Dev nD) (t : Fin cfg0.N) :
    (ms0_6 t).view.readAt (Elt F) (Rect.unit (s := S7168x16) ![0, 0] S7168x16.size inb_S7168x16_S7168x16_0_0).toLoadRect ((hs0_6 t).unread (iblk m c 6 t))
      = iblk m c 6 t := load_whole (hs0_6 t) zeros _ _
theorem load_7 (c : Dev nD) (t : Fin cfg0.N) :
    (ms0_7 t).view.readAt (Elt F) (Rect.unit (s := S7168x2048) ![0, 0] S7168x2048.size inb_S7168x2048_S7168x2048_0_0).toLoadRect ((hs0_7 t).unread (iblk m c 7 t))
      = iblk m c 7 t := load_whole (hs0_7 t) zeros _ _
theorem load_8 (c : Dev nD) (t : Fin cfg0.N) :
    (ms0_8 t).view.readAt (Elt F) (Rect.unit (s := S7168x16) ![0, 0] S7168x16.size inb_S7168x16_S7168x16_0_0).toLoadRect ((hs0_8 t).unread (iblk m c 8 t))
      = iblk m c 8 t := load_whole (hs0_8 t) zeros _ _
theorem word_0 (c : Dev nD) (t : Fin cfg0.N) : kernelRun0_A.sl.r_2 c (ms0_0 t) (hs0_0 t) (iblk m c 0 t) = bcAt m c t 0 := by
  unfold kernelRun0_A.sl.r_2
  rw [View.readAt_eq_ld, (hs0_0 t).read_unread]
  exact congrArg (iblk m c 0 t : S2.Idx → Elt F .f32) (funext fun a => by fin_cases a; rfl)
theorem word_1 (c : Dev nD) (t : Fin cfg0.N) : kernelRun0_A.sl.r_3 c (ms0_0 t) (hs0_0 t) (iblk m c 0 t) = bcAt m c t 1 := by
  unfold kernelRun0_A.sl.r_3
  rw [View.readAt_eq_ld, (hs0_0 t).read_unread]
  exact congrArg (iblk m c 0 t : S2.Idx → Elt F .f32) (funext fun a => by fin_cases a; rfl)

theorem after_9 (c : Dev nD) (t : Fin cfg0.N) : (dats m 0 c).after 9 t = k0_pay18 (vArr m c t) (lArr m c t) (k0_pay16 (bcAt m c t 1)) (iblk m c 4 t) := by
  rw [after0_9]; unfold outsAt0; dsimp only; unfold out0_A_9 kernelRun0_A; dsimp only
  refine (read_store VO0_9 zeros _ _ _).trans ?_
  conv_rhs => unfold vArr lArr; rw [← word_0, ← word_1]; rw [← load_1 m c t, ← load_2 m c t, ← load_3 m c t, ← load_4 m c t, ← load_5 m c t, ← load_6 m c t, ← load_7 m c t, ← load_8 m c t]
  rfl
theorem after_10 (c : Dev nD) (t : Fin cfg0.N) : (dats m 0 c).after 10 t = k0_pay17 (vArr m c t) (lArr m c t) (k0_pay16 (bcAt m c t 1)) := by
  rw [after0_10]; unfold outsAt0; dsimp only; unfold out0_A_10 kernelRun0_A; dsimp only
  refine (read_store VO0_10 zeros _ _ _).trans ?_
  conv_rhs => unfold vArr lArr; rw [← word_0, ← word_1]; rw [← load_1 m c t, ← load_2 m c t, ← load_3 m c t, ← load_5 m c t, ← load_6 m c t, ← load_7 m c t, ← load_8 m c t]
  rfl
theorem after_11 (c : Dev nD) (t : Fin cfg0.N) : (dats m 0 c).after 11 t = k0_pay8 (iblk m c 1 t) := by
  rw [after0_11]; unfold outsAt0; dsimp only; unfold out0_A_11 kernelRun0_A; dsimp only
  refine (read_store VO0_11 zeros _ _ _).trans ?_
  conv_rhs => rw [← load_1 m c t]
theorem after_12 (c : Dev nD) (t : Fin cfg0.N) : (dats m 0 c).after 12 t = k0_pay9 (iblk m c 1 t) := by
  rw [after0_12]; unfold outsAt0; dsimp only; unfold out0_A_12 kernelRun0_A; dsimp only
  refine (read_store VO0_12 zeros _ _ _).trans ?_
  conv_rhs => rw [← load_1 m c t]
theorem after_13 (c : Dev nD) (t : Fin cfg0.N) : (dats m 0 c).after 13 t = k0_pay21 (mArr m c t) := by
  rw [after0_13]; unfold outsAt0; dsimp only; unfold out0_A_13 kernelRun0_A; dsimp only
  refine (read_store VO0_13 zeros _ _ _).trans ?_
  conv_rhs => unfold mArr; rw [← load_1 m c t, ← load_2 m c t, ← load_3 m c t, ← load_5 m c t, ← load_6 m c t]
  rfl
theorem after_14 (c : Dev nD) (t : Fin cfg0.N) : (dats m 0 c).after 14 t = k0_pay3 (k0_pay20 (mArr m c t)) := by
  rw [after0_14]; unfold outsAt0; dsimp only; unfold out0_A_14 kernelRun0_A; dsimp only
  refine (read_store VO0_14 zeros _ _ _).trans ?_
  conv_rhs => unfold mArr; rw [← load_1 m c t, ← load_2 m c t, ← load_3 m c t, ← load_5 m c t, ← load_6 m c t]
  rfl
theorem after_15 (c : Dev nD) (t : Fin cfg0.N) : (dats m 0 c).after 15 t = k0_pay2 (k0_pay22 (vArr m c t)) (k0_pay23 (vArr m c t)) := by
  rw [after0_15]; unfold outsAt0; dsimp only; unfold out0_A_15 kernelRun0_A; dsimp only
  refine (read_store VO0_15 zeros _ _ _).trans ?_
  conv_rhs => unfold vArr; rw [← load_1 m c t, ← load_2 m c t, ← load_3 m c t, ← load_7 m c t, ← load_8 m c t]
  rfl
theorem after_16 (c : Dev nD) (t : Fin cfg0.N) : (dats m 0 c).after 16 t = k0_pay4 (k0_pay23 (vArr m c t)) := by
  rw [after0_16]; unfold outsAt0; dsimp only; unfold out0_A_16 kernelRun0_A; dsimp only
  refine (read_store VO0_16 zeros _ _ _).trans ?_
  conv_rhs => unfold vArr; rw [← load_1 m c t, ← load_2 m c t, ← load_3 m c t, ← load_7 m c t, ← load_8 m c t]
  rfl

end Cert.ReferenceIdeal.Unit

end
-- ==== Proof.RefVal.lean ====
/- The reference's arrays at Ideal, entry by entry. -/
module

public import proofs.«01_k».proof.Proof.RefRun
public import proofs.«01_k».proof.Proof.Spec

@[expose] public section

set_option maxRecDepth 16384

noncomputable section

namespace Cert.ReferenceIdeal.Unit

open Cert.ReferenceIdeal Cert.ReferenceIdeal.Gen Idealize.ShloMosaic

/-- Token `t`'s largest magnitude over 448. -/
def ratio (x : Vec Ideal S1792x7168 .bf16) (t : Fin 1792) : EReal :=
  Spec.big (fun k : Fin 7168 => (x (ix2 t k) : EReal)) * Spec.over448

/-- The exponents of a column of largest magnitudes. -/
theorem exponent_of (M : FVec Ideal S1792 .f32) (t : Fin 1792) :
    (select (cmpf .olt (mulf (shapeCast S1792x1 M shapeCasts_S1792_S1792x1) (broadcast S1792x1 (Scalar.ofBits (F := Ideal) .f32 0x3B124925#32)))
          (broadcast S1792x1 (Scalar.ofBits (F := Ideal) .f32 0x00800000#32)))
        (broadcast S1792x1 (Scalar.ofBits (F := Ideal) .f32 0xBF800000#32))
        (floor (divf (log (mulf (shapeCast S1792x1 M shapeCasts_S1792_S1792x1) (broadcast S1792x1 (Scalar.ofBits (F := Ideal) .f32 0x3B124925#32))))
          (broadcast S1792x1 (Named.named (F := Ideal) κ "ln2" 0x3F317218#32)))) (ix2 t 0) : EReal)
      = Spec.expo ((M (ix1 t) : EReal) * Spec.over448) := by
  have hl : (Named.named (F := Ideal) κ "ln2" (φ := .f32) 0x3F317218#32 : EReal) = ((Real.log 2 : ℝ) : EReal) := rfl
  pointwise []
  unfold Spec.expo Spec.over448
  rw [hl]

theorem max_of (y : FVec Ideal S1792x7168 .f32) (t : Fin 1792) :
    (multiReduction (F := Ideal) .maximumf [1] S1792 (absf y) 0xFF800000#32 reduces_S1792x7168_S1792 (.inl rfl) rfl (ix1 t) : EReal)
      = Spec.big fun k : Fin 7168 => (y (ix2 t k) : EReal) :=
  (Sup.last2 (m := 1792) (n := 7168) (absf y) 0xFF800000#32 reduces_S1792x7168_S1792 (.inl rfl) rfl Sup.bot_f32 t).trans rfl

theorem plain_of (x : Vec Ideal S1792x7168 .bf16) (t : Fin 1792) (k : Fin 7168) : (k0_pay5 (F := Ideal) x (ix2 t k) : EReal) = x (ix2 t k) := by
  pointwise [k0_pay5]

theorem exponent_apply (x : Vec Ideal S1792x7168 .bf16) (t : Fin 1792) : (k0_pay6 (F := Ideal) x (ix2 t 0) : EReal) = Spec.expo (ratio x t) := by
  refine (exponent_of _ t).trans ?_
  rw [max_of]
  unfold ratio
  exact congrArg (fun f => Spec.expo (Spec.big f * Spec.over448)) (funext fun k => plain_of x t k)

theorem scale_of (e : FVec Ideal S1792x1 .f32) (t : Fin 1792) :
    (mulf (exp2 e) (broadcast S1792x1 (Scalar.ofBits (F := Ideal) .f32 0x40000000#32)) (ix2 t 0) : EReal)
      = Ideal.exp2 (e (ix2 t 0)) * Ideal.ofBits .f32 0x40000000#32 := by
  rfl

theorem scale_apply (x : Vec Ideal S1792x7168 .bf16) (t : Fin 1792) : (k0_pay7 (F := Ideal) x (ix2 t 0) : EReal) = Spec.scale (ratio x t) :=
  (scale_of (k0_pay6 x) t).trans (by rw [exponent_apply]; rfl)

theorem inv_of (e : FVec Ideal S1792x1 .f32) (t : Fin 1792) :
    (mulf (exp2 (subf (broadcast S1792x1 (Scalar.ofBits (F := Ideal) .f32 0x00000000#32)) e)) (broadcast S1792x1 (Scalar.ofBits (F := Ideal) .f32 0x3F000000#32)) (ix2 t 0) : EReal)
      = Ideal.exp2 (Ideal.ofBits .f32 0x00000000#32 - e (ix2 t 0)) * Ideal.ofBits .f32 0x3F000000#32 := by
  rfl

theorem clip_of (y : FVec Ideal S1792x7168 .f32) (d : FVec Ideal S1792x1 .f32) (t : Fin 1792) (j : Fin 7168) :
    (truncf .fp8e4m3 (minimumf (broadcast S1792x7168 (Scalar.ofBits (F := Ideal) .f32 0x43E00000#32))
        (maximumf (broadcast S1792x7168 (Scalar.ofBits (F := Ideal) .f32 0xC3E00000#32))
          (mulf y (broadcastTo S1792x7168 d broadcasts_S1792x1_S1792x7168)))) bitsLt_fp8e4m3_f32 (ix2 t j) : EReal)
      = min (Ideal.ofBits .f32 0x43E00000#32) (max (Ideal.ofBits .f32 0xC3E00000#32) ((y (ix2 t j) : EReal) * (d (ix2 t 0) : EReal))) := by
  pointwise []

theorem code_apply (x : Vec Ideal S1792x7168 .bf16) (t : Fin 1792) (j : Fin 7168) :
    (k0_pay8 (F := Ideal) x (ix2 t j) : EReal) = Spec.clip448 ((x (ix2 t j) : EReal) * Spec.inv (ratio x t)) := by
  refine (clip_of (k0_pay5 x) _ t j).trans ?_
  rw [plain_of]
  refine congrArg (fun z : EReal => Spec.clip448 ((x (ix2 t j) : EReal) * z)) ((inv_of (k0_pay6 x) t).trans ?_)
  rw [exponent_apply, Ideal.ofBits_zero_f32]
  rfl

theorem scales_apply (x : Vec Ideal S1792x7168 .bf16) (t : Fin 1792) : k0_pay9 x (ix2 0 t) = Spec.scale (ratio x t) := by
  rw [← scale_apply]
  pointwise [k0_pay9]

/-- The weight gradient. -/
theorem grad_apply (x : Vec Ideal S1792x7168 .bf16) (d : Vec Ideal S1792x2048 .fp8e5m2) (s : Vec Ideal S1792x1 .f32) (i : Fin 7168) (j : Fin 2048) :
    (k0_pay12 (k0_pay10 x) (k0_pay11 d) s (ix2 i j) : EReal)
      = ∑ t : Fin 1792, (Spec.clip448 ((x (ix2 t i) : EReal) * Spec.inv (ratio x t)) * Spec.scale (ratio x t)) * ((d (ix2 t j) : EReal) * (s (ix2 t 0) : EReal)) := by
  have e : ∀ t : Fin 1792, (k0_pay10 x (ix2 t i) : EReal) = Spec.clip448 ((x (ix2 t i) : EReal) * Spec.inv (ratio x t)) * Spec.scale (ratio x t) := fun t => by
    have h := code_apply x t i
    have h' := scale_apply x t
    unfold k0_pay10
    generalize k0_pay8 x = e at h ⊢
    generalize k0_pay7 x = e' at h' ⊢
    pointwise []
    rw [h, h']
  generalize k0_pay10 x = X at e ⊢
  have h : (k0_pay12 X (k0_pay11 d) s (ix2 i j) : EReal) = ∑ t : Fin 1792, (X (ix2 t i) : EReal) * ((d (ix2 t j) : EReal) * (s (ix2 t 0) : EReal)) := by
    pointwise [k0_pay12, k0_pay11]
  rw [h]
  exact Finset.sum_congr rfl fun t _ => by rw [e]

/-- The block of 128 columns that holds column `j`. -/
def blk (j : Fin 2048) : Fin 16 := ⟨j.val / 128, by omega⟩

theorem m_apply (a : FVec Ideal S1792x7168 .bf16) (d : FVec Ideal S1792x2048 .fp8e5m2) (s : Vec Ideal S1792x1 .f32)
    (mc : Vec Ideal S7168x2048 .i8) (ms : Vec Ideal S7168x16 .f32) (i : Fin 7168) (j : Fin 2048) :
    (k0_pay13 a d s mc ms (ix2 i j) : EReal)
      = ((9 / 10 : ℝ) : EReal) * ((((mc (ix2 i j) : BitVec 8).toInt : ℝ) : EReal) * (ms (ix2 i (blk j)) : EReal))
        + ((1 / 10 : ℝ) : EReal) * (k0_pay12 a d s (ix2 i j) : EReal) := by
  unfold k0_pay13
  generalize k0_pay12 a d s = g
  pointwise []
  rfl

theorem v_apply (a : FVec Ideal S1792x7168 .bf16) (d : FVec Ideal S1792x2048 .fp8e5m2) (s : Vec Ideal S1792x1 .f32)
    (sc : Vec Ideal S7168x2048 .i8) (ss : Vec Ideal S7168x16 .f32) (i : Fin 7168) (j : Fin 2048) :
    (k0_pay14 a d s sc ss (ix2 i j) : EReal)
      = ((999 / 1000 : ℝ) : EReal) * (((((sc (ix2 i j) : BitVec 8).toInt : ℝ) : EReal) * (ss (ix2 i (blk j)) : EReal)) * ((((sc (ix2 i j) : BitVec 8).toInt : ℝ) : EReal) * (ss (ix2 i (blk j)) : EReal)))
        + ((1 / 1000 : ℝ) : EReal) * ((k0_pay12 a d s (ix2 i j) : EReal) * (k0_pay12 a d s (ix2 i j) : EReal)) := by
  unfold k0_pay14
  generalize k0_pay12 a d s = g
  pointwise []
  rfl

theorem step_apply (a : FVec Ideal S1792x7168 .bf16) (d : FVec Ideal S1792x2048 .fp8e5m2) (s : Vec Ideal S1792x1 .f32) (bc : Elt Ideal .f32)
    (mc : Vec Ideal S7168x2048 .i8) (ms : Vec Ideal S7168x16 .f32) (i : Fin 7168) (j : Fin 2048) :
    (k0_pay15 a d s bc mc ms (ix2 i j) : EReal) = ((-1 / 1000 : ℝ) : EReal) * Ideal.div (k0_pay13 a d s mc ms (ix2 i j)) bc := by
  unfold k0_pay15
  generalize k0_pay13 a d s mc ms = g
  pointwise []
  rfl

theorem upd_apply (v l : FVec Ideal S7168x2048 .f32) (bc : Elt Ideal .f32) (i : Fin 7168) (j : Fin 2048) :
    (k0_pay17 v l (k0_pay16 bc) (ix2 i j) : EReal) = Ideal.div (l (ix2 i j)) (Ideal.sqrt (Ideal.div (v (ix2 i j)) bc) + ((1 / 100000000 : ℝ) : EReal)) := by
  pointwise [k0_pay17, k0_pay16]
  rfl

theorem wn_apply (v l : FVec Ideal S7168x2048 .f32) (b : FVec Ideal S7168x2048 .f32) (w : Vec Ideal S7168x2048 .bf16) (i : Fin 7168) (j : Fin 2048) :
    (k0_pay18 v l b w (ix2 i j) : EReal) = (w (ix2 i j) : EReal) + (k0_pay17 v l b (ix2 i j) : EReal) := by
  unfold k0_pay18
  generalize k0_pay17 v l b = u
  pointwise []

/-- Column `k` of block `b`. -/
def col (b : Fin 16) (k : Fin 128) : Fin 2048 := ⟨b.val * 128 + k.val, by omega⟩

theorem blockMax_of (A : FVec Ideal S7168x16x128 .f32) (i : Fin 7168) (b : Fin 16) :
    (multiReduction (F := Ideal) .maximumf [2] S7168x16 (absf A) 0xFF800000#32 reduces_S7168x16x128_S7168x16 (.inl rfl) rfl (ix2 i b) : EReal)
      = Spec.big fun k : Fin 128 => (A (ix3 i b k) : EReal) :=
  (Sup.last3 (m := 7168) (n := 16) (p := 128) (absf A) 0xFF800000#32 reduces_S7168x16x128_S7168x16 (.inl rfl) rfl Sup.bot_f32 i b).trans rfl

theorem nonzero_of (A : FVec Ideal S7168x16 .f32) (i : Fin 7168) (b : Fin 16) :
    (select (cmpf .oeq A (broadcast S7168x16 (Scalar.ofBits (F := Ideal) .f32 0x00000000#32)))
        (broadcast S7168x16 (Scalar.ofBits (F := Ideal) .f32 0x42FE0000#32)) A (ix2 i b) : EReal)
      = if (A (ix2 i b) : EReal) = 0 then Ideal.ofBits .f32 0x42FE0000#32 else A (ix2 i b) := by
  pointwise []

theorem over127_of (A : FVec Ideal S7168x16 .f32) (i : Fin 7168) (b : Fin 16) :
    (divf A (broadcast S7168x16 (Scalar.ofBits (F := Ideal) .f32 0x42FE0000#32)) (ix2 i b) : EReal) = Ideal.div (A (ix2 i b)) (Ideal.ofBits .f32 0x42FE0000#32) := by
  pointwise []

theorem blocks_of (a : FVec Ideal S7168x2048 .f32) (i : Fin 7168) (b : Fin 16) (k : Fin 128) :
    (k0_pay19 (F := Ideal) a (ix3 i b k) : EReal) = a (ix2 i (col b k)) := by
  pointwise [k0_pay19]; rfl

theorem roots_of (v : FVec Ideal S7168x2048 .f32) (i : Fin 7168) (b : Fin 16) (k : Fin 128) :
    (k0_pay22 (F := Ideal) v (ix3 i b k) : EReal) = Ideal.sqrt (v (ix2 i (col b k))) := by
  pointwise [k0_pay22]; rfl

theorem mscale_apply (a : FVec Ideal S7168x2048 .f32) (i : Fin 7168) (b : Fin 16) :
    (k0_pay20 (F := Ideal) a (ix2 i b) : EReal) = Spec.scale8 (Spec.big fun k : Fin 128 => (a (ix2 i (col b k)) : EReal)) := by
  refine (over127_of _ i b).trans ?_
  rw [nonzero_of, blockMax_of]
  exact congrArg (fun f => Spec.scale8 (Spec.big f)) (funext fun k => blocks_of a i b k)

theorem mcode_apply (a : FVec Ideal S7168x2048 .f32) (i : Fin 7168) (j : Fin 2048) :
    k0_pay21 a (ix2 i j) = Spec.code8 (Ideal.div (a (ix2 i j)) (k0_pay20 a (ix2 i (blk j)))) := by
  have e : (k0_pay19 a (ix3 i ⟨j.val / 128, by omega⟩ ⟨j.val % 128, by omega⟩) : EReal) = a (ix2 i j) := by
    pointwise [k0_pay19]
  unfold k0_pay21
  generalize k0_pay19 a = A at e ⊢
  generalize k0_pay20 a = B
  pointwise []
  rw [e]; rfl

theorem sscale_apply (v : FVec Ideal S7168x2048 .f32) (i : Fin 7168) (b : Fin 16) :
    (k0_pay1 (k0_pay23 (F := Ideal) v) (ix2 i b) : EReal) = Spec.scale8 (Spec.big fun k : Fin 128 => Ideal.sqrt (v (ix2 i (col b k)))) := by
  refine (over127_of _ i b).trans ?_
  refine (congrArg (fun z : EReal => Ideal.div z (Ideal.ofBits .f32 0x42FE0000#32)) (nonzero_of _ i b)).trans ?_
  rw [blockMax_of]
  exact congrArg (fun f => Spec.scale8 (Spec.big f)) (funext fun k => roots_of v i b k)

theorem scode_apply (v : FVec Ideal S7168x2048 .f32) (i : Fin 7168) (j : Fin 2048) :
    k0_pay2 (k0_pay22 v) (k0_pay23 v) (ix2 i j) = Spec.code8 (Ideal.div (Ideal.sqrt (v (ix2 i j))) (k0_pay1 (k0_pay23 v) (ix2 i (blk j)))) := by
  have e : (k0_pay22 v (ix3 i ⟨j.val / 128, by omega⟩ ⟨j.val % 128, by omega⟩) : EReal) = Ideal.sqrt (v (ix2 i j)) := by
    pointwise [k0_pay22]
  unfold k0_pay2
  generalize k0_pay22 v = A at e ⊢
  generalize k0_pay1 (k0_pay23 v) = B
  pointwise []
  rw [e]; rfl

theorem mscales_apply (a : FVec Ideal S7168x16 .f32) (i : Fin 7168) (b : Fin 16) : (k0_pay3 a (ix2 b i) : EReal) = a (ix2 i b) := by
  pointwise [k0_pay3]

theorem sscales_apply (a : FVec Ideal S7168x16 .f32) (i : Fin 7168) (b : Fin 16) : (k0_pay4 a (ix2 b i) : EReal) = k0_pay1 a (ix2 i b) := by
  unfold k0_pay4
  generalize k0_pay1 a = A
  pointwise []

end Cert.ReferenceIdeal.Unit

end
-- ==== Proof.RefFinal.lean ====
/- The reference's eight results are the mathematics' of the arrays that its kernel reads. -/
module

public import proofs.«01_k».proof.Proof.RefVal
public import proofs.«01_k».proof.Proof.Goal
public import Idealize.ShloMosaic.Lib.Pipeline.ValueKit

@[expose] public section

set_option maxRecDepth 16384

noncomputable section

namespace Cert.ReferenceIdeal.Unit

open Cert.ReferenceIdeal Cert.ReferenceIdeal.Gen Idealize.ShloMosaic Idealize.ShloMosaic.TcCoe

variable (m : (ℓ : Loc nD τ sig) → Buf (Elt Ideal) ℓ) (c : Dev nD)

abbrev X0 : S1792x7168.Idx → EReal := V m c main_v8
abbrev D0 : S1792x2048.Idx → EReal := V m c main_v9
abbrev S0 : S1792x1.Idx → EReal := V m c main_v10
abbrev B0 : S2.Idx → EReal := V m c main_v7

/-- The arrays' entries. -/
def args : Spec.Args where
  x t i := X0 m c (ix2 t i)
  d t j := D0 m c (ix2 t j)
  s t := S0 m c (ix2 t 0)
  w i j := (V m c main_arg3 : S7168x2048.Idx → EReal) (ix2 i j)
  mc i j := (V m c main_arg4 : S7168x2048.Idx → BitVec 8) (ix2 i j)
  ms i b := (V m c main_arg5 : S7168x16.Idx → EReal) (ix2 i b)
  sc i j := (V m c main_arg6 : S7168x2048.Idx → BitVec 8) (ix2 i j)
  ss i b := (V m c main_arg7 : S7168x16.Idx → EReal) (ix2 i b)
  b1 := B0 m c (word 0)
  b2 := B0 m c (word 1)

theorem idx : ∀ t : Fin cfg0.N, win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] ∧ win0_0.index t = ![0] :=
  (by decide +kernel : ∀ t : Fin grid0.N, win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] ∧ win0_0.index t = ![0])

theorem idxOut : ∀ t : Fin cfg0.N, win0_9.index t = ![0, 0] ∧ win0_10.index t = ![0, 0] ∧ win0_11.index t = ![0, 0]
    ∧ win0_12.index t = ![0, 0] ∧ win0_13.index t = ![0, 0] ∧ win0_14.index t = ![0, 0] ∧ win0_15.index t = ![0, 0] ∧ win0_16.index t = ![0, 0] :=
  (by decide +kernel : ∀ t : Fin grid0.N, win0_9.index t = ![0, 0] ∧ win0_10.index t = ![0, 0] ∧ win0_11.index t = ![0, 0]
    ∧ win0_12.index t = ![0, 0] ∧ win0_13.index t = ![0, 0] ∧ win0_14.index t = ![0, 0] ∧ win0_15.index t = ![0, 0] ∧ win0_16.index t = ![0, 0])

variable (t : Fin cfg0.N)

theorem b_blk (k : Fin 2) : bcAt m c t k = B0 m c (word k) := by
  refine congrArg (B0 m c) (funext fun a => Fin.ext ?_)
  fin_cases a
  blk_simp [idx t]
  done
theorem x_blk (r : Fin 1792) (l : Fin 7168) : (iblk m c 1 t : S1792x7168.Idx → EReal) (ix2 r l) = X0 m c (ix2 r l) := by
  blk_ext [iblk, idx t]
theorem d_blk (r : Fin 1792) (l : Fin 2048) : (iblk m c 2 t : S1792x2048.Idx → EReal) (ix2 r l) = D0 m c (ix2 r l) := by
  blk_ext [iblk, idx t]
theorem s_blk (r : Fin 1792) : (iblk m c 3 t : S1792x1.Idx → EReal) (ix2 r 0) = S0 m c (ix2 r 0) := by
  blk_ext [iblk, idx t]
theorem w_blk (r : Fin 7168) (l : Fin 2048) : (iblk m c 4 t : S7168x2048.Idx → EReal) (ix2 r l) = (V m c main_arg3 : S7168x2048.Idx → EReal) (ix2 r l) := by
  blk_ext [iblk, idx t]
theorem mc_blk (r : Fin 7168) (l : Fin 2048) : (iblk m c 5 t : S7168x2048.Idx → BitVec 8) (ix2 r l) = (V m c main_arg4 : S7168x2048.Idx → BitVec 8) (ix2 r l) := by
  blk_ext [iblk, idx t]
theorem ms_blk (r : Fin 7168) (l : Fin 16) : (iblk m c 6 t : S7168x16.Idx → EReal) (ix2 r l) = (V m c main_arg5 : S7168x16.Idx → EReal) (ix2 r l) := by
  blk_ext [iblk, idx t]
theorem sc_blk (r : Fin 7168) (l : Fin 2048) : (iblk m c 7 t : S7168x2048.Idx → BitVec 8) (ix2 r l) = (V m c main_arg6 : S7168x2048.Idx → BitVec 8) (ix2 r l) := by
  blk_ext [iblk, idx t]
theorem ss_blk (r : Fin 7168) (l : Fin 16) : (iblk m c 8 t : S7168x16.Idx → EReal) (ix2 r l) = (V m c main_arg7 : S7168x16.Idx → EReal) (ix2 r l) := by
  blk_ext [iblk, idx t]

theorem ratio_eq (r : Fin 1792) : ratio (iblk m c 1 t) r = (args m c).ratio r := by
  unfold ratio Spec.Args.ratio
  refine congrArg (fun f => Spec.big f * Spec.over448) (funext fun k => x_blk m c t r k)

theorem code_eq (r : Fin 1792) (i : Fin 7168) : (k0_pay8 (F := Ideal) (iblk m c 1 t) (ix2 r i) : EReal) = (args m c).code r i := by
  refine (code_apply (iblk m c 1 t) r i).trans ?_
  rw [ratio_eq, x_blk]; rfl

theorem xscale_eq (r : Fin 1792) : (k0_pay9 (F := Ideal) (iblk m c 1 t) (ix2 0 r) : EReal) = (args m c).xscale r := by
  refine (scales_apply (iblk m c 1 t) r).trans ?_
  rw [ratio_eq]; rfl

theorem grad_eq (i : Fin 7168) (j : Fin 2048) :
    (k0_pay12 (F := Ideal) (k0_pay10 (iblk m c 1 t)) (k0_pay11 (iblk m c 2 t)) (iblk m c 3 t) (ix2 i j) : EReal) = (args m c).grad i j := by
  refine (grad_apply (iblk m c 1 t) (iblk m c 2 t) (iblk m c 3 t) i j).trans ?_
  refine Finset.sum_congr rfl fun r _ => ?_
  rw [ratio_eq, x_blk, d_blk, s_blk]; rfl

theorem m_eq (i : Fin 7168) (j : Fin 2048) : (mArr m c t (ix2 i j) : EReal) = (args m c).mom i j := by
  refine (m_apply _ _ _ _ _ i j).trans ?_
  rw [grad_eq, mc_blk, ms_blk]; rfl

theorem v_eq (i : Fin 7168) (j : Fin 2048) : (vArr m c t (ix2 i j) : EReal) = (args m c).vel i j := by
  refine (v_apply _ _ _ _ _ i j).trans ?_
  rw [grad_eq, sc_blk, ss_blk]; rfl

theorem upd_eq (i : Fin 7168) (j : Fin 2048) :
    (k0_pay17 (vArr m c t) (lArr m c t) (k0_pay16 (bcAt m c t 1)) (ix2 i j) : EReal) = (args m c).upd i j := by
  refine (upd_apply _ _ _ i j).trans ?_
  have e : (lArr m c t (ix2 i j) : EReal) = ((-1 / 1000 : ℝ) : EReal) * Ideal.div ((args m c).mom i j) ((args m c).b1) := by
    refine (step_apply _ _ _ _ _ _ i j).trans ?_
    rw [b_blk]
    exact congrArg (fun z : EReal => ((-1 / 1000 : ℝ) : EReal) * Ideal.div z ((args m c).b1)) (m_eq m c t i j)
  rw [e, v_eq, b_blk]; rfl

theorem wn_eq (i : Fin 7168) (j : Fin 2048) :
    (k0_pay18 (vArr m c t) (lArr m c t) (k0_pay16 (bcAt m c t 1)) (iblk m c 4 t) (ix2 i j) : EReal) = (args m c).wn i j := by
  refine (wn_apply _ _ _ _ i j).trans ?_
  rw [upd_eq, w_blk]; rfl

theorem mscale_eq (i : Fin 7168) (b : Fin 16) : (k0_pay20 (F := Ideal) (mArr m c t) (ix2 i b) : EReal) = (args m c).mscale i b := by
  refine (mscale_apply _ i b).trans ?_
  exact congrArg (fun f => Spec.scale8 (Spec.big f)) (funext fun k => m_eq m c t i (col b k))

theorem mcode_eq (i : Fin 7168) (j : Fin 2048) : k0_pay21 (F := Ideal) (mArr m c t) (ix2 i j) = (args m c).mcode i j := by
  refine (mcode_apply _ i j).trans ?_
  rw [mscale_eq, m_eq]; rfl

theorem sscale_eq (i : Fin 7168) (b : Fin 16) : (k0_pay1 (k0_pay23 (F := Ideal) (vArr m c t)) (ix2 i b) : EReal) = (args m c).sscale i b := by
  refine (sscale_apply _ i b).trans ?_
  exact congrArg (fun f => Spec.scale8 (Spec.big f)) (funext fun k => congrArg Ideal.sqrt (v_eq m c t i (col b k)))

theorem scode_eq (i : Fin 7168) (j : Fin 2048) : k0_pay2 (k0_pay22 (F := Ideal) (vArr m c t)) (k0_pay23 (vArr m c t)) (ix2 i j) = (args m c).scode i j := by
  refine (scode_apply _ i j).trans ?_
  rw [sscale_eq, v_eq]; rfl

/-- Two arrays that agree at every pair of coordinates agree. -/
theorem ext2 {p q : ℕ} {α : Type} {f g : (⟨2, ![p, q]⟩ : Shape).Idx → α} (h : ∀ (i : Fin p) (j : Fin q), f (ix2 i j) = g (ix2 i j))
    (y : (⟨2, ![p, q]⟩ : Shape).Idx) : f y = g y := by
  have e : y = ix2 (n0 := p) (n1 := q) (y 0) (y 1) := by funext a; fin_cases a <;> rfl
  rw [e]; exact h _ _

/-! ## The results -/

theorem out_9 : (dats m 0 c).arrAt 9 cfg0.N = fun j : S7168x2048.Idx => ((args m c).wn (j 0) (j 1) : EReal) := by
  refine (dats m 0 c).arrAt_eq_of_covers 9 _ (by decide +kernel) fun t hf y => ?_
  blk_simp
  rw [after_9]
  have e : (win0_9.blk t).view.emb y = (y : S7168x2048.Idx) := funext fun a => Fin.ext (by fin_cases a <;> blk_simp [idxOut t])
  rw [e]
  exact ext2 (g := fun j : S7168x2048.Idx => ((args m c).wn (j 0) (j 1) : EReal)) (wn_eq m c t) y
theorem out_10 : (dats m 0 c).arrAt 10 cfg0.N = fun j : S7168x2048.Idx => ((args m c).upd (j 0) (j 1) : EReal) := by
  refine (dats m 0 c).arrAt_eq_of_covers 10 _ (by decide +kernel) fun t hf y => ?_
  blk_simp
  rw [after_10]
  have e : (win0_10.blk t).view.emb y = (y : S7168x2048.Idx) := funext fun a => Fin.ext (by fin_cases a <;> blk_simp [idxOut t])
  rw [e]
  exact ext2 (g := fun j : S7168x2048.Idx => ((args m c).upd (j 0) (j 1) : EReal)) (upd_eq m c t) y
theorem out_11 : (dats m 0 c).arrAt 11 cfg0.N = fun j : S1792x7168.Idx => ((args m c).code (j 0) (j 1) : EReal) := by
  refine (dats m 0 c).arrAt_eq_of_covers 11 _ (by decide +kernel) fun t hf y => ?_
  blk_simp
  rw [after_11]
  have e : (win0_11.blk t).view.emb y = (y : S1792x7168.Idx) := funext fun a => Fin.ext (by fin_cases a <;> blk_simp [idxOut t])
  rw [e]
  exact ext2 (g := fun j : S1792x7168.Idx => ((args m c).code (j 0) (j 1) : EReal)) (code_eq m c t) y
theorem out_12 : (dats m 0 c).arrAt 12 cfg0.N = fun j : S1x1792.Idx => ((args m c).xscale (j 1) : EReal) := by
  refine (dats m 0 c).arrAt_eq_of_covers 12 _ (by decide +kernel) fun t hf y => ?_
  blk_simp
  rw [after_12]
  have e : (win0_12.blk t).view.emb y = (y : S1x1792.Idx) := funext fun a => Fin.ext (by fin_cases a <;> blk_simp [idxOut t])
  rw [e]
  exact ext2 (g := fun j : S1x1792.Idx => ((args m c).xscale (j 1) : EReal)) (fun i r => (by obtain rfl : i = 0 := Subsingleton.elim _ _; exact xscale_eq m c t r)) y
theorem out_13 : (dats m 0 c).arrAt 13 cfg0.N = fun j : S7168x2048.Idx => ((args m c).mcode (j 0) (j 1) : BitVec 8) := by
  refine (dats m 0 c).arrAt_eq_of_covers 13 _ (by decide +kernel) fun t hf y => ?_
  blk_simp
  rw [after_13]
  have e : (win0_13.blk t).view.emb y = (y : S7168x2048.Idx) := funext fun a => Fin.ext (by fin_cases a <;> blk_simp [idxOut t])
  rw [e]
  exact ext2 (g := fun j : S7168x2048.Idx => ((args m c).mcode (j 0) (j 1) : BitVec 8)) (mcode_eq m c t) y
theorem out_14 : (dats m 0 c).arrAt 14 cfg0.N = fun j : S16x7168.Idx => ((args m c).mscale (j 1) (j 0) : EReal) := by
  refine (dats m 0 c).arrAt_eq_of_covers 14 _ (by decide +kernel) fun t hf y => ?_
  blk_simp
  rw [after_14]
  have e : (win0_14.blk t).view.emb y = (y : S16x7168.Idx) := funext fun a => Fin.ext (by fin_cases a <;> blk_simp [idxOut t])
  rw [e]
  exact ext2 (g := fun j : S16x7168.Idx => ((args m c).mscale (j 1) (j 0) : EReal)) (fun b i => (mscales_apply _ i b).trans (mscale_eq m c t i b)) y
theorem out_15 : (dats m 0 c).arrAt 15 cfg0.N = fun j : S7168x2048.Idx => ((args m c).scode (j 0) (j 1) : BitVec 8) := by
  refine (dats m 0 c).arrAt_eq_of_covers 15 _ (by decide +kernel) fun t hf y => ?_
  blk_simp
  rw [after_15]
  have e : (win0_15.blk t).view.emb y = (y : S7168x2048.Idx) := funext fun a => Fin.ext (by fin_cases a <;> blk_simp [idxOut t])
  rw [e]
  exact ext2 (g := fun j : S7168x2048.Idx => ((args m c).scode (j 0) (j 1) : BitVec 8)) (scode_eq m c t) y
theorem out_16 : (dats m 0 c).arrAt 16 cfg0.N = fun j : S16x7168.Idx => ((args m c).sscale (j 1) (j 0) : EReal) := by
  refine (dats m 0 c).arrAt_eq_of_covers 16 _ (by decide +kernel) fun t hf y => ?_
  blk_simp
  rw [after_16]
  have e : (win0_16.blk t).view.emb y = (y : S16x7168.Idx) := funext fun a => Fin.ext (by fin_cases a <;> blk_simp [idxOut t])
  rw [e]
  exact ext2 (g := fun j : S16x7168.Idx => ((args m c).sscale (j 1) (j 0) : EReal)) (fun b i => (sscales_apply _ i b).trans (sscale_eq m c t i b)) y

end Cert.ReferenceIdeal.Unit

end
-- ==== Proof.Bias.lean ====
/- The bias corrections of a step count that is at least 1: positive reals. -/
module

public import proofs.«01_k».proof.Proof.Adam

@[expose] public section

noncomputable section

namespace Cert.Spec

open Idealize.ShloMosaic Cert.KernelIdeal.Unit

/-- The first decay rate, as the constant has it. -/
def beta1 : ℝ := 15099494 / 16777216
/-- The second decay rate, as the constant has it. -/
def beta2 : ℝ := 16760439 / 16777216

theorem beta1_eq : (Ideal.ofBits .f32 1063675494#32 : EReal) = ((beta1 : ℝ) : EReal) := by
  simp [Ideal.ofBits, Ideal.ieee, beta1]
  rw [← EReal.coe_mul]; norm_num
theorem beta2_eq : (Ideal.ofBits .f32 1065336439#32 : EReal) = ((beta2 : ℝ) : EReal) := by
  simp [Ideal.ofBits, Ideal.ieee, beta2]
  rw [← EReal.coe_mul]; norm_num

/-- One less the `n`-th power of a rate. -/
def corr (β : ℝ) (n : ℤ) : ℝ := 1 - Real.rpow β (n : ℝ)

theorem corr_pos (β : ℝ) (n : ℤ) (h0 : 0 ≤ β) (h1 : β < 1) (hn : 1 ≤ n) : 0 < corr β n := by
  have hn' : (0 : ℝ) < (n : ℝ) := by exact_mod_cast (by omega : 0 < n)
  have := Real.rpow_lt_one h0 h1 hn'
  unfold corr
  have e : Real.rpow β (n : ℝ) = β ^ (n : ℝ) := rfl
  rw [e]; linarith

theorem corr1_pos (n : ℤ) (hn : 1 ≤ n) : 0 < corr beta1 n := corr_pos _ _ (by unfold beta1; norm_num) (by unfold beta1; norm_num) hn
theorem corr2_pos (n : ℤ) (hn : 1 ≤ n) : 0 < corr beta2 n := corr_pos _ _ (by unfold beta2; norm_num) (by unfold beta2; norm_num) hn

theorem corr_eq (β : ℝ) (n : BitVec 32) :
    ((1 : EReal) - (Ideal.pow (β : EReal) (FloatOps.sitofp (F := Ideal) .f32 n : Ideal .f32) : EReal)) = ((corr β n.toInt : ℝ) : EReal) := by
  show (1 : EReal) - ((Real.rpow β (n.toInt : ℝ) : ℝ) : EReal) = _
  unfold corr
  rw [EReal.coe_sub, EReal.coe_one]

/-- The reciprocal of the root of a reciprocal, and that over a factor, of positive reals. -/
theorem recip_root (b : ℝ) (h : 0 < b) : Ideal.sqrt (Ideal.div 1 (b : EReal)) = ((Real.sqrt (1 / b) : ℝ) : EReal) := by
  rw [div_coe _ _ h.ne', one_mul, sqrt_of_nonneg _ (by positivity), one_div]
theorem coef1 (b : ℝ) (h : 0 < b) : Ideal.div 1 (Ideal.sqrt (Ideal.div 1 (b : EReal))) = ((1 / Real.sqrt (1 / b) : ℝ) : EReal) := by
  have : 0 < Real.sqrt (1 / b) := Real.sqrt_pos.2 (by positivity)
  rw [recip_root b h, div_coe _ _ this.ne', one_mul, one_div (Real.sqrt _)]
theorem coef0 (a b : ℝ) (ha : 0 < a) (h : 0 < b) :
    Ideal.div 1 ((a : EReal) * Ideal.sqrt (Ideal.div 1 (b : EReal))) = ((1 / (a * Real.sqrt (1 / b)) : ℝ) : EReal) := by
  have : 0 < Real.sqrt (1 / b) := Real.sqrt_pos.2 (by positivity)
  rw [recip_root b h, ← EReal.coe_mul, div_coe _ _ (by positivity), one_mul, one_div (a * _)]

end Cert.Spec

end
-- ==== Proof.Host.lean ====
/- What the operations before the kernel leave, entry by entry. -/
module

public import proofs.«01_k».proof.Proof.KerFinal
public import proofs.«01_k».proof.Proof.RefFinal
public import proofs.«01_k».proof.Proof.Bias
public import Idealize.ShloMosaic.Lib.StableHlo.ReadAt

@[expose] public section

set_option maxRecDepth 16384

noncomputable section

open Idealize.ShloMosaic Idealize.ShloMosaic.TcCoe

namespace Cert.KernelIdeal.Unit
open Cert.KernelIdeal Cert.KernelIdeal.Gen
variable (m : (ℓ : Loc nD τ sig) → Buf (Elt Ideal) ℓ) (c : Dev nD)

theorem x_host (t : Fin 1792) (i : Fin 7168) : X0 m c (ix2 t i) = (m ((c : Thread nD τ).loc main_arg0) : S1x1792x7168.Idx → EReal) (ix3 0 t i) := by
  unfold X0 V hostOps0; after_reads_at
theorem d_host (t : Fin 1792) (i : Fin 2048) : D0 m c (ix2 t i) = (m ((c : Thread nD τ).loc main_arg1) : S1x1792x2048.Idx → EReal) (ix3 0 t i) := by
  unfold D0 V hostOps0; after_reads_at
theorem ms_host (b : Fin 16) (i : Fin 7168) : MS0 m c (ix2 b i) = (m ((c : Thread nD τ).loc main_arg5) : S7168x16.Idx → EReal) (ix2 i b) := by
  unfold MS0 V hostOps0; after_reads_at
theorem ss_host (b : Fin 16) (i : Fin 7168) : SS0 m c (ix2 b i) = (m ((c : Thread nD τ).loc main_arg7) : S7168x16.Idx → EReal) (ix2 i b) := by
  unfold SS0 V hostOps0; after_reads_at
theorem s_host (t : Fin 1792) : (S0 m c (ix2 0 t) : EReal) = (m ((c : Thread nD τ).loc main_arg2) : S1x1792.Idx → EReal) (ix2 0 t) :=
  congrFun (f := (V m c main_arg2 : S1x1792.Idx → EReal)) (V_main_arg2 m c) _
theorem w_host (i : Fin 7168) (j : Fin 2048) : (W0 m c (ix2 i j) : EReal) = (m ((c : Thread nD τ).loc main_arg3) : S7168x2048.Idx → EReal) (ix2 i j) :=
  congrFun (f := (V m c main_arg3 : S7168x2048.Idx → EReal)) (V_main_arg3 m c) _
theorem mc_host (i : Fin 7168) (j : Fin 2048) : (MC0 m c (ix2 i j) : BitVec 8) = (m ((c : Thread nD τ).loc main_arg4) : S7168x2048.Idx → BitVec 8) (ix2 i j) :=
  congrFun (f := (V m c main_arg4 : S7168x2048.Idx → BitVec 8)) (V_main_arg4 m c) _
theorem sc_host (i : Fin 7168) (j : Fin 2048) : (SC0 m c (ix2 i j) : BitVec 8) = (m ((c : Thread nD τ).loc main_arg6) : S7168x2048.Idx → BitVec 8) (ix2 i j) :=
  congrFun (f := (V m c main_arg6 : S7168x2048.Idx → BitVec 8)) (V_main_arg6 m c) _

/-- The count of steps. -/
def steps : ℤ := ((m ((c : Thread nD τ).loc main_arg8) : S_.Idx → BitVec 32) ix0).toInt

variable (hn : 1 ≤ steps m c)
include hn

theorem c0_host : C0 m c (ix1 0) = ((1 / (Spec.corr Spec.beta1 (steps m c) * Real.sqrt (1 / Spec.corr Spec.beta2 (steps m c))) : ℝ) : EReal) := by
  refine Eq.trans ?_ (Spec.coef0 _ _ (Spec.corr1_pos _ hn) (Spec.corr2_pos _ hn))
  unfold steps
  rw [← Spec.corr_eq, ← Spec.corr_eq, ← Spec.beta1_eq, ← Spec.beta2_eq]
  unfold C0 V hostOps0; after_reads_at
theorem c1_host : C0 m c (ix1 1) = ((1 / Real.sqrt (1 / Spec.corr Spec.beta2 (steps m c)) : ℝ) : EReal) := by
  refine Eq.trans ?_ (Spec.coef1 _ (Spec.corr2_pos _ hn))
  unfold steps
  rw [← Spec.corr_eq, ← Spec.beta2_eq]
  unfold C0 V hostOps0; after_reads_at
end Cert.KernelIdeal.Unit

namespace Cert.ReferenceIdeal.Unit
open Cert.ReferenceIdeal Cert.ReferenceIdeal.Gen
variable (m : (ℓ : Loc nD τ sig) → Buf (Elt Ideal) ℓ) (c : Dev nD)

theorem x_host (t : Fin 1792) (i : Fin 7168) : X0 m c (ix2 t i) = (m ((c : Thread nD τ).loc main_arg0) : S1x1792x7168.Idx → EReal) (ix3 0 t i) := by
  unfold X0 V hostOps0; after_reads_at
theorem d_host (t : Fin 1792) (i : Fin 2048) : D0 m c (ix2 t i) = (m ((c : Thread nD τ).loc main_arg1) : S1x1792x2048.Idx → EReal) (ix3 0 t i) := by
  unfold D0 V hostOps0; after_reads_at
theorem s_host (t : Fin 1792) : S0 m c (ix2 t 0) = (m ((c : Thread nD τ).loc main_arg2) : S1x1792.Idx → EReal) (ix2 0 t) := by
  unfold S0 V hostOps0; after_reads_at
theorem w_host (i : Fin 7168) (j : Fin 2048) : ((V m c main_arg3 : S7168x2048.Idx → EReal) (ix2 i j) : EReal) = (m ((c : Thread nD τ).loc main_arg3) : S7168x2048.Idx → EReal) (ix2 i j) :=
  congrFun (f := (V m c main_arg3 : S7168x2048.Idx → EReal)) (V_main_arg3 m c) _
theorem mc_host (i : Fin 7168) (j : Fin 2048) : ((V m c main_arg4 : S7168x2048.Idx → BitVec 8) (ix2 i j) : BitVec 8) = (m ((c : Thread nD τ).loc main_arg4) : S7168x2048.Idx → BitVec 8) (ix2 i j) :=
  congrFun (f := (V m c main_arg4 : S7168x2048.Idx → BitVec 8)) (V_main_arg4 m c) _
theorem ms_host (i : Fin 7168) (b : Fin 16) : ((V m c main_arg5 : S7168x16.Idx → EReal) (ix2 i b) : EReal) = (m ((c : Thread nD τ).loc main_arg5) : S7168x16.Idx → EReal) (ix2 i b) :=
  congrFun (f := (V m c main_arg5 : S7168x16.Idx → EReal)) (V_main_arg5 m c) _
theorem sc_host (i : Fin 7168) (j : Fin 2048) : ((V m c main_arg6 : S7168x2048.Idx → BitVec 8) (ix2 i j) : BitVec 8) = (m ((c : Thread nD τ).loc main_arg6) : S7168x2048.Idx → BitVec 8) (ix2 i j) :=
  congrFun (f := (V m c main_arg6 : S7168x2048.Idx → BitVec 8)) (V_main_arg6 m c) _
theorem ss_host (i : Fin 7168) (b : Fin 16) : ((V m c main_arg7 : S7168x16.Idx → EReal) (ix2 i b) : EReal) = (m ((c : Thread nD τ).loc main_arg7) : S7168x16.Idx → EReal) (ix2 i b) :=
  congrFun (f := (V m c main_arg7 : S7168x16.Idx → EReal)) (V_main_arg7 m c) _

/-- The count of steps. -/
def steps : ℤ := ((m ((c : Thread nD τ).loc main_arg8) : S_.Idx → BitVec 32) ix0).toInt

theorem word_eq (k : Fin 2) : (word k : S2.Idx) = ix1 k := by
  funext a; fin_cases a; rfl
theorem b0_host : B0 m c (ix1 0) = ((Spec.corr Spec.beta1 (steps m c) : ℝ) : EReal) := by
  unfold steps
  rw [← Spec.corr_eq, ← Spec.beta1_eq]
  unfold B0 V hostOps0; after_reads_at
theorem b1_host : B0 m c (ix1 1) = ((Spec.corr Spec.beta2 (steps m c) : ℝ) : EReal) := by
  unfold steps
  rw [← Spec.corr_eq, ← Spec.beta2_eq]
  unfold B0 V hostOps0; after_reads_at
end Cert.ReferenceIdeal.Unit

end
-- ==== Proof.KerFrame.lean ====
/- The kernel's run at the end: the arguments as they were, and every semaphore counter at zero. -/
module

public import proofs.«01_k».proof.Proof.KerFinal

@[expose] public section

set_option maxRecDepth 16384

noncomputable section

namespace Cert.KernelIdeal.Unit

open Idealize.ShloMosaic Idealize.ShloMosaic.TcCoe
open Idealize.SL.Sem
open Cert.KernelIdeal Cert.KernelIdeal.Gen

variable (m : (ℓ : Loc nD τ sig) → Buf (Elt Ideal) ℓ) (ρ : Dev nD → PrngReg)

/-- What a run that ends as the call says leaves of the arguments: each as it was. -/
theorem kept {r} (h : Pipeline.RDat.FramePost (cfgs 0) (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    (Pipeline.RDat.FramePost.arr_in h c 3 rfl).trans ((rdat_A m c 3).trans (V_main_arg2 m c)),
    (Pipeline.RDat.FramePost.arr_in h c 4 rfl).trans ((rdat_A m c 4).trans (V_main_arg3 m c)),
    (Pipeline.RDat.FramePost.arr_in h c 5 rfl).trans ((rdat_A m c 5).trans (V_main_arg4 m c)),
    ((h c).2 main_arg5 (Pipeline.mem_restRefs_of main_arg5 (by decide) (by decide))).trans (V_main_arg5 m c),
    (Pipeline.RDat.FramePost.arr_in h c 7 rfl).trans ((rdat_A m c 7).trans (V_main_arg6 m c)),
    ((h c).2 main_arg7 (Pipeline.mem_restRefs_of main_arg7 (by decide) (by decide))).trans (V_main_arg7 m c),
    ((h c).2 main_arg8 (Pipeline.mem_restRefs_of main_arg8 (by decide) (by decide))).trans (V_main_arg8 m c)⟩

/-- The kernel's idealization runs to its end, leaves its arguments as they were and every semaphore counter at zero. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨kept m h.1, h.2⟩) (run_main m ρ)

/-- It leaves in the eight results the weights, the update, the tokens' codes and scales, and the moments' codes and scales. -/
theorem run_values (b1 b2 : Dev nD → ℝ) (G : ∀ c, Good m c (b1 c) (b2 c)) :
    θ_run (defs (F := Ideal)) (onTc (τ := τ) (main (F := Ideal))) ⟨m, fun _ => 0, ρ⟩ (fun r => ∀ c : Dev nD,
      r.2.mem ((c.tc : Thread nD τ).loc main_v17_0) = (fun j : S7168x2048.Idx => ((args m c (b1 c) (b2 c)).wn (j 0) (j 1) : EReal))
      ∧ r.2.mem ((c.tc : Thread nD τ).loc main_v17_1) = (fun j : S7168x2048.Idx => ((args m c (b1 c) (b2 c)).upd (j 0) (j 1) : EReal))
      ∧ r.2.mem ((c.tc : Thread nD τ).loc main_v17_2) = (fun j : S1792x7168.Idx => ((args m c (b1 c) (b2 c)).code (j 0) (j 1) : EReal))
      ∧ r.2.mem ((c.tc : Thread nD τ).loc main_v17_3) = (fun j : S1x1792.Idx => ((args m c (b1 c) (b2 c)).xscale (j 1) : EReal))
      ∧ r.2.mem ((c.tc : Thread nD τ).loc main_v17_4) = (fun j : S7168x2048.Idx => ((args m c (b1 c) (b2 c)).mcode (j 0) (j 1) : BitVec 8))
      ∧ r.2.mem ((c.tc : Thread nD τ).loc main_v17_5) = (fun j : S16x7168.Idx => ((args m c (b1 c) (b2 c)).mscale (j 1) (j 0) : EReal))
      ∧ r.2.mem ((c.tc : Thread nD τ).loc main_v17_6) = (fun j : S7168x2048.Idx => ((args m c (b1 c) (b2 c)).scode (j 0) (j 1) : BitVec 8))
      ∧ r.2.mem ((c.tc : Thread nD τ).loc main_v17_7) = (fun j : S16x7168.Idx => ((args m c (b1 c) (b2 c)).sscale (j 1) (j 0) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => by
    obtain ⟨after, hL, hA⟩ := Pipeline.RDat.FramePost.exists_exact h.1 c
    exact ⟨(hA 9).trans (out_9 (G c) after (hL 9)), (hA 10).trans (out_10 (G c) after (hL 10)), (hA 11).trans (out_11 (G c) after (hL 11)),
      (hA 12).trans (out_12 (G c) after (hL 12)), (hA 13).trans (out_13 (G c) after (hL 13)), (hA 14).trans (out_14 (G c) after (hL 14)),
      (hA 15).trans (out_15 (G c) after (hL 15)), (hA 16).trans (out_16 (G c) after (hL 16)), kept m h.1 c⟩) (run_main m ρ)

end Cert.KernelIdeal.Unit

end
-- ==== Proof.Given.lean ====
/- What the precondition says: the step count is at least 1, and each entry of the tokens has a magnitude of at most the largest bfloat16. -/
module

public import proofs.«01_k».proof.Proof.Host
public import proofs.«01_k».proof.Proof.KerFrame
public import proofs.«01_k».proof.Defs
public import Idealize.ShloMosaic.Lib.ReduceAll

@[expose] public section

set_option maxRecDepth 16384

noncomputable section

namespace Cert.KernelIdeal.Unit

open Idealize.ShloMosaic Idealize.ShloMosaic.TcCoe
open Cert.KernelIdeal Cert.KernelIdeal.Gen

instance : Subsingleton (Cert.Pre_pre.S_.Idx) := ⟨fun a b => funext fun k => k.elim0⟩

/-- The largest finite bfloat16. -/
def top16 : ℝ := 16711680 * 2 ^ 104

theorem top16_eq : (Ideal.ofBits .f32 0x7F7F0000#32 : EReal) = ((top16 : ℝ) : EReal) := by
  simp [Ideal.ofBits, Ideal.ieee, top16]

/-- A comparison of a magnitude that came out 1. -/
theorem le_of_cmp (x y : EReal) (h : Ideal.cmp .ole (max x (-x)) y = 1#1) : max x (-x) ≤ y := by
  have hb : BitVec.ofBool (decide (max x (-x) ≤ y)) = 1#1 := h
  by_contra hc
  rw [decide_eq_false hc] at hb
  exact absurd hb (by decide)

variable [Cert.Pre_pre.Facts] (m : (ℓ : Loc nD τ sig) → Buf (Elt Ideal) ℓ) (c : Dev nD)

/-- The two parts of the precondition at a device. -/
theorem given (h : Cert.Pre_KernelIdeal_pre m) :
    1 ≤ steps m c ∧ ∀ (T : Fin 1792) (l : Fin 7168), max (X0 m c (ix2 T l)) (-(X0 m c (ix2 T l))) ≤ ((top16 : ℝ) : EReal) := by
  have e := congrFun (h c) ix0
  obtain ⟨e1, e2⟩ := IntOp.andi_eq_one.1 e
  refine ⟨?_, fun T l => ?_⟩
  · have := IntOp.cmpi_sge.1 e1
    unfold steps
    exact this
  · have := Host.reduce_andi_all _ _ _ _ _ e2 (ix3 0 T l)
    rw [x_host, ← top16_eq]
    exact le_of_cmp _ _ this

/-- The reciprocal of 448, as the constant has it: positive, and small enough that no token's ratio passes 2 ^ 126. -/
theorem over448_eq : ∃ r : ℝ, Spec.over448 = (r : EReal) ∧ 0 < r ∧ r * top16 < 2 ^ 126 := by
  refine ⟨9586981 / 2 ^ 32, ?_, by norm_num, by unfold top16; norm_num⟩
  unfold Spec.over448
  simp [Ideal.ofBits, Ideal.ieee]
  try norm_num
  try (rw [← EReal.coe_mul]; norm_num)

/-- So every token's ratio lies where its scale is a normal power of two or 1. -/
theorem sized (h : Cert.Pre_KernelIdeal_pre m) : Sized m c := fun T => by
  obtain ⟨r, e, hr, hlt⟩ := over448_eq
  have h0 : (0 : EReal) ≤ Spec.big fun l => X0 m c (ix2 T l) := big_nonneg _
  have h1 : (Spec.big fun l => X0 m c (ix2 T l)) ≤ ((top16 : ℝ) : EReal) := Finset.sup_le fun l _ => (given m c h).2 T l
  unfold ratioX
  rw [e]
  refine ⟨mul_nonneg h0 (by exact_mod_cast hr.le), ?_⟩
  refine lt_of_le_of_lt (mul_le_mul_of_nonneg_right h1 (by exact_mod_cast hr.le)) ?_
  have ht : thr 253 = (((2 : ℝ) ^ 126 : ℝ) : EReal) := by unfold thr; norm_num
  rw [ht, ← EReal.coe_mul, mul_comm]
  exact_mod_cast hlt

/-- The first moment's bias correction at the step count. -/
def bc1 : ℝ := Spec.corr Spec.beta1 (steps m c)
/-- The second moment's. -/
def bc2 : ℝ := Spec.corr Spec.beta2 (steps m c)

/-- Under the precondition the run is about what `Good` asks. -/
theorem good (h : Cert.Pre_KernelIdeal_pre m) : Good m c (bc1 m c) (bc2 m c) where
  sized := sized m c h
  h1 := Spec.corr1_pos _ (given m c h).1
  h2 := Spec.corr2_pos _ (given m c h).1
  c0 := (congrArg (C0 m c) (funext fun a => by fin_cases a; rfl)).trans (c0_host m c (given m c h).1)
  c1 := (congrArg (C0 m c) (funext fun a => by fin_cases a; rfl)).trans (c1_host m c (given m c h).1)

end Cert.KernelIdeal.Unit

end
-- ==== Proof.Same.lean ====
/- The kernel and the reference, from the same arguments, end with the same eight results. -/
module

public import proofs.«01_k».proof.Proof.Given

@[expose] public section

set_option maxRecDepth 16384

noncomputable section

open Idealize.ShloMosaic Idealize.ShloMosaic.TcCoe
open Idealize.SL.Sem

namespace Cert.Spec

/-- Arguments with the same entries are the same. -/
theorem Args.same {A B : Args} (hx : ∀ t i, A.x t i = B.x t i) (hd : ∀ t j, A.d t j = B.d t j) (hs : ∀ t, A.s t = B.s t)
    (hw : ∀ i j, A.w i j = B.w i j) (hmc : ∀ i j, A.mc i j = B.mc i j) (hms : ∀ i b, A.ms i b = B.ms i b)
    (hsc : ∀ i j, A.sc i j = B.sc i j) (hss : ∀ i b, A.ss i b = B.ss i b) (h1 : A.b1 = B.b1) (h2 : A.b2 = B.b2) : A = B := by
  cases A; cases B
  simp only [Args.mk.injEq]
  exact ⟨funext fun _ => funext fun _ => hx _ _, funext fun _ => funext fun _ => hd _ _, funext fun _ => hs _, funext fun _ => funext fun _ => hw _ _,
    funext fun _ => funext fun _ => hmc _ _, funext fun _ => funext fun _ => hms _ _, funext fun _ => funext fun _ => hsc _ _,
    funext fun _ => funext fun _ => hss _ _, h1, h2⟩

end Cert.Spec

namespace Cert.Same

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two programs start from the same arguments at a device. -/
def Agree (c : Dev Cert.KernelIdeal.nD) : Prop :=
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)

open Cert.KernelIdeal.Unit (bc1 bc2)

set_option maxHeartbeats 2000000 in
/-- Then the entries that the two programs work on are the same. -/
theorem args_eq (c : Dev Cert.KernelIdeal.nD) (h : Agree m m' c) :
    Cert.ReferenceIdeal.Unit.args m' c = Cert.KernelIdeal.Unit.args m c (bc1 m c) (bc2 m c) := by
  obtain ⟨h0, h1, h2, h3, h4, h5, h6, h7, h8⟩ := h
  have hn : Cert.ReferenceIdeal.Unit.steps m' c = Cert.KernelIdeal.Unit.steps m c := congrArg BitVec.toInt (congrFun h8 ix0)
  refine Spec.Args.same (fun t i => ?_) (fun t j => ?_) (fun t => ?_) (fun i j => ?_) (fun i j => ?_) (fun i b => ?_) (fun i j => ?_) (fun i b => ?_) ?_ ?_
  · exact (Cert.ReferenceIdeal.Unit.x_host m' c t i).trans ((congrFun h0 _).trans (Cert.KernelIdeal.Unit.x_host m c t i).symm)
  · exact (Cert.ReferenceIdeal.Unit.d_host m' c t j).trans ((congrFun h1 _).trans (Cert.KernelIdeal.Unit.d_host m c t j).symm)
  · exact (Cert.ReferenceIdeal.Unit.s_host m' c t).trans ((congrFun h2 _).trans (Cert.KernelIdeal.Unit.s_host m c t).symm)
  · exact (Cert.ReferenceIdeal.Unit.w_host m' c i j).trans ((congrFun h3 _).trans (Cert.KernelIdeal.Unit.w_host m c i j).symm)
  · exact (Cert.ReferenceIdeal.Unit.mc_host m' c i j).trans ((congrFun h4 _).trans (Cert.KernelIdeal.Unit.mc_host m c i j).symm)
  · exact (Cert.ReferenceIdeal.Unit.ms_host m' c i b).trans ((congrFun h5 _).trans (Cert.KernelIdeal.Unit.ms_host m c b i).symm)
  · exact (Cert.ReferenceIdeal.Unit.sc_host m' c i j).trans ((congrFun h6 _).trans (Cert.KernelIdeal.Unit.sc_host m c i j).symm)
  · exact (Cert.ReferenceIdeal.Unit.ss_host m' c i b).trans ((congrFun h7 _).trans (Cert.KernelIdeal.Unit.ss_host m c b i).symm)
  · exact (congrArg (Cert.ReferenceIdeal.Unit.B0 m' c) (Cert.ReferenceIdeal.Unit.word_eq 0)).trans
      ((Cert.ReferenceIdeal.Unit.b0_host m' c).trans (congrArg (fun n => ((Spec.corr Spec.beta1 n : ℝ) : EReal)) hn))
  · exact (congrArg (Cert.ReferenceIdeal.Unit.B0 m' c) (Cert.ReferenceIdeal.Unit.word_eq 1)).trans
      ((Cert.ReferenceIdeal.Unit.b1_host m' c).trans (congrArg (fun n => ((Spec.corr Spec.beta2 n : ℝ) : EReal)) hn))

/-- The entries that the kernel works on. -/
abbrev A (c : Dev Cert.KernelIdeal.nD) : Spec.Args := Cert.KernelIdeal.Unit.args m c (bc1 m c) (bc2 m c)

variable [Cert.Pre_pre.Facts]

/-- From arguments that meet the precondition, the kernel and the reference end with the same eight results and leave their arguments as
    they were. -/
theorem algebraic : Cert.algebraic_KernelIdeal_ReferenceIdeal_pre_pre := by
  intro m g m' g' hP hA
  have hB : ∀ c, Cert.ReferenceIdeal.Unit.args m' c = A m c := fun c => args_eq m m' c (hA c)
  refine ⟨fun c j => (A m c).wn (j 0) (j 1), fun c j => (A m c).upd (j 0) (j 1), fun c j => (A m c).code (j 0) (j 1), fun c j => (A m c).xscale (j 1),
    fun c j => (A m c).mcode (j 0) (j 1), fun c j => (A m c).mscale (j 1) (j 0), fun c j => (A m c).scode (j 0) (j 1), fun c j => (A m c).sscale (j 1) (j 0),
    Cert.KernelIdeal.Unit.run_values m g (bc1 m) (bc2 m) (fun c => Cert.KernelIdeal.Unit.good m c hP), ?_⟩
  refine (θ_run Cert.ReferenceIdeal.defs _ _).mono (fun r h c => ?_) (Cert.ReferenceIdeal.Value.run_blocks (F := Ideal) m' g')
  obtain ⟨r0, r1, r2, r3, r4, r5, r6, r7, k⟩ := h c
  have hc := hB c
  refine ⟨r0.trans ((Cert.ReferenceIdeal.Unit.out_9 m' c).trans ?_), r1.trans ((Cert.ReferenceIdeal.Unit.out_10 m' c).trans ?_),
    r2.trans ((Cert.ReferenceIdeal.Unit.out_11 m' c).trans ?_), r3.trans ((Cert.ReferenceIdeal.Unit.out_12 m' c).trans ?_),
    r4.trans ((Cert.ReferenceIdeal.Unit.out_13 m' c).trans ?_), r5.trans ((Cert.ReferenceIdeal.Unit.out_14 m' c).trans ?_),
    r6.trans ((Cert.ReferenceIdeal.Unit.out_15 m' c).trans ?_), r7.trans ((Cert.ReferenceIdeal.Unit.out_16 m' c).trans ?_), k⟩ <;> rw [hc] <;> rfl

end Cert.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_pre
public import proofs.«01_k».proof.Proof.FrameKernel
public import proofs.«01_k».proof.Proof.Same
public import Idealize.ShloMosaic.Adequacy
public import Idealize.ShloMosaic.Init

@[expose] public section

noncomputable section

namespace Cert.Proof

open Idealize.ShloMosaic Idealize.SL.Sem Cert.Kernel

/-- The idealization's six named constants are the printed ones by their names. -/
theorem preserves : Cert.preserves_Kernel_KernelIdeal :=
  ⟨IdealRules.named_const.statement Cert.KernelIdeal.κ "lr_unit" .f32 0xBB4F3E37#32 (((-1 / 10000) * (Real.sqrt (1 / 1000))⁻¹ : ℝ) : EReal) rfl,
    IdealRules.named_const.statement Cert.KernelIdeal.κ "eps_unit" .f32 0x34A9C603#32 (((1 / 100000000) * (Real.sqrt (1 / 1000))⁻¹ : ℝ) : EReal) rfl,
    IdealRules.named_const.statement Cert.KernelIdeal.κ "m_gain" .f32 0x41100000#32 ((9 : ℝ) : EReal) rfl,
    IdealRules.named_const.statement Cert.KernelIdeal.κ "s_gain" .f32 0x41FCDB0F#32 ((Real.sqrt 999 : ℝ) : EReal) rfl,
    IdealRules.named_const.statement Cert.KernelIdeal.κ "m_unit" .f32 0x3DCCCCCD#32 ((1 / 10 : ℝ) : EReal) rfl,
    IdealRules.named_const.statement Cert.KernelIdeal.κ "s_unit" .f32 0x3D0186E2#32 ((Real.sqrt (1 / 1000) : ℝ) : EReal) rfl⟩

/-- The compiled kernel, its idealization and the reference's each run to the end with their arguments unchanged and every semaphore counter
    at zero; the idealization differs from the kernel by the named constants alone; and under the precondition the two idealizations leave
    the same eight results. -/
theorem claim : Cert.Claim := ⟨Cert.Kernel.Gen.facts, Cert.KernelIdeal.Gen.facts, Cert.ReferenceIdeal.Gen.facts, Cert.Pre_pre.Gen.facts,
  fun m ρ _ => Cert.Kernel.Unit.frame m ρ, fun m ρ _ => Cert.KernelIdeal.Unit.frame m ρ, fun m ρ _ => Cert.KernelIdeal.Unit.frame m ρ,
  fun m ρ _ => Cert.ReferenceIdeal.Gen.frame m ρ, fun m ρ _ => Cert.ReferenceIdeal.Gen.frame m ρ, preserves,
  Cert.Same.algebraic⟩

end Cert.Proof

end
